-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojRefIdeal (m : (ℓ : Loc Cert.OprojRefIdeal.nD Cert.OprojRefIdeal.τ Cert.OprojRefIdeal.sig) → Buf (Elt Ideal) ℓ) : Prop :=
  True

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4)
      ∧ r.2.mem ((c.tc : Thread Cert.OprojRefIdeal.nD Cert.OprojRefIdeal.τ).loc Cert.OprojRefIdeal.main_arg5) = m ((c.tc : Thread Cert.OprojRefIdeal.nD Cert.OprojRefIdeal.τ).loc Cert.OprojRefIdeal.main_arg5))
      ∧ r.2.sem = fun _ => 0)

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)) →
    ∃ (v0 : (c : Dev Cert.UpIdeal.nD) → Buf (Elt Ideal) ((c.tc : Thread Cert.UpIdeal.nD Cert.UpIdeal.τ).loc Cert.UpIdeal.main_v1_0)) (v1 : (c : Dev Cert.UpIdeal.nD) → Buf (Elt Ideal) ((c.tc : Thread Cert.UpIdeal.nD Cert.UpIdeal.τ).loc Cert.UpIdeal.main_v1_1)) (v2 : (c : Dev Cert.UpIdeal.nD) → Buf (Elt Ideal) ((c.tc : Thread Cert.UpIdeal.nD Cert.UpIdeal.τ).loc Cert.UpIdeal.main_v1_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v1_0) = v0 c
          ∧ r.2.mem ((c.tc : Thread Cert.UpIdeal.nD Cert.UpIdeal.τ).loc Cert.UpIdeal.main_v1_1) = v1 c
          ∧ r.2.mem ((c.tc : Thread Cert.UpIdeal.nD Cert.UpIdeal.τ).loc Cert.UpIdeal.main_v1_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v0_0) = v0 c
          ∧ r.2.mem ((c.tc : Thread Cert.UpRefIdeal.nD Cert.UpRefIdeal.τ).loc Cert.UpRefIdeal.main_v0_1) = v1 c
          ∧ r.2.mem ((c.tc : Thread Cert.UpRefIdeal.nD Cert.UpRefIdeal.τ).loc Cert.UpRefIdeal.main_v0_2) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_Oproj_OprojIdeal : Prop :=
  True

def algebraic_OprojIdeal_OprojRefIdeal [hOprojIdeal : Cert.OprojIdeal.Facts] [hOprojRefIdeal : Cert.OprojRefIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)
      ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4)
      ∧ m' ((c.tc : Thread Cert.OprojRefIdeal.nD Cert.OprojRefIdeal.τ).loc Cert.OprojRefIdeal.main_arg5) = m ((c.tc : Thread Cert.OprojIdeal.nD Cert.OprojIdeal.τ).loc Cert.OprojIdeal.main_arg5)) →
    ∃ (v0 : (c : Dev Cert.OprojIdeal.nD) → Buf (Elt Ideal) ((c.tc : Thread Cert.OprojIdeal.nD Cert.OprojIdeal.τ).loc Cert.OprojIdeal.main_v1_0)) (v1 : (c : Dev Cert.OprojIdeal.nD) → Buf (Elt Ideal) ((c.tc : Thread Cert.OprojIdeal.nD Cert.OprojIdeal.τ).loc Cert.OprojIdeal.main_v1_1)) (v2 : (c : Dev Cert.OprojIdeal.nD) → Buf (Elt Ideal) ((c.tc : Thread Cert.OprojIdeal.nD Cert.OprojIdeal.τ).loc Cert.OprojIdeal.main_v1_2)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v1_0) = v0 c
          ∧ r.2.mem ((c.tc : Thread Cert.OprojIdeal.nD Cert.OprojIdeal.τ).loc Cert.OprojIdeal.main_v1_1) = v1 c
          ∧ r.2.mem ((c.tc : Thread Cert.OprojIdeal.nD Cert.OprojIdeal.τ).loc Cert.OprojIdeal.main_v1_2) = v2 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
          ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v0_0) = v0 c
          ∧ r.2.mem ((c.tc : Thread Cert.OprojRefIdeal.nD Cert.OprojRefIdeal.τ).loc Cert.OprojRefIdeal.main_v0_1) = v1 c
          ∧ r.2.mem ((c.tc : Thread Cert.OprojRefIdeal.nD Cert.OprojRefIdeal.τ).loc Cert.OprojRefIdeal.main_v0_2) = v2 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3)
          ∧ r.2.mem ((c.tc : Thread Cert.OprojRefIdeal.nD Cert.OprojRefIdeal.τ).loc Cert.OprojRefIdeal.main_arg4) = m' ((c.tc : Thread Cert.OprojRefIdeal.nD Cert.OprojRefIdeal.τ).loc Cert.OprojRefIdeal.main_arg4)
          ∧ r.2.mem ((c.tc : Thread Cert.OprojRefIdeal.nD Cert.OprojRefIdeal.τ).loc Cert.OprojRefIdeal.main_arg5) = m' ((c.tc : Thread Cert.OprojRefIdeal.nD Cert.OprojRefIdeal.τ).loc Cert.OprojRefIdeal.main_arg5))

def Claim : Prop :=
  ∃ (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts) (hOproj : Cert.Oproj.Facts) (hOprojIdeal : Cert.OprojIdeal.Facts) (hOprojRefIdeal : Cert.OprojRefIdeal.Facts),
    quiescent_Down (hDown := hDown)
    ∧ quiescent_DownIdeal (hDownIdeal := hDownIdeal)
    ∧ quiescent_DownRefIdeal (hDownRefIdeal := hDownRefIdeal)
    ∧ quiescent_Up (hUp := hUp)
    ∧ quiescent_UpIdeal (hUpIdeal := hUpIdeal)
    ∧ quiescent_UpRefIdeal (hUpRefIdeal := hUpRefIdeal)
    ∧ quiescent_Oproj (hOproj := hOproj)
    ∧ quiescent_OprojIdeal (hOprojIdeal := hOprojIdeal)
    ∧ quiescent_OprojRefIdeal (hOprojRefIdeal := hOprojRefIdeal)
    ∧ preserves_Down_DownIdeal
    ∧ algebraic_DownIdeal_DownRefIdeal (hDownIdeal := hDownIdeal) (hDownRefIdeal := hDownRefIdeal)
    ∧ preserves_Up_UpIdeal
    ∧ algebraic_UpIdeal_UpRefIdeal (hUpIdeal := hUpIdeal) (hUpRefIdeal := hUpRefIdeal)
    ∧ preserves_Oproj_OprojIdeal
    ∧ algebraic_OprojIdeal_OprojRefIdeal (hOprojIdeal := hOprojIdeal) (hOprojRefIdeal := hOprojRefIdeal)
-- ==== Down.lean ====
abbrev S6144x18944 : Shape := ⟨2, ![6144, 18944]⟩
abbrev S6144x1 : Shape := ⟨2, ![6144, 1]⟩
abbrev S4736x3584 : Shape := ⟨2, ![4736, 3584]⟩
abbrev S6144x3584 : Shape := ⟨2, ![6144, 3584]⟩
abbrev S1 : Shape := ⟨1, ![1]⟩
abbrev S6144x128 : Shape := ⟨2, ![6144, 128]⟩
abbrev S512x18944 : Shape := ⟨2, ![512, 18944]⟩
abbrev S512x128 : Shape := ⟨2, ![512, 128]⟩
abbrev S4736x512 : Shape := ⟨2, ![4736, 512]⟩
abbrev S512x512 : Shape := ⟨2, ![512, 512]⟩
abbrev S18944x512 : Shape := ⟨2, ![18944, 512]⟩
abbrev S128x512 : Shape := ⟨2, ![128, 512]⟩
abbrev S32x512 : Shape := ⟨2, ![32, 512]⟩
abbrev S512x256 : Shape := ⟨2, ![512, 256]⟩
abbrev S256x512 : Shape := ⟨2, ![256, 512]⟩

abbrev nBuf : Space → Nat
  | .hbm => 7
  | .vmem => 11
  | .smem => 1
  | _ => 0

abbrev bufTy : (tb : Table) → Fin (tcTables nBuf tb) → BufTy
  | .hbm, ⟨0, _⟩ => ⟨S6144x18944, .i8⟩
  | .hbm, ⟨1, _⟩ => ⟨S6144x1, .f32⟩
  | .hbm, ⟨2, _⟩ => ⟨S4736x3584, .i8⟩
  | .hbm, ⟨3, _⟩ => ⟨S6144x3584, .f32⟩
  | .hbm, ⟨4, _⟩ => ⟨S1, .f32⟩
  | .hbm, ⟨5, _⟩ => ⟨S6144x128, .f32⟩
  | .hbm, ⟨6, _⟩ => ⟨S6144x3584, .bf16⟩
  | .local _ .vmem, ⟨0, _⟩ => ⟨S512x18944, .i8⟩
  | .local _ .vmem, ⟨1, _⟩ => ⟨S512x18944, .i8⟩
  | .local _ .vmem, ⟨2, _⟩ => ⟨S512x128, .f32⟩
  | .local _ .vmem, ⟨3, _⟩ => ⟨S512x128, .f32⟩
  | .local _ .vmem, ⟨4, _⟩ => ⟨S4736x512, .i8⟩
  | .local _ .vmem, ⟨5, _⟩ => ⟨S4736x512, .i8⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S18944x512, .bf16⟩
  | .local _ .smem, ⟨0, _⟩ => ⟨S1, .f32⟩
  | _, _ => ⟨S6144x18944, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![7, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x18944 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4736x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== DownRefIdeal.lean ====
abbrev S6144x18944 : Shape := ⟨2, ![6144, 18944]⟩
abbrev S6144x1 : Shape := ⟨2, ![6144, 1]⟩
abbrev S4736x3584 : Shape := ⟨2, ![4736, 3584]⟩
abbrev S6144x3584 : Shape := ⟨2, ![6144, 3584]⟩
abbrev S1 : Shape := ⟨1, ![1]⟩
abbrev S6144x4736 : Shape := ⟨2, ![6144, 4736]⟩

abbrev nBuf : Space → Nat
  | .hbm => 6
  | .vmem => 5
  | .smem => 1
  | _ => 0

abbrev bufTy : (tb : Table) → Fin (tcTables nBuf tb) → BufTy
  | .hbm, ⟨0, _⟩ => ⟨S6144x18944, .i8⟩
  | .hbm, ⟨1, _⟩ => ⟨S6144x1, .f32⟩
  | .hbm, ⟨2, _⟩ => ⟨S4736x3584, .i8⟩
  | .hbm, ⟨3, _⟩ => ⟨S6144x3584, .f32⟩
  | .hbm, ⟨4, _⟩ => ⟨S1, .f32⟩
  | .hbm, ⟨5, _⟩ => ⟨S6144x3584, .bf16⟩
  | .local _ .vmem, ⟨0, _⟩ => ⟨S6144x18944, .i8⟩
  | .local _ .vmem, ⟨1, _⟩ => ⟨S6144x1, .f32⟩
  | .local _ .vmem, ⟨2, _⟩ => ⟨S4736x3584, .i8⟩
  | .local _ .vmem, ⟨3, _⟩ => ⟨S6144x3584, .f32⟩
  | .local _ .vmem, ⟨4, _⟩ => ⟨S6144x3584, .bf16⟩
  | .local _ .smem, ⟨0, _⟩ => ⟨S1, .f32⟩
  | _, _ => ⟨S6144x18944, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg5_0 : Ref sig .tc := ⟨.vmem, 4, rfl⟩
abbrev cc0_stg4_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6144x18944 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4736x3584 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Up.lean ====
abbrev S6144x3584 : Shape := ⟨2, ![6144, 3584]⟩
abbrev S6144x1 : Shape := ⟨2, ![6144, 1]⟩
abbrev S896x18944 : Shape := ⟨2, ![896, 18944]⟩
abbrev S1x18944 : Shape := ⟨2, ![1, 18944]⟩
abbrev S1 : Shape := ⟨1, ![1]⟩
abbrev S6144x128 : Shape := ⟨2, ![6144, 128]⟩
abbrev S6144x18944 : Shape := ⟨2, ![6144, 18944]⟩
abbrev S512x3584 : Shape := ⟨2, ![512, 3584]⟩
abbrev S512x128 : Shape := ⟨2, ![512, 128]⟩
abbrev S896x512 : Shape := ⟨2, ![896, 512]⟩
abbrev S1x512 : Shape := ⟨2, ![1, 512]⟩
abbrev S512x512 : Shape := ⟨2, ![512, 512]⟩
abbrev S37x512x512 : Shape := ⟨3, ![37, 512, 512]⟩
abbrev S128x512 : Shape := ⟨2, ![128, 512]⟩
abbrev S32x512 : Shape := ⟨2, ![32, 512]⟩
abbrev S1x512x128 : Shape := ⟨3, ![1, 512, 128]⟩
abbrev S1x128 : Shape := ⟨2, ![1, 128]⟩
abbrev S512 : Shape := ⟨1, ![512]⟩
abbrev S512x1 : Shape := ⟨2, ![512, 1]⟩

abbrev nBuf : Space → Nat
  | .hbm => 9
  | .vmem => 22
  | .smem => 1
  | _ => 0

abbrev bufTy : (tb : Table) → Fin (tcTables nBuf tb) → BufTy
  | .hbm, ⟨0, _⟩ => ⟨S6144x3584, .i8⟩
  | .hbm, ⟨1, _⟩ => ⟨S6144x1, .f32⟩
  | .hbm, ⟨2, _⟩ => ⟨S896x18944, .i8⟩
  | .hbm, ⟨3, _⟩ => ⟨S1x18944, .f32⟩
  | .hbm, ⟨4, _⟩ => ⟨S1, .f32⟩
  | .hbm, ⟨5, _⟩ => ⟨S6144x128, .f32⟩
  | .hbm, ⟨6, _⟩ => ⟨S6144x18944, .i8⟩
  | .hbm, ⟨7, _⟩ => ⟨S6144x128, .f32⟩
  | .hbm, ⟨8, _⟩ => ⟨S6144x128, .f32⟩
  | .local _ .vmem, ⟨0, _⟩ => ⟨S512x3584, .i8⟩
  | .local _ .vmem, ⟨1, _⟩ => ⟨S512x3584, .i8⟩
  | .local _ .vmem, ⟨2, _⟩ => ⟨S512x128, .f32⟩
  | .local _ .vmem, ⟨3, _⟩ => ⟨S512x128, .f32⟩
  | .local _ .vmem, ⟨4, _⟩ => ⟨S896x512, .i8⟩
  | .local _ .vmem, ⟨5, _⟩ => ⟨S896x512, .i8⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x512, .i8⟩
  | .local _ .vmem, ⟨11, _⟩ => ⟨S512x512, .i8⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x3584, .bf16⟩
  | .local _ .vmem, ⟨17, _⟩ => ⟨S37x512x512, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .smem, ⟨0, _⟩ => ⟨S1, .f32⟩
  | _, _ => ⟨S6144x3584, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![13, 37], ![false, false]⟩

def k0_cond2 (i : grid0.Coords) : BitVec 1 :=
  let arg0 : BitVec 32 := BitVec.ofNat 32 (i 0).val
  let c0_i32_1 : BitVec 32 := 0#32
  let v5 : BitVec 1 := Scalar.cmpi .eq arg0 c0_i32_1
  let v6 : BitVec 32 := Scalar.extui v5
  let c0_i32_2 : BitVec 32 := 0#32
  let v7 : BitVec 1 := Scalar.cmpi .ne v6 c0_i32_2
  v7

def k0_off1 (i : grid0.Coords) : Fin 3 → Nat :=
  let arg1 : BitVec 32 := BitVec.ofNat 32 (i 1).val
  let v332 : Index := Scalar.indexCast arg1
  let c0_150 : Index := 0#32
  let c0_151 : Index := 0#32
  ![v332.toNat, 0, 0]
def k0_off2 (i : grid0.Coords) : Fin 3 → Nat :=
  let arg1 : BitVec 32 := BitVec.ofNat 32 (i 1).val
  let v351 : Index := Scalar.indexCast arg1
  let c0_156 : Index := 0#32
  let c128_157 : Index := 128#32
  ![v351.toNat, 0, 128]
def k0_off3 (i : grid0.Coords) : Fin 3 → Nat :=
  let arg1 : BitVec 32 := BitVec.ofNat 32 (i 1).val
  let v370 : Index := Scalar.indexCast arg1
  let c0_162 : Index := 0#32
  let c256_163 : Index := 256#32
  ![v370.toNat, 0, 256]
def k0_off4 (i : grid0.Coords) : Fin 3 → Nat :=
  let arg1 : BitVec 32 := BitVec.ofNat 32 (i 1).val
  let v389 : Index := Scalar.indexCast arg1
  let c0_168 : Index := 0#32
  let c384_169 : Index := 384#32
  ![v389.toNat, 0, 384]
def k0_cond3 (i : grid0.Coords) : BitVec 1 :=
  let arg0 : BitVec 32 := BitVec.ofNat 32 (i 0).val
  let c0_i32_3 : BitVec 32 := 0#32
  let v8 : BitVec 1 := Scalar.cmpi .sgt arg0 c0_i32_3
  let c12_i32_4 : BitVec 32 := 12#32
  let v9 : BitVec 1 := Scalar.cmpi .slt arg0 c12_i32_4
  let v10 : BitVec 1 := Scalar.andi v8 v9
  let v11 : BitVec 32 := Scalar.extui v10
  let c0_i32_5 : BitVec 32 := 0#32
  let v12 : BitVec 1 := Scalar.cmpi .ne v11 c0_i32_5
  v12

def k0_off5 (i : grid0.Coords) : Fin 3 → Nat :=
  let arg1 : BitVec 32 := BitVec.ofNat 32 (i 1).val
  let v23 : Index := Scalar.indexCast arg1
  let c0_13 : Index := 0#32
  let c0_14 : Index := 0#32
  ![v23.toNat, 0, 0]
def k0_off6 (i : grid0.Coords) : Fin 3 → Nat :=
  let arg1 : BitVec 32 := BitVec.ofNat 32 (i 1).val
  let v38 : Index := Scalar.indexCast arg1
  let c0_20 : Index := 0#32
  let c128 : Index := 128#32
  ![v38.toNat, 0, 128]
def k0_off7 (i : grid0.Coords) : Fin 3 → Nat :=
  let arg1 : BitVec 32 := BitVec.ofNat 32 (i 1).val
  let v53 : Index := Scalar.indexCast arg1
  let c0_27 : Index := 0#32
  let c256 : Index := 256#32
  ![v53.toNat, 0, 256]
def k0_off8 (i : grid0.Coords) : Fin 3 → Nat :=
  let arg1 : BitVec 32 := BitVec.ofNat 32 (i 1).val
  let v68 : Index := Scalar.indexCast arg1
  let c0_34 : Index := 0#32
  let c384 : Index := 384#32
  ![v68.toNat, 0, 384]
def k0_cond4 (i : grid0.Coords) : BitVec 1 :=
  let arg0 : BitVec 32 := BitVec.ofNat 32 (i 0).val
  let c12_i32_6 : BitVec 32 := 12#32
  let v13 : BitVec 1 := Scalar.cmpi .eq arg0 c12_i32_6
  let v14 : BitVec 32 := Scalar.extui v13
  let c0_i32_7 : BitVec 32 := 0#32
  let v15 : BitVec 1 := Scalar.cmpi .ne v14 c0_i32_7
  v15

def k0_off9 (i : grid0.Coords) : Fin 3 → Nat :=
  let arg1 : BitVec 32 := BitVec.ofNat 32 (i 1).val
  let v23 : Index := Scalar.indexCast arg1
  let c0_13 : Index := 0#32
  let c0_14 : Index := 0#32
  ![v23.toNat, 0, 0]
def k0_off10 (i : grid0.Coords) : Fin 3 → Nat :=
  let arg1 : BitVec 32 := BitVec.ofNat 32 (i 1).val
  let v38 : Index := Scalar.indexCast arg1
  let c0_20 : Index := 0#32
  let c128 : Index := 128#32
  ![v38.toNat, 0, 128]
def k0_off11 (i : grid0.Coords) : Fin 3 → Nat :=
  let arg1 : BitVec 32 := BitVec.ofNat 32 (i 1).val
  let v53 : Index := Scalar.indexCast arg1
  let c0_27 : Index := 0#32
  let c256 : Index := 256#32
  ![v53.toNat, 0, 256]
def k0_off12 (i : grid0.Coords) : Fin 3 → Nat :=
  let arg1 : BitVec 32 := BitVec.ofNat 32 (i 1).val
  let v68 : Index := Scalar.indexCast arg1
  let c0_34 : Index := 0#32
  let c384 : Index := 384#32
  ![v68.toNat, 0, 384]
def k0_cond5 (i : grid0.Coords) : BitVec 1 :=
  let arg1 : BitVec 32 := BitVec.ofNat 32 (i 1).val
  let c36_i32 : BitVec 32 := 36#32
  let v16 : BitVec 1 := Scalar.cmpi .eq arg1 c36_i32
  let arg0 : BitVec 32 := BitVec.ofNat 32 (i 0).val
  let c12_i32_8 : BitVec 32 := 12#32
  let v17 : BitVec 1 := Scalar.cmpi .slt arg0 c12_i32_8
  let v18 : BitVec 1 := Scalar.andi v16 v17
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.minsi arg0 c11_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.minsi arg0 c11_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 1 := Scalar.cmpi .sgt arg0 c11_i32
  let c36_i32 : BitVec 32 := 36#32
  let v1 : BitVec 32 := Scalar.select v0 c36_i32 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.minsi arg0 c11_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.minsi arg0 c11_i32
  let c0_i32 : BitVec 32 := 0#32
  let c0_i32_0 : BitVec 32 := 0#32
  ![v0.toNat, c0_i32.toNat]

abbrev stage0_0 : Fin 2 → Memref sig .tc .vmem S512x3584 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S896x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== UpRefIdeal.lean ====
abbrev S6144x3584 : Shape := ⟨2, ![6144, 3584]⟩
abbrev S6144x1 : Shape := ⟨2, ![6144, 1]⟩
abbrev S896x18944 : Shape := ⟨2, ![896, 18944]⟩
abbrev S1x18944 : Shape := ⟨2, ![1, 18944]⟩
abbrev S1 : Shape := ⟨1, ![1]⟩
abbrev S6144x18944 : Shape := ⟨2, ![6144, 18944]⟩
abbrev S6144x128 : Shape := ⟨2, ![6144, 128]⟩
abbrev S6144x896 : Shape := ⟨2, ![6144, 896]⟩
abbrev S6144 : Shape := ⟨1, ![6144]⟩

abbrev nBuf : Space → Nat
  | .hbm => 8
  | .vmem => 7
  | .smem => 1
  | _ => 0

abbrev bufTy : (tb : Table) → Fin (tcTables nBuf tb) → BufTy
  | .hbm, ⟨0, _⟩ => ⟨S6144x3584, .i8⟩
  | .hbm, ⟨1, _⟩ => ⟨S6144x1, .f32⟩
  | .hbm, ⟨2, _⟩ => ⟨S896x18944, .i8⟩
  | .hbm, ⟨3, _⟩ => ⟨S1x18944, .f32⟩
  | .hbm, ⟨4, _⟩ => ⟨S1, .f32⟩
  | .hbm, ⟨5, _⟩ => ⟨S6144x18944, .i8⟩
  | .hbm, ⟨6, _⟩ => ⟨S6144x128, .f32⟩
  | .hbm, ⟨7, _⟩ => ⟨S6144x128, .f32⟩
  | .local _ .vmem, ⟨0, _⟩ => ⟨S6144x3584, .i8⟩
  | .local _ .vmem, ⟨1, _⟩ => ⟨S6144x1, .f32⟩
  | .local _ .vmem, ⟨2, _⟩ => ⟨S896x18944, .i8⟩
  | .local _ .vmem, ⟨3, _⟩ => ⟨S1x18944, .f32⟩
  | .local _ .vmem, ⟨4, _⟩ => ⟨S6144x18944, .i8⟩
  | .local _ .vmem, ⟨5, _⟩ => ⟨S6144x128, .f32⟩
  | .local _ .vmem, ⟨6, _⟩ => ⟨S6144x128, .f32⟩
  | .local _ .smem, ⟨0, _⟩ => ⟨S1, .f32⟩
  | _, _ => ⟨S6144x3584, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg4_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S6144x3584 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S896x18944 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x18944 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x18944 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Oproj.lean ====
abbrev S6144x3584 : Shape := ⟨2, ![6144, 3584]⟩
abbrev S6144x1 : Shape := ⟨2, ![6144, 1]⟩
abbrev S896x3584 : Shape := ⟨2, ![896, 3584]⟩
abbrev S1x3584 : Shape := ⟨2, ![1, 3584]⟩
abbrev S1 : Shape := ⟨1, ![1]⟩
abbrev S6144x128 : Shape := ⟨2, ![6144, 128]⟩
abbrev S256x3584 : Shape := ⟨2, ![256, 3584]⟩
abbrev S256x128 : Shape := ⟨2, ![256, 128]⟩
abbrev S3584x3584 : Shape := ⟨2, ![3584, 3584]⟩
abbrev S2x256x3584 : Shape := ⟨3, ![2, 256, 3584]⟩
abbrev S128x3584 : Shape := ⟨2, ![128, 3584]⟩
abbrev S32x3584 : Shape := ⟨2, ![32, 3584]⟩
abbrev S3584x512 : Shape := ⟨2, ![3584, 512]⟩
abbrev S256x512 : Shape := ⟨2, ![256, 512]⟩
abbrev S1x256x128 : Shape := ⟨3, ![1, 256, 128]⟩
abbrev S1x32x3584 : Shape := ⟨3, ![1, 32, 3584]⟩
abbrev S32 : Shape := ⟨1, ![32]⟩
abbrev S32x1 : Shape := ⟨2, ![32, 1]⟩
abbrev S32x128 : Shape := ⟨2, ![32, 128]⟩

abbrev nBuf : Space → Nat
  | .hbm => 10
  | .vmem => 16
  | .smem => 1
  | _ => 0

abbrev bufTy : (tb : Table) → Fin (tcTables nBuf tb) → BufTy
  | .hbm, ⟨0, _⟩ => ⟨S6144x3584, .i8⟩
  | .hbm, ⟨1, _⟩ => ⟨S6144x1, .f32⟩
  | .hbm, ⟨2, _⟩ => ⟨S896x3584, .i8⟩
  | .hbm, ⟨3, _⟩ => ⟨S6144x3584, .bf16⟩
  | .hbm, ⟨4, _⟩ => ⟨S1x3584, .f32⟩
  | .hbm, ⟨5, _⟩ => ⟨S1, .f32⟩
  | .hbm, ⟨6, _⟩ => ⟨S6144x128, .f32⟩
  | .hbm, ⟨7, _⟩ => ⟨S6144x3584, .f32⟩
  | .hbm, ⟨8, _⟩ => ⟨S6144x3584, .i8⟩
  | .hbm, ⟨9, _⟩ => ⟨S6144x128, .f32⟩
  | .local _ .vmem, ⟨0, _⟩ => ⟨S256x3584, .i8⟩
  | .local _ .vmem, ⟨1, _⟩ => ⟨S256x3584, .i8⟩
  | .local _ .vmem, ⟨2, _⟩ => ⟨S256x128, .f32⟩
  | .local _ .vmem, ⟨3, _⟩ => ⟨S256x128, .f32⟩
  | .local _ .vmem, ⟨4, _⟩ => ⟨S896x3584, .i8⟩
  | .local _ .vmem, ⟨5, _⟩ => ⟨S256x3584, .bf16⟩
  | .local _ .vmem, ⟨6, _⟩ => ⟨S256x3584, .bf16⟩
  | .local _ .vmem, ⟨7, _⟩ => ⟨S1x3584, .f32⟩
  | .local _ .vmem, ⟨8, _⟩ => ⟨S256x3584, .f32⟩
  | .local _ .vmem, ⟨9, _⟩ => ⟨S256x3584, .f32⟩
  | .local _ .vmem, ⟨10, _⟩ => ⟨S256x3584, .i8⟩
  | .local _ .vmem, ⟨11, _⟩ => ⟨S256x3584, .i8⟩
  | .local _ .vmem, ⟨12, _⟩ => ⟨S256x128, .f32⟩
  | .local _ .vmem, ⟨13, _⟩ => ⟨S256x128, .f32⟩
  | .local _ .vmem, ⟨14, _⟩ => ⟨S3584x3584, .bf16⟩
  | .local _ .vmem, ⟨15, _⟩ => ⟨S2x256x3584, .f32⟩
  | .local _ .smem, ⟨0, _⟩ => ⟨S1, .f32⟩
  | _, _ => ⟨S6144x3584, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c24_i32 : BitVec 32 := 24#32
  let v4 : BitVec 1 := Scalar.cmpi .slt arg0 c24_i32
  let v5 : BitVec 1 := Scalar.andi v3 v4
  let v6 : BitVec 32 := Scalar.extui v5
  let c0_i32_2 : BitVec 32 := 0#32
  let v7 : BitVec 1 := Scalar.cmpi .ne v6 c0_i32_2
  v7

def k0_off1 (i : grid0.Coords) : Fin 3 → Nat :=
  let arg0 : BitVec 32 := BitVec.ofNat 32 (i 0).val
  let c1_i32 : BitVec 32 := 1#32
  let v11 : BitVec 32 := Scalar.subi arg0 c1_i32
  let c2_i32 : BitVec 32 := 2#32
  let c0_i32_5 : BitVec 32 := 0#32
  let v12 : BitVec 1 := Scalar.cmpi .eq c2_i32 c0_i32_5
  let c1_i32_6 : BitVec 32 := 1#32
  let v13 : BitVec 32 := Scalar.select v12 c1_i32_6 c2_i32
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v22 : Index := Scalar.indexCast v21
  let c0 : Index := 0#32
  let c0_10 : Index := 0#32
  ![v22.toNat, 0, 0]
def k0_off2 (i : grid0.Coords) : Fin 3 → Nat :=
  let arg0 : BitVec 32 := BitVec.ofNat 32 (i 0).val
  let c1_i32 : BitVec 32 := 1#32
  let v11 : BitVec 32 := Scalar.subi arg0 c1_i32
  let c2_i32 : BitVec 32 := 2#32
  let c0_i32_5 : BitVec 32 := 0#32
  let v12 : BitVec 1 := Scalar.cmpi .eq c2_i32 c0_i32_5
  let c1_i32_6 : BitVec 32 := 1#32
  let v13 : BitVec 32 := Scalar.select v12 c1_i32_6 c2_i32
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v59 : Index := Scalar.indexCast v21
  let c32 : Index := 32#32
  let c0_25 : Index := 0#32
  ![v59.toNat, 32, 0]
def k0_off3 (i : grid0.Coords) : Fin 3 → Nat :=
  let arg0 : BitVec 32 := BitVec.ofNat 32 (i 0).val
  let c1_i32 : BitVec 32 := 1#32
  let v11 : BitVec 32 := Scalar.subi arg0 c1_i32
  let c2_i32 : BitVec 32 := 2#32
  let c0_i32_5 : BitVec 32 := 0#32
  let v12 : BitVec 1 := Scalar.cmpi .eq c2_i32 c0_i32_5
  let c1_i32_6 : BitVec 32 := 1#32
  let v13 : BitVec 32 := Scalar.select v12 c1_i32_6 c2_i32
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v96 : Index := Scalar.indexCast v21
  let c64 : Index := 64#32
  let c0_41 : Index := 0#32
  ![v96.toNat, 64, 0]
def k0_off4 (i : grid0.Coords) : Fin 3 → Nat :=
  let arg0 : BitVec 32 := BitVec.ofNat 32 (i 0).val
  let c1_i32 : BitVec 32 := 1#32
  let v11 : BitVec 32 := Scalar.subi arg0 c1_i32
  let c2_i32 : BitVec 32 := 2#32
  let c0_i32_5 : BitVec 32 := 0#32
  let v12 : BitVec 1 := Scalar.cmpi .eq c2_i32 c0_i32_5
  let c1_i32_6 : BitVec 32 := 1#32
  let v13 : BitVec 32 := Scalar.select v12 c1_i32_6 c2_i32
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v133 : Index := Scalar.indexCast v21
  let c96 : Index := 96#32
  let c0_57 : Index := 0#32
  ![v133.toNat, 96, 0]
def k0_off5 (i : grid0.Coords) : Fin 3 → Nat :=
  let arg0 : BitVec 32 := BitVec.ofNat 32 (i 0).val
  let c1_i32 : BitVec 32 := 1#32
  let v11 : BitVec 32 := Scalar.subi arg0 c1_i32
  let c2_i32 : BitVec 32 := 2#32
  let c0_i32_5 : BitVec 32 := 0#32
  let v12 : BitVec 1 := Scalar.cmpi .eq c2_i32 c0_i32_5
  let c1_i32_6 : BitVec 32 := 1#32
  let v13 : BitVec 32 := Scalar.select v12 c1_i32_6 c2_i32
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v170 : Index := Scalar.indexCast v21
  let c128 : Index := 128#32
  let c0_73 : Index := 0#32
  ![v170.toNat, 128, 0]
def k0_off6 (i : grid0.Coords) : Fin 3 → Nat :=
  let arg0 : BitVec 32 := BitVec.ofNat 32 (i 0).val
  let c1_i32 : BitVec 32 := 1#32
  let v11 : BitVec 32 := Scalar.subi arg0 c1_i32
  let c2_i32 : BitVec 32 := 2#32
  let c0_i32_5 : BitVec 32 := 0#32
  let v12 : BitVec 1 := Scalar.cmpi .eq c2_i32 c0_i32_5
  let c1_i32_6 : BitVec 32 := 1#32
  let v13 : BitVec 32 := Scalar.select v12 c1_i32_6 c2_i32
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v207 : Index := Scalar.indexCast v21
  let c160 : Index := 160#32
  let c0_89 : Index := 0#32
  ![v207.toNat, 160, 0]
def k0_off7 (i : grid0.Coords) : Fin 3 → Nat :=
  let arg0 : BitVec 32 := BitVec.ofNat 32 (i 0).val
  let c1_i32 : BitVec 32 := 1#32
  let v11 : BitVec 32 := Scalar.subi arg0 c1_i32
  let c2_i32 : BitVec 32 := 2#32
  let c0_i32_5 : BitVec 32 := 0#32
  let v12 : BitVec 1 := Scalar.cmpi .eq c2_i32 c0_i32_5
  let c1_i32_6 : BitVec 32 := 1#32
  let v13 : BitVec 32 := Scalar.select v12 c1_i32_6 c2_i32
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v244 : Index := Scalar.indexCast v21
  let c192 : Index := 192#32
  let c0_105 : Index := 0#32
  ![v244.toNat, 192, 0]
def k0_off8 (i : grid0.Coords) : Fin 3 → Nat :=
  let arg0 : BitVec 32 := BitVec.ofNat 32 (i 0).val
  let c1_i32 : BitVec 32 := 1#32
  let v11 : BitVec 32 := Scalar.subi arg0 c1_i32
  let c2_i32 : BitVec 32 := 2#32
  let c0_i32_5 : BitVec 32 := 0#32
  let v12 : BitVec 1 := Scalar.cmpi .eq c2_i32 c0_i32_5
  let c1_i32_6 : BitVec 32 := 1#32
  let v13 : BitVec 32 := Scalar.select v12 c1_i32_6 c2_i32
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v281 : Index := Scalar.indexCast v21
  let c224 : Index := 224#32
  let c0_121 : Index := 0#32
  ![v281.toNat, 224, 0]
def k0_off9 (i : grid0.Coords) : Fin 3 → Nat :=
  let arg0 : BitVec 32 := BitVec.ofNat 32 (i 0).val
  let c2_i32_137 : BitVec 32 := 2#32
  let c0_i32_138 : BitVec 32 := 0#32
  let v318 : BitVec 1 := Scalar.cmpi .eq c2_i32_137 c0_i32_138
  let c1_i32_139 : BitVec 32 := 1#32
  let v319 : BitVec 32 := Scalar.select v318 c1_i32_139 c2_i32_137
  let v320 : BitVec 32 := Scalar.remsi arg0 v319
  let c0_i32_141 : BitVec 32 := 0#32
  let v322 : BitVec 1 := Scalar.cmpi .slt v320 c0_i32_141
  let c0_i32_142 : BitVec 32 := 0#32
  let v323 : BitVec 1 := Scalar.cmpi .slt v319 c0_i32_142
  let v324 : BitVec 1 := Scalar.xori v322 v323
  let c0_i32_140 : BitVec 32 := 0#32
  let v321 : BitVec 1 := Scalar.cmpi .ne v320 c0_i32_140
  let v325 : BitVec 1 := Scalar.andi v324 v321
  let v326 : BitVec 32 := Scalar.addi v320 v319
  let v327 : BitVec 32 := Scalar.select v325 v326 v320
  let v342 : Index := Scalar.indexCast v327
  let c0_153 : Index := 0#32
  let c0_154 : Index := 0#32
  ![v342.toNat, 0, 0]
def k0_off10 (i : grid0.Coords) : Fin 3 → Nat :=
  let arg0 : BitVec 32 := BitVec.ofNat 32 (i 0).val
  let c2_i32_137 : BitVec 32 := 2#32
  let c0_i32_138 : BitVec 32 := 0#32
  let v318 : BitVec 1 := Scalar.cmpi .eq c2_i32_137 c0_i32_138
  let c1_i32_139 : BitVec 32 := 1#32
  let v319 : BitVec 32 := Scalar.select v318 c1_i32_139 c2_i32_137
  let v320 : BitVec 32 := Scalar.remsi arg0 v319
  let c0_i32_141 : BitVec 32 := 0#32
  let v322 : BitVec 1 := Scalar.cmpi .slt v320 c0_i32_141
  let c0_i32_142 : BitVec 32 := 0#32
  let v323 : BitVec 1 := Scalar.cmpi .slt v319 c0_i32_142
  let v324 : BitVec 1 := Scalar.xori v322 v323
  let c0_i32_140 : BitVec 32 := 0#32
  let v321 : BitVec 1 := Scalar.cmpi .ne v320 c0_i32_140
  let v325 : BitVec 1 := Scalar.andi v324 v321
  let v326 : BitVec 32 := Scalar.addi v320 v319
  let v327 : BitVec 32 := Scalar.select v325 v326 v320
  let v355 : Index := Scalar.indexCast v327
  let c0_160 : Index := 0#32
  let c128_161 : Index := 128#32
  ![v355.toNat, 0, 128]
def k0_off11 (i : grid0.Coords) : Fin 3 → Nat :=
  let arg0 : BitVec 32 := BitVec.ofNat 32 (i 0).val
  let c2_i32_137 : BitVec 32 := 2#32
  let c0_i32_138 : BitVec 32 := 0#32
  let v318 : BitVec 1 := Scalar.cmpi .eq c2_i32_137 c0_i32_138
  let c1_i32_139 : BitVec 32 := 1#32
  let v319 : BitVec 32 := Scalar.select v318 c1_i32_139 c2_i32_137
  let v320 : BitVec 32 := Scalar.remsi arg0 v319
  let c0_i32_141 : BitVec 32 := 0#32
  let v322 : BitVec 1 := Scalar.cmpi .slt v320 c0_i32_141
  let c0_i32_142 : BitVec 32 := 0#32
  let v323 : BitVec 1 := Scalar.cmpi .slt v319 c0_i32_142
  let v324 : BitVec 1 := Scalar.xori v322 v323
  let c0_i32_140 : BitVec 32 := 0#32
  let v321 : BitVec 1 := Scalar.cmpi .ne v320 c0_i32_140
  let v325 : BitVec 1 := Scalar.andi v324 v321
  let v326 : BitVec 32 := Scalar.addi v320 v319
  let v327 : BitVec 32 := Scalar.select v325 v326 v320
  let v368 : Index := Scalar.indexCast v327
  let c0_166 : Index := 0#32
  let c256_167 : Index := 256#32
  ![v368.toNat, 0, 256]
def k0_off12 (i : grid0.Coords) : Fin 3 → Nat :=
  let arg0 : BitVec 32 := BitVec.ofNat 32 (i 0).val
  let c2_i32_137 : BitVec 32 := 2#32
  let c0_i32_138 : BitVec 32 := 0#32
  let v318 : BitVec 1 := Scalar.cmpi .eq c2_i32_137 c0_i32_138
  let c1_i32_139 : BitVec 32 := 1#32
  let v319 : BitVec 32 := Scalar.select v318 c1_i32_139 c2_i32_137
  let v320 : BitVec 32 := Scalar.remsi arg0 v319
  let c0_i32_141 : BitVec 32 := 0#32
  let v322 : BitVec 1 := Scalar.cmpi .slt v320 c0_i32_141
  let c0_i32_142 : BitVec 32 := 0#32
  let v323 : BitVec 1 := Scalar.cmpi .slt v319 c0_i32_142
  let v324 : BitVec 1 := Scalar.xori v322 v323
  let c0_i32_140 : BitVec 32 := 0#32
  let v321 : BitVec 1 := Scalar.cmpi .ne v320 c0_i32_140
  let v325 : BitVec 1 := Scalar.andi v324 v321
  let v326 : BitVec 32 := Scalar.addi v320 v319
  let v327 : BitVec 32 := Scalar.select v325 v326 v320
  let v381 : Index := Scalar.indexCast v327
  let c0_172 : Index := 0#32
  let c384_173 : Index := 384#32
  ![v381.toNat, 0, 384]
def k0_off13 (i : grid0.Coords) : Fin 3 → Nat :=
  let arg0 : BitVec 32 := BitVec.ofNat 32 (i 0).val
  let c2_i32_137 : BitVec 32 := 2#32
  let c0_i32_138 : BitVec 32 := 0#32
  let v318 : BitVec 1 := Scalar.cmpi .eq c2_i32_137 c0_i32_138
  let c1_i32_139 : BitVec 32 := 1#32
  let v319 : BitVec 32 := Scalar.select v318 c1_i32_139 c2_i32_137
  let v320 : BitVec 32 := Scalar.remsi arg0 v319
  let c0_i32_141 : BitVec 32 := 0#32
  let v322 : BitVec 1 := Scalar.cmpi .slt v320 c0_i32_141
  let c0_i32_142 : BitVec 32 := 0#32
  let v323 : BitVec 1 := Scalar.cmpi .slt v319 c0_i32_142
  let v324 : BitVec 1 := Scalar.xori v322 v323
  let c0_i32_140 : BitVec 32 := 0#32
  let v321 : BitVec 1 := Scalar.cmpi .ne v320 c0_i32_140
  let v325 : BitVec 1 := Scalar.andi v324 v321
  let v326 : BitVec 32 := Scalar.addi v320 v319
  let v327 : BitVec 32 := Scalar.select v325 v326 v320
  let v396 : Index := Scalar.indexCast v327
  let c0_181 : Index := 0#32
  let c512_182 : Index := 512#32
  ![v396.toNat, 0, 512]
def k0_off14 (i : grid0.Coords) : Fin 3 → Nat :=
  let arg0 : BitVec 32 := BitVec.ofNat 32 (i 0).val
  let c2_i32_137 : BitVec 32 := 2#32
  let c0_i32_138 : BitVec 32 := 0#32
  let v318 : BitVec 1 := Scalar.cmpi .eq c2_i32_137 c0_i32_138
  let c1_i32_139 : BitVec 32 := 1#32
  let v319 : BitVec 32 := Scalar.select v318 c1_i32_139 c2_i32_137
  let v320 : BitVec 32 := Scalar.remsi arg0 v319
  let c0_i32_141 : BitVec 32 := 0#32
  let v322 : BitVec 1 := Scalar.cmpi .slt v320 c0_i32_141
  let c0_i32_142 : BitVec 32 := 0#32
  let v323 : BitVec 1 := Scalar.cmpi .slt v319 c0_i32_142
  let v324 : BitVec 1 := Scalar.xori v322 v323
  let c0_i32_140 : BitVec 32 := 0#32
  let v321 : BitVec 1 := Scalar.cmpi .ne v320 c0_i32_140
  let v325 : BitVec 1 := Scalar.andi v324 v321
  let v326 : BitVec 32 := Scalar.addi v320 v319
  let v327 : BitVec 32 := Scalar.select v325 v326 v320
  let v409 : Index := Scalar.indexCast v327
  let c0_187 : Index := 0#32
  let c640_188 : Index := 640#32
  ![v409.toNat, 0, 640]
def k0_off15 (i : grid0.Coords) : Fin 3 → Nat :=
  let arg0 : BitVec 32 := BitVec.ofNat 32 (i 0).val
  let c2_i32_137 : BitVec 32 := 2#32
  let c0_i32_138 : BitVec 32 := 0#32
  let v318 : BitVec 1 := Scalar.cmpi .eq c2_i32_137 c0_i32_138
  let c1_i32_139 : BitVec 32 := 1#32
  let v319 : BitVec 32 := Scalar.select v318 c1_i32_139 c2_i32_137
  let v320 : BitVec 32 := Scalar.remsi arg0 v319
  let c0_i32_141 : BitVec 32 := 0#32
  let v322 : BitVec 1 := Scalar.cmpi .slt v320 c0_i32_141
  let c0_i32_142 : BitVec 32 := 0#32
  let v323 : BitVec 1 := Scalar.cmpi .slt v319 c0_i32_142
  let v324 : BitVec 1 := Scalar.xori v322 v323
  let c0_i32_140 : BitVec 32 := 0#32
  let v321 : BitVec 1 := Scalar.cmpi .ne v320 c0_i32_140
  let v325 : BitVec 1 := Scalar.andi v324 v321
  let v326 : BitVec 32 := Scalar.addi v320 v319
  let v327 : BitVec 32 := Scalar.select v325 v326 v320
  let v422 : Index := Scalar.indexCast v327
  let c0_193 : Index := 0#32
  let c768_194 : Index := 768#32
  ![v422.toNat, 0, 768]
def k0_off16 (i : grid0.Coords) : Fin 3 → Nat :=
  let arg0 : BitVec 32 := BitVec.ofNat 32 (i 0).val
  let c2_i32_137 : BitVec 32 := 2#32
  let c0_i32_138 : BitVec 32 := 0#32
  let v318 : BitVec 1 := Scalar.cmpi .eq c2_i32_137 c0_i32_138
  let c1_i32_139 : BitVec 32 := 1#32
  let v319 : BitVec 32 := Scalar.select v318 c1_i32_139 c2_i32_137
  let v320 : BitVec 32 := Scalar.remsi arg0 v319
  let c0_i32_141 : BitVec 32 := 0#32
  let v322 : BitVec 1 := Scalar.cmpi .slt v320 c0_i32_141
  let c0_i32_142 : BitVec 32 := 0#32
  let v323 : BitVec 1 := Scalar.cmpi .slt v319 c0_i32_142
  let v324 : BitVec 1 := Scalar.xori v322 v323
  let c0_i32_140 : BitVec 32 := 0#32
  let v321 : BitVec 1 := Scalar.cmpi .ne v320 c0_i32_140
  let v325 : BitVec 1 := Scalar.andi v324 v321
  let v326 : BitVec 32 := Scalar.addi v320 v319
  let v327 : BitVec 32 := Scalar.select v325 v326 v320
  let v435 : Index := Scalar.indexCast v327
  let c0_199 : Index := 0#32
  let c896_200 : Index := 896#32
  ![v435.toNat, 0, 896]
def k0_off17 (i : grid0.Coords) : Fin 3 → Nat :=
  let arg0 : BitVec 32 := BitVec.ofNat 32 (i 0).val
  let c2_i32_137 : BitVec 32 := 2#32
  let c0_i32_138 : BitVec 32 := 0#32
  let v318 : BitVec 1 := Scalar.cmpi .eq c2_i32_137 c0_i32_138
  let c1_i32_139 : BitVec 32 := 1#32
  let v319 : BitVec 32 := Scalar.select v318 c1_i32_139 c2_i32_137
  let v320 : BitVec 32 := Scalar.remsi arg0 v319
  let c0_i32_141 : BitVec 32 := 0#32
  let v322 : BitVec 1 := Scalar.cmpi .slt v320 c0_i32_141
  let c0_i32_142 : BitVec 32 := 0#32
  let v323 : BitVec 1 := Scalar.cmpi .slt v319 c0_i32_142
  let v324 : BitVec 1 := Scalar.xori v322 v323
  let c0_i32_140 : BitVec 32 := 0#32
  let v321 : BitVec 1 := Scalar.cmpi .ne v320 c0_i32_140
  let v325 : BitVec 1 := Scalar.andi v324 v321
  let v326 : BitVec 32 := Scalar.addi v320 v319
  let v327 : BitVec 32 := Scalar.select v325 v326 v320
  let v450 : Index := Scalar.indexCast v327
  let c0_208 : Index := 0#32
  let c1024_209 : Index := 1024#32
  ![v450.toNat, 0, 1024]
def k0_off18 (i : grid0.Coords) : Fin 3 → Nat :=
  let arg0 : BitVec 32 := BitVec.ofNat 32 (i 0).val
  let c2_i32_137 : BitVec 32 := 2#32
  let c0_i32_138 : BitVec 32 := 0#32
  let v318 : BitVec 1 := Scalar.cmpi .eq c2_i32_137 c0_i32_138
  let c1_i32_139 : BitVec 32 := 1#32
  let v319 : BitVec 32 := Scalar.select v318 c1_i32_139 c2_i32_137
  let v320 : BitVec 32 := Scalar.remsi arg0 v319
  let c0_i32_141 : BitVec 32 := 0#32
  let v322 : BitVec 1 := Scalar.cmpi .slt v320 c0_i32_141
  let c0_i32_142 : BitVec 32 := 0#32
  let v323 : BitVec 1 := Scalar.cmpi .slt v319 c0_i32_142
  let v324 : BitVec 1 := Scalar.xori v322 v323
  let c0_i32_140 : BitVec 32 := 0#32
  let v321 : BitVec 1 := Scalar.cmpi .ne v320 c0_i32_140
  let v325 : BitVec 1 := Scalar.andi v324 v321
  let v326 : BitVec 32 := Scalar.addi v320 v319
  let v327 : BitVec 32 := Scalar.select v325 v326 v320
  let v463 : Index := Scalar.indexCast v327
  let c0_214 : Index := 0#32
  let c1152_215 : Index := 1152#32
  ![v463.toNat, 0, 1152]
def k0_off19 (i : grid0.Coords) : Fin 3 → Nat :=
  let arg0 : BitVec 32 := BitVec.ofNat 32 (i 0).val
  let c2_i32_137 : BitVec 32 := 2#32
  let c0_i32_138 : BitVec 32 := 0#32
  let v318 : BitVec 1 := Scalar.cmpi .eq c2_i32_137 c0_i32_138
  let c1_i32_139 : BitVec 32 := 1#32
  let v319 : BitVec 32 := Scalar.select v318 c1_i32_139 c2_i32_137
  let v320 : BitVec 32 := Scalar.remsi arg0 v319
  let c0_i32_141 : BitVec 32 := 0#32
  let v322 : BitVec 1 := Scalar.cmpi .slt v320 c0_i32_141
  let c0_i32_142 : BitVec 32 := 0#32
  let v323 : BitVec 1 := Scalar.cmpi .slt v319 c0_i32_142
  let v324 : BitVec 1 := Scalar.xori v322 v323
  let c0_i32_140 : BitVec 32 := 0#32
  let v321 : BitVec 1 := Scalar.cmpi .ne v320 c0_i32_140
  let v325 : BitVec 1 := Scalar.andi v324 v321
  let v326 : BitVec 32 := Scalar.addi v320 v319
  let v327 : BitVec 32 := Scalar.select v325 v326 v320
  let v476 : Index := Scalar.indexCast v327
  let c0_220 : Index := 0#32
  let c1280_221 : Index := 1280#32
  ![v476.toNat, 0, 1280]
def k0_off20 (i : grid0.Coords) : Fin 3 → Nat :=
  let arg0 : BitVec 32 := BitVec.ofNat 32 (i 0).val
  let c2_i32_137 : BitVec 32 := 2#32
  let c0_i32_138 : BitVec 32 := 0#32
  let v318 : BitVec 1 := Scalar.cmpi .eq c2_i32_137 c0_i32_138
  let c1_i32_139 : BitVec 32 := 1#32
  let v319 : BitVec 32 := Scalar.select v318 c1_i32_139 c2_i32_137
  let v320 : BitVec 32 := Scalar.remsi arg0 v319
  let c0_i32_141 : BitVec 32 := 0#32
  let v322 : BitVec 1 := Scalar.cmpi .slt v320 c0_i32_141
  let c0_i32_142 : BitVec 32 := 0#32
  let v323 : BitVec 1 := Scalar.cmpi .slt v319 c0_i32_142
  let v324 : BitVec 1 := Scalar.xori v322 v323
  let c0_i32_140 : BitVec 32 := 0#32
  let v321 : BitVec 1 := Scalar.cmpi .ne v320 c0_i32_140
  let v325 : BitVec 1 := Scalar.andi v324 v321
  let v326 : BitVec 32 := Scalar.addi v320 v319
  let v327 : BitVec 32 := Scalar.select v325 v326 v320
  let v489 : Index := Scalar.indexCast v327
  let c0_226 : Index := 0#32
  let c1408_227 : Index := 1408#32
  ![v489.toNat, 0, 1408]
def k0_off21 (i : grid0.Coords) : Fin 3 → Nat :=
  let arg0 : BitVec 32 := BitVec.ofNat 32 (i 0).val
  let c2_i32_137 : BitVec 32 := 2#32
  let c0_i32_138 : BitVec 32 := 0#32
  let v318 : BitVec 1 := Scalar.cmpi .eq c2_i32_137 c0_i32_138
  let c1_i32_139 : BitVec 32 := 1#32
  let v319 : BitVec 32 := Scalar.select v318 c1_i32_139 c2_i32_137
  let v320 : BitVec 32 := Scalar.remsi arg0 v319
  let c0_i32_141 : BitVec 32 := 0#32
  let v322 : BitVec 1 := Scalar.cmpi .slt v320 c0_i32_141
  let c0_i32_142 : BitVec 32 := 0#32
  let v323 : BitVec 1 := Scalar.cmpi .slt v319 c0_i32_142
  let v324 : BitVec 1 := Scalar.xori v322 v323
  let c0_i32_140 : BitVec 32 := 0#32
  let v321 : BitVec 1 := Scalar.cmpi .ne v320 c0_i32_140
  let v325 : BitVec 1 := Scalar.andi v324 v321
  let v326 : BitVec 32 := Scalar.addi v320 v319
  let v327 : BitVec 32 := Scalar.select v325 v326 v320
  let v504 : Index := Scalar.indexCast v327
  let c0_235 : Index := 0#32
  let c1536_236 : Index := 1536#32
  ![v504.toNat, 0, 1536]
def k0_off22 (i : grid0.Coords) : Fin 3 → Nat :=
  let arg0 : BitVec 32 := BitVec.ofNat 32 (i 0).val
  let c2_i32_137 : BitVec 32 := 2#32
  let c0_i32_138 : BitVec 32 := 0#32
  let v318 : BitVec 1 := Scalar.cmpi .eq c2_i32_137 c0_i32_138
  let c1_i32_139 : BitVec 32 := 1#32
  let v319 : BitVec 32 := Scalar.select v318 c1_i32_139 c2_i32_137
  let v320 : BitVec 32 := Scalar.remsi arg0 v319
  let c0_i32_141 : BitVec 32 := 0#32
  let v322 : BitVec 1 := Scalar.cmpi .slt v320 c0_i32_141
  let c0_i32_142 : BitVec 32 := 0#32
  let v323 : BitVec 1 := Scalar.cmpi .slt v319 c0_i32_142
  let v324 : BitVec 1 := Scalar.xori v322 v323
  let c0_i32_140 : BitVec 32 := 0#32
  let v321 : BitVec 1 := Scalar.cmpi .ne v320 c0_i32_140
  let v325 : BitVec 1 := Scalar.andi v324 v321
  let v326 : BitVec 32 := Scalar.addi v320 v319
  let v327 : BitVec 32 := Scalar.select v325 v326 v320
  let v517 : Index := Scalar.indexCast v327
  let c0_241 : Index := 0#32
  let c1664_242 : Index := 1664#32
  ![v517.toNat, 0, 1664]
def k0_off23 (i : grid0.Coords) : Fin 3 → Nat :=
  let arg0 : BitVec 32 := BitVec.ofNat 32 (i 0).val
  let c2_i32_137 : BitVec 32 := 2#32
  let c0_i32_138 : BitVec 32 := 0#32
  let v318 : BitVec 1 := Scalar.cmpi .eq c2_i32_137 c0_i32_138
  let c1_i32_139 : BitVec 32 := 1#32
  let v319 : BitVec 32 := Scalar.select v318 c1_i32_139 c2_i32_137
  let v320 : BitVec 32 := Scalar.remsi arg0 v319
  let c0_i32_141 : BitVec 32 := 0#32
  let v322 : BitVec 1 := Scalar.cmpi .slt v320 c0_i32_141
  let c0_i32_142 : BitVec 32 := 0#32
  let v323 : BitVec 1 := Scalar.cmpi .slt v319 c0_i32_142
  let v324 : BitVec 1 := Scalar.xori v322 v323
  let c0_i32_140 : BitVec 32 := 0#32
  let v321 : BitVec 1 := Scalar.cmpi .ne v320 c0_i32_140
  let v325 : BitVec 1 := Scalar.andi v324 v321
  let v326 : BitVec 32 := Scalar.addi v320 v319
  let v327 : BitVec 32 := Scalar.select v325 v326 v320
  let v530 : Index := Scalar.indexCast v327
  let c0_247 : Index := 0#32
  let c1792_248 : Index := 1792#32
  ![v530.toNat, 0, 1792]
def k0_off24 (i : grid0.Coords) : Fin 3 → Nat :=
  let arg0 : BitVec 32 := BitVec.ofNat 32 (i 0).val
  let c2_i32_137 : BitVec 32 := 2#32
  let c0_i32_138 : BitVec 32 := 0#32
  let v318 : BitVec 1 := Scalar.cmpi .eq c2_i32_137 c0_i32_138
  let c1_i32_139 : BitVec 32 := 1#32
  let v319 : BitVec 32 := Scalar.select v318 c1_i32_139 c2_i32_137
  let v320 : BitVec 32 := Scalar.remsi arg0 v319
  let c0_i32_141 : BitVec 32 := 0#32
  let v322 : BitVec 1 := Scalar.cmpi .slt v320 c0_i32_141
  let c0_i32_142 : BitVec 32 := 0#32
  let v323 : BitVec 1 := Scalar.cmpi .slt v319 c0_i32_142
  let v324 : BitVec 1 := Scalar.xori v322 v323
  let c0_i32_140 : BitVec 32 := 0#32
  let v321 : BitVec 1 := Scalar.cmpi .ne v320 c0_i32_140
  let v325 : BitVec 1 := Scalar.andi v324 v321
  let v326 : BitVec 32 := Scalar.addi v320 v319
  let v327 : BitVec 32 := Scalar.select v325 v326 v320
  let v543 : Index := Scalar.indexCast v327
  let c0_253 : Index := 0#32
  let c1920_254 : Index := 1920#32
  ![v543.toNat, 0, 1920]
def k0_off25 (i : grid0.Coords) : Fin 3 → Nat :=
  let arg0 : BitVec 32 := BitVec.ofNat 32 (i 0).val
  let c2_i32_137 : BitVec 32 := 2#32
  let c0_i32_138 : BitVec 32 := 0#32
  let v318 : BitVec 1 := Scalar.cmpi .eq c2_i32_137 c0_i32_138
  let c1_i32_139 : BitVec 32 := 1#32
  let v319 : BitVec 32 := Scalar.select v318 c1_i32_139 c2_i32_137
  let v320 : BitVec 32 := Scalar.remsi arg0 v319
  let c0_i32_141 : BitVec 32 := 0#32
  let v322 : BitVec 1 := Scalar.cmpi .slt v320 c0_i32_141
  let c0_i32_142 : BitVec 32 := 0#32
  let v323 : BitVec 1 := Scalar.cmpi .slt v319 c0_i32_142
  let v324 : BitVec 1 := Scalar.xori v322 v323
  let c0_i32_140 : BitVec 32 := 0#32
  let v321 : BitVec 1 := Scalar.cmpi .ne v320 c0_i32_140
  let v325 : BitVec 1 := Scalar.andi v324 v321
  let v326 : BitVec 32 := Scalar.addi v320 v319
  let v327 : BitVec 32 := Scalar.select v325 v326 v320
  let v558 : Index := Scalar.indexCast v327
  let c0_262 : Index := 0#32
  let c2048_263 : Index := 2048#32
  ![v558.toNat, 0, 2048]
def k0_off26 (i : grid0.Coords) : Fin 3 → Nat :=
  let arg0 : BitVec 32 := BitVec.ofNat 32 (i 0).val
  let c2_i32_137 : BitVec 32 := 2#32
  let c0_i32_138 : BitVec 32 := 0#32
  let v318 : BitVec 1 := Scalar.cmpi .eq c2_i32_137 c0_i32_138
  let c1_i32_139 : BitVec 32 := 1#32
  let v319 : BitVec 32 := Scalar.select v318 c1_i32_139 c2_i32_137
  let v320 : BitVec 32 := Scalar.remsi arg0 v319
  let c0_i32_141 : BitVec 32 := 0#32
  let v322 : BitVec 1 := Scalar.cmpi .slt v320 c0_i32_141
  let c0_i32_142 : BitVec 32 := 0#32
  let v323 : BitVec 1 := Scalar.cmpi .slt v319 c0_i32_142
  let v324 : BitVec 1 := Scalar.xori v322 v323
  let c0_i32_140 : BitVec 32 := 0#32
  let v321 : BitVec 1 := Scalar.cmpi .ne v320 c0_i32_140
  let v325 : BitVec 1 := Scalar.andi v324 v321
  let v326 : BitVec 32 := Scalar.addi v320 v319
  let v327 : BitVec 32 := Scalar.select v325 v326 v320
  let v571 : Index := Scalar.indexCast v327
  let c0_268 : Index := 0#32
  let c2176_269 : Index := 2176#32
  ![v571.toNat, 0, 2176]
def k0_off27 (i : grid0.Coords) : Fin 3 → Nat :=
  let arg0 : BitVec 32 := BitVec.ofNat 32 (i 0).val
  let c2_i32_137 : BitVec 32 := 2#32
  let c0_i32_138 : BitVec 32 := 0#32
  let v318 : BitVec 1 := Scalar.cmpi .eq c2_i32_137 c0_i32_138
  let c1_i32_139 : BitVec 32 := 1#32
  let v319 : BitVec 32 := Scalar.select v318 c1_i32_139 c2_i32_137
  let v320 : BitVec 32 := Scalar.remsi arg0 v319
  let c0_i32_141 : BitVec 32 := 0#32
  let v322 : BitVec 1 := Scalar.cmpi .slt v320 c0_i32_141
  let c0_i32_142 : BitVec 32 := 0#32
  let v323 : BitVec 1 := Scalar.cmpi .slt v319 c0_i32_142
  let v324 : BitVec 1 := Scalar.xori v322 v323
  let c0_i32_140 : BitVec 32 := 0#32
  let v321 : BitVec 1 := Scalar.cmpi .ne v320 c0_i32_140
  let v325 : BitVec 1 := Scalar.andi v324 v321
  let v326 : BitVec 32 := Scalar.addi v320 v319
  let v327 : BitVec 32 := Scalar.select v325 v326 v320
  let v584 : Index := Scalar.indexCast v327
  let c0_274 : Index := 0#32
  let c2304_275 : Index := 2304#32
  ![v584.toNat, 0, 2304]
def k0_off28 (i : grid0.Coords) : Fin 3 → Nat :=
  let arg0 : BitVec 32 := BitVec.ofNat 32 (i 0).val
  let c2_i32_137 : BitVec 32 := 2#32
  let c0_i32_138 : BitVec 32 := 0#32
  let v318 : BitVec 1 := Scalar.cmpi .eq c2_i32_137 c0_i32_138
  let c1_i32_139 : BitVec 32 := 1#32
  let v319 : BitVec 32 := Scalar.select v318 c1_i32_139 c2_i32_137
  let v320 : BitVec 32 := Scalar.remsi arg0 v319
  let c0_i32_141 : BitVec 32 := 0#32
  let v322 : BitVec 1 := Scalar.cmpi .slt v320 c0_i32_141
  let c0_i32_142 : BitVec 32 := 0#32
  let v323 : BitVec 1 := Scalar.cmpi .slt v319 c0_i32_142
  let v324 : BitVec 1 := Scalar.xori v322 v323
  let c0_i32_140 : BitVec 32 := 0#32
  let v321 : BitVec 1 := Scalar.cmpi .ne v320 c0_i32_140
  let v325 : BitVec 1 := Scalar.andi v324 v321
  let v326 : BitVec 32 := Scalar.addi v320 v319
  let v327 : BitVec 32 := Scalar.select v325 v326 v320
  let v597 : Index := Scalar.indexCast v327
  let c0_280 : Index := 0#32
  let c2432_281 : Index := 2432#32
  ![v597.toNat, 0, 2432]
def k0_off29 (i : grid0.Coords) : Fin 3 → Nat :=
  let arg0 : BitVec 32 := BitVec.ofNat 32 (i 0).val
  let c2_i32_137 : BitVec 32 := 2#32
  let c0_i32_138 : BitVec 32 := 0#32
  let v318 : BitVec 1 := Scalar.cmpi .eq c2_i32_137 c0_i32_138
  let c1_i32_139 : BitVec 32 := 1#32
  let v319 : BitVec 32 := Scalar.select v318 c1_i32_139 c2_i32_137
  let v320 : BitVec 32 := Scalar.remsi arg0 v319
  let c0_i32_141 : BitVec 32 := 0#32
  let v322 : BitVec 1 := Scalar.cmpi .slt v320 c0_i32_141
  let c0_i32_142 : BitVec 32 := 0#32
  let v323 : BitVec 1 := Scalar.cmpi .slt v319 c0_i32_142
  let v324 : BitVec 1 := Scalar.xori v322 v323
  let c0_i32_140 : BitVec 32 := 0#32
  let v321 : BitVec 1 := Scalar.cmpi .ne v320 c0_i32_140
  let v325 : BitVec 1 := Scalar.andi v324 v321
  let v326 : BitVec 32 := Scalar.addi v320 v319
  let v327 : BitVec 32 := Scalar.select v325 v326 v320
  let v612 : Index := Scalar.indexCast v327
  let c0_289 : Index := 0#32
  let c2560_290 : Index := 2560#32
  ![v612.toNat, 0, 2560]
def k0_off30 (i : grid0.Coords) : Fin 3 → Nat :=
  let arg0 : BitVec 32 := BitVec.ofNat 32 (i 0).val
  let c2_i32_137 : BitVec 32 := 2#32
  let c0_i32_138 : BitVec 32 := 0#32
  let v318 : BitVec 1 := Scalar.cmpi .eq c2_i32_137 c0_i32_138
  let c1_i32_139 : BitVec 32 := 1#32
  let v319 : BitVec 32 := Scalar.select v318 c1_i32_139 c2_i32_137
  let v320 : BitVec 32 := Scalar.remsi arg0 v319
  let c0_i32_141 : BitVec 32 := 0#32
  let v322 : BitVec 1 := Scalar.cmpi .slt v320 c0_i32_141
  let c0_i32_142 : BitVec 32 := 0#32
  let v323 : BitVec 1 := Scalar.cmpi .slt v319 c0_i32_142
  let v324 : BitVec 1 := Scalar.xori v322 v323
  let c0_i32_140 : BitVec 32 := 0#32
  let v321 : BitVec 1 := Scalar.cmpi .ne v320 c0_i32_140
  let v325 : BitVec 1 := Scalar.andi v324 v321
  let v326 : BitVec 32 := Scalar.addi v320 v319
  let v327 : BitVec 32 := Scalar.select v325 v326 v320
  let v625 : Index := Scalar.indexCast v327
  let c0_295 : Index := 0#32
  let c2688_296 : Index := 2688#32
  ![v625.toNat, 0, 2688]
def k0_off31 (i : grid0.Coords) : Fin 3 → Nat :=
  let arg0 : BitVec 32 := BitVec.ofNat 32 (i 0).val
  let c2_i32_137 : BitVec 32 := 2#32
  let c0_i32_138 : BitVec 32 := 0#32
  let v318 : BitVec 1 := Scalar.cmpi .eq c2_i32_137 c0_i32_138
  let c1_i32_139 : BitVec 32 := 1#32
  let v319 : BitVec 32 := Scalar.select v318 c1_i32_139 c2_i32_137
  let v320 : BitVec 32 := Scalar.remsi arg0 v319
  let c0_i32_141 : BitVec 32 := 0#32
  let v322 : BitVec 1 := Scalar.cmpi .slt v320 c0_i32_141
  let c0_i32_142 : BitVec 32 := 0#32
  let v323 : BitVec 1 := Scalar.cmpi .slt v319 c0_i32_142
  let v324 : BitVec 1 := Scalar.xori v322 v323
  let c0_i32_140 : BitVec 32 := 0#32
  let v321 : BitVec 1 := Scalar.cmpi .ne v320 c0_i32_140
  let v325 : BitVec 1 := Scalar.andi v324 v321
  let v326 : BitVec 32 := Scalar.addi v320 v319
  let v327 : BitVec 32 := Scalar.select v325 v326 v320
  let v638 : Index := Scalar.indexCast v327
  let c0_301 : Index := 0#32
  let c2816_302 : Index := 2816#32
  ![v638.toNat, 0, 2816]
def k0_off32 (i : grid0.Coords) : Fin 3 → Nat :=
  let arg0 : BitVec 32 := BitVec.ofNat 32 (i 0).val
  let c2_i32_137 : BitVec 32 := 2#32
  let c0_i32_138 : BitVec 32 := 0#32
  let v318 : BitVec 1 := Scalar.cmpi .eq c2_i32_137 c0_i32_138
  let c1_i32_139 : BitVec 32 := 1#32
  let v319 : BitVec 32 := Scalar.select v318 c1_i32_139 c2_i32_137
  let v320 : BitVec 32 := Scalar.remsi arg0 v319
  let c0_i32_141 : BitVec 32 := 0#32
  let v322 : BitVec 1 := Scalar.cmpi .slt v320 c0_i32_141
  let c0_i32_142 : BitVec 32 := 0#32
  let v323 : BitVec 1 := Scalar.cmpi .slt v319 c0_i32_142
  let v324 : BitVec 1 := Scalar.xori v322 v323
  let c0_i32_140 : BitVec 32 := 0#32
  let v321 : BitVec 1 := Scalar.cmpi .ne v320 c0_i32_140
  let v325 : BitVec 1 := Scalar.andi v324 v321
  let v326 : BitVec 32 := Scalar.addi v320 v319
  let v327 : BitVec 32 := Scalar.select v325 v326 v320
  let v651 : Index := Scalar.indexCast v327
  let c0_307 : Index := 0#32
  let c2944_308 : Index := 2944#32
  ![v651.toNat, 0, 2944]
def k0_off33 (i : grid0.Coords) : Fin 3 → Nat :=
  let arg0 : BitVec 32 := BitVec.ofNat 32 (i 0).val
  let c2_i32_137 : BitVec 32 := 2#32
  let c0_i32_138 : BitVec 32 := 0#32
  let v318 : BitVec 1 := Scalar.cmpi .eq c2_i32_137 c0_i32_138
  let c1_i32_139 : BitVec 32 := 1#32
  let v319 : BitVec 32 := Scalar.select v318 c1_i32_139 c2_i32_137
  let v320 : BitVec 32 := Scalar.remsi arg0 v319
  let c0_i32_141 : BitVec 32 := 0#32
  let v322 : BitVec 1 := Scalar.cmpi .slt v320 c0_i32_141
  let c0_i32_142 : BitVec 32 := 0#32
  let v323 : BitVec 1 := Scalar.cmpi .slt v319 c0_i32_142
  let v324 : BitVec 1 := Scalar.xori v322 v323
  let c0_i32_140 : BitVec 32 := 0#32
  let v321 : BitVec 1 := Scalar.cmpi .ne v320 c0_i32_140
  let v325 : BitVec 1 := Scalar.andi v324 v321
  let v326 : BitVec 32 := Scalar.addi v320 v319
  let v327 : BitVec 32 := Scalar.select v325 v326 v320
  let v666 : Index := Scalar.indexCast v327
  let c0_316 : Index := 0#32
  let c3072_317 : Index := 3072#32
  ![v666.toNat, 0, 3072]
def k0_off34 (i : grid0.Coords) : Fin 3 → Nat :=
  let arg0 : BitVec 32 := BitVec.ofNat 32 (i 0).val
  let c2_i32_137 : BitVec 32 := 2#32
  let c0_i32_138 : BitVec 32 := 0#32
  let v318 : BitVec 1 := Scalar.cmpi .eq c2_i32_137 c0_i32_138
  let c1_i32_139 : BitVec 32 := 1#32
  let v319 : BitVec 32 := Scalar.select v318 c1_i32_139 c2_i32_137
  let v320 : BitVec 32 := Scalar.remsi arg0 v319
  let c0_i32_141 : BitVec 32 := 0#32
  let v322 : BitVec 1 := Scalar.cmpi .slt v320 c0_i32_141
  let c0_i32_142 : BitVec 32 := 0#32
  let v323 : BitVec 1 := Scalar.cmpi .slt v319 c0_i32_142
  let v324 : BitVec 1 := Scalar.xori v322 v323
  let c0_i32_140 : BitVec 32 := 0#32
  let v321 : BitVec 1 := Scalar.cmpi .ne v320 c0_i32_140
  let v325 : BitVec 1 := Scalar.andi v324 v321
  let v326 : BitVec 32 := Scalar.addi v320 v319
  let v327 : BitVec 32 := Scalar.select v325 v326 v320
  let v679 : Index := Scalar.indexCast v327
  let c0_322 : Index := 0#32
  let c3200_323 : Index := 3200#32
  ![v679.toNat, 0, 3200]
def k0_off35 (i : grid0.Coords) : Fin 3 → Nat :=
  let arg0 : BitVec 32 := BitVec.ofNat 32 (i 0).val
  let c2_i32_137 : BitVec 32 := 2#32
  let c0_i32_138 : BitVec 32 := 0#32
  let v318 : BitVec 1 := Scalar.cmpi .eq c2_i32_137 c0_i32_138
  let c1_i32_139 : BitVec 32 := 1#32
  let v319 : BitVec 32 := Scalar.select v318 c1_i32_139 c2_i32_137
  let v320 : BitVec 32 := Scalar.remsi arg0 v319
  let c0_i32_141 : BitVec 32 := 0#32
  let v322 : BitVec 1 := Scalar.cmpi .slt v320 c0_i32_141
  let c0_i32_142 : BitVec 32 := 0#32
  let v323 : BitVec 1 := Scalar.cmpi .slt v319 c0_i32_142
  let v324 : BitVec 1 := Scalar.xori v322 v323
  let c0_i32_140 : BitVec 32 := 0#32
  let v321 : BitVec 1 := Scalar.cmpi .ne v320 c0_i32_140
  let v325 : BitVec 1 := Scalar.andi v324 v321
  let v326 : BitVec 32 := Scalar.addi v320 v319
  let v327 : BitVec 32 := Scalar.select v325 v326 v320
  let v692 : Index := Scalar.indexCast v327
  let c0_328 : Index := 0#32
  let c3328_329 : Index := 3328#32
  ![v692.toNat, 0, 3328]
def k0_off36 (i : grid0.Coords) : Fin 3 → Nat :=
  let arg0 : BitVec 32 := BitVec.ofNat 32 (i 0).val
  let c2_i32_137 : BitVec 32 := 2#32
  let c0_i32_138 : BitVec 32 := 0#32
  let v318 : BitVec 1 := Scalar.cmpi .eq c2_i32_137 c0_i32_138
  let c1_i32_139 : BitVec 32 := 1#32
  let v319 : BitVec 32 := Scalar.select v318 c1_i32_139 c2_i32_137
  let v320 : BitVec 32 := Scalar.remsi arg0 v319
  let c0_i32_141 : BitVec 32 := 0#32
  let v322 : BitVec 1 := Scalar.cmpi .slt v320 c0_i32_141
  let c0_i32_142 : BitVec 32 := 0#32
  let v323 : BitVec 1 := Scalar.cmpi .slt v319 c0_i32_142
  let v324 : BitVec 1 := Scalar.xori v322 v323
  let c0_i32_140 : BitVec 32 := 0#32
  let v321 : BitVec 1 := Scalar.cmpi .ne v320 c0_i32_140
  let v325 : BitVec 1 := Scalar.andi v324 v321
  let v326 : BitVec 32 := Scalar.addi v320 v319
  let v327 : BitVec 32 := Scalar.select v325 v326 v320
  let v705 : Index := Scalar.indexCast v327
  let c0_334 : Index := 0#32
  let c3456_335 : Index := 3456#32
  ![v705.toNat, 0, 3456]
def k0_cond3 (i : grid0.Coords) : BitVec 1 :=
  let arg0 : BitVec 32 := BitVec.ofNat 32 (i 0).val
  let c24_i32_3 : BitVec 32 := 24#32
  let v8 : BitVec 1 := Scalar.cmpi .eq arg0 c24_i32_3
  let v9 : BitVec 32 := Scalar.extui v8
  let c0_i32_4 : BitVec 32 := 0#32
  let v10 : BitVec 1 := Scalar.cmpi .ne v9 c0_i32_4
  v10

def k0_off37 (i : grid0.Coords) : Fin 3 → Nat :=
  let arg0 : BitVec 32 := BitVec.ofNat 32 (i 0).val
  let c1_i32 : BitVec 32 := 1#32
  let v11 : BitVec 32 := Scalar.subi arg0 c1_i32
  let c2_i32 : BitVec 32 := 2#32
  let c0_i32_5 : BitVec 32 := 0#32
  let v12 : BitVec 1 := Scalar.cmpi .eq c2_i32 c0_i32_5
  let c1_i32_6 : BitVec 32 := 1#32
  let v13 : BitVec 32 := Scalar.select v12 c1_i32_6 c2_i32
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v22 : Index := Scalar.indexCast v21
  let c0 : Index := 0#32
  let c0_10 : Index := 0#32
  ![v22.toNat, 0, 0]
def k0_off38 (i : grid0.Coords) : Fin 3 → Nat :=
  let arg0 : BitVec 32 := BitVec.ofNat 32 (i 0).val
  let c1_i32 : BitVec 32 := 1#32
  let v11 : BitVec 32 := Scalar.subi arg0 c1_i32
  let c2_i32 : BitVec 32 := 2#32
  let c0_i32_5 : BitVec 32 := 0#32
  let v12 : BitVec 1 := Scalar.cmpi .eq c2_i32 c0_i32_5
  let c1_i32_6 : BitVec 32 := 1#32
  let v13 : BitVec 32 := Scalar.select v12 c1_i32_6 c2_i32
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v59 : Index := Scalar.indexCast v21
  let c32 : Index := 32#32
  let c0_25 : Index := 0#32
  ![v59.toNat, 32, 0]
def k0_off39 (i : grid0.Coords) : Fin 3 → Nat :=
  let arg0 : BitVec 32 := BitVec.ofNat 32 (i 0).val
  let c1_i32 : BitVec 32 := 1#32
  let v11 : BitVec 32 := Scalar.subi arg0 c1_i32
  let c2_i32 : BitVec 32 := 2#32
  let c0_i32_5 : BitVec 32 := 0#32
  let v12 : BitVec 1 := Scalar.cmpi .eq c2_i32 c0_i32_5
  let c1_i32_6 : BitVec 32 := 1#32
  let v13 : BitVec 32 := Scalar.select v12 c1_i32_6 c2_i32
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v96 : Index := Scalar.indexCast v21
  let c64 : Index := 64#32
  let c0_41 : Index := 0#32
  ![v96.toNat, 64, 0]
def k0_off40 (i : grid0.Coords) : Fin 3 → Nat :=
  let arg0 : BitVec 32 := BitVec.ofNat 32 (i 0).val
  let c1_i32 : BitVec 32 := 1#32
  let v11 : BitVec 32 := Scalar.subi arg0 c1_i32
  let c2_i32 : BitVec 32 := 2#32
  let c0_i32_5 : BitVec 32 := 0#32
  let v12 : BitVec 1 := Scalar.cmpi .eq c2_i32 c0_i32_5
  let c1_i32_6 : BitVec 32 := 1#32
  let v13 : BitVec 32 := Scalar.select v12 c1_i32_6 c2_i32
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v133 : Index := Scalar.indexCast v21
  let c96 : Index := 96#32
  let c0_57 : Index := 0#32
  ![v133.toNat, 96, 0]
def k0_off41 (i : grid0.Coords) : Fin 3 → Nat :=
  let arg0 : BitVec 32 := BitVec.ofNat 32 (i 0).val
  let c1_i32 : BitVec 32 := 1#32
  let v11 : BitVec 32 := Scalar.subi arg0 c1_i32
  let c2_i32 : BitVec 32 := 2#32
  let c0_i32_5 : BitVec 32 := 0#32
  let v12 : BitVec 1 := Scalar.cmpi .eq c2_i32 c0_i32_5
  let c1_i32_6 : BitVec 32 := 1#32
  let v13 : BitVec 32 := Scalar.select v12 c1_i32_6 c2_i32
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v170 : Index := Scalar.indexCast v21
  let c128 : Index := 128#32
  let c0_73 : Index := 0#32
  ![v170.toNat, 128, 0]
def k0_off42 (i : grid0.Coords) : Fin 3 → Nat :=
  let arg0 : BitVec 32 := BitVec.ofNat 32 (i 0).val
  let c1_i32 : BitVec 32 := 1#32
  let v11 : BitVec 32 := Scalar.subi arg0 c1_i32
  let c2_i32 : BitVec 32 := 2#32
  let c0_i32_5 : BitVec 32 := 0#32
  let v12 : BitVec 1 := Scalar.cmpi .eq c2_i32 c0_i32_5
  let c1_i32_6 : BitVec 32 := 1#32
  let v13 : BitVec 32 := Scalar.select v12 c1_i32_6 c2_i32
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v207 : Index := Scalar.indexCast v21
  let c160 : Index := 160#32
  let c0_89 : Index := 0#32
  ![v207.toNat, 160, 0]
def k0_off43 (i : grid0.Coords) : Fin 3 → Nat :=
  let arg0 : BitVec 32 := BitVec.ofNat 32 (i 0).val
  let c1_i32 : BitVec 32 := 1#32
  let v11 : BitVec 32 := Scalar.subi arg0 c1_i32
  let c2_i32 : BitVec 32 := 2#32
  let c0_i32_5 : BitVec 32 := 0#32
  let v12 : BitVec 1 := Scalar.cmpi .eq c2_i32 c0_i32_5
  let c1_i32_6 : BitVec 32 := 1#32
  let v13 : BitVec 32 := Scalar.select v12 c1_i32_6 c2_i32
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v244 : Index := Scalar.indexCast v21
  let c192 : Index := 192#32
  let c0_105 : Index := 0#32
  ![v244.toNat, 192, 0]
def k0_off44 (i : grid0.Coords) : Fin 3 → Nat :=
  let arg0 : BitVec 32 := BitVec.ofNat 32 (i 0).val
  let c1_i32 : BitVec 32 := 1#32
  let v11 : BitVec 32 := Scalar.subi arg0 c1_i32
  let c2_i32 : BitVec 32 := 2#32
  let c0_i32_5 : BitVec 32 := 0#32
  let v12 : BitVec 1 := Scalar.cmpi .eq c2_i32 c0_i32_5
  let c1_i32_6 : BitVec 32 := 1#32
  let v13 : BitVec 32 := Scalar.select v12 c1_i32_6 c2_i32
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let v281 : Index := Scalar.indexCast v21
  let c224 : Index := 224#32
  let c0_121 : Index := 0#32
  ![v281.toNat, 224, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c23_i32 : BitVec 32 := 23#32
  let v0 : BitVec 32 := Scalar.minsi arg0 c23_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c23_i32 : BitVec 32 := 23#32
  let v0 : BitVec 32 := Scalar.minsi arg0 c23_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c23_i32 : BitVec 32 := 23#32
  let v0 : BitVec 32 := Scalar.minsi arg0 c23_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c23_i32 : BitVec 32 := 23#32
  let v0 : BitVec 32 := Scalar.minsi arg0 c23_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x3584 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S896x3584 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3584 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x3584 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OprojRefIdeal.lean ====
abbrev S6144x3584 : Shape := ⟨2, ![6144, 3584]⟩
abbrev S6144x1 : Shape := ⟨2, ![6144, 1]⟩
abbrev S896x3584 : Shape := ⟨2, ![896, 3584]⟩
abbrev S1x3584 : Shape := ⟨2, ![1, 3584]⟩
abbrev S1 : Shape := ⟨1, ![1]⟩
abbrev S6144x128 : Shape := ⟨2, ![6144, 128]⟩
abbrev S6144x896 : Shape := ⟨2, ![6144, 896]⟩
abbrev S6144 : Shape := ⟨1, ![6144]⟩

abbrev nBuf : Space → Nat
  | .hbm => 9
  | .vmem => 8
  | .smem => 1
  | _ => 0

abbrev bufTy : (tb : Table) → Fin (tcTables nBuf tb) → BufTy
  | .hbm, ⟨0, _⟩ => ⟨S6144x3584, .i8⟩
  | .hbm, ⟨1, _⟩ => ⟨S6144x1, .f32⟩
  | .hbm, ⟨2, _⟩ => ⟨S896x3584, .i8⟩
  | .hbm, ⟨3, _⟩ => ⟨S6144x3584, .bf16⟩
  | .hbm, ⟨4, _⟩ => ⟨S1x3584, .f32⟩
  | .hbm, ⟨5, _⟩ => ⟨S1, .f32⟩
  | .hbm, ⟨6, _⟩ => ⟨S6144x3584, .f32⟩
  | .hbm, ⟨7, _⟩ => ⟨S6144x3584, .i8⟩
  | .hbm, ⟨8, _⟩ => ⟨S6144x128, .f32⟩
  | .local _ .vmem, ⟨0, _⟩ => ⟨S6144x3584, .i8⟩
  | .local _ .vmem, ⟨1, _⟩ => ⟨S6144x1, .f32⟩
  | .local _ .vmem, ⟨2, _⟩ => ⟨S896x3584, .i8⟩
  | .local _ .vmem, ⟨3, _⟩ => ⟨S6144x3584, .bf16⟩
  | .local _ .vmem, ⟨4, _⟩ => ⟨S1x3584, .f32⟩
  | .local _ .vmem, ⟨5, _⟩ => ⟨S6144x3584, .f32⟩
  | .local _ .vmem, ⟨6, _⟩ => ⟨S6144x3584, .i8⟩
  | .local _ .vmem, ⟨7, _⟩ => ⟨S6144x128, .f32⟩
  | .local _ .smem, ⟨0, _⟩ => ⟨S1, .f32⟩
  | _, _ => ⟨S6144x3584, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg5_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S6144x3584 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S896x3584 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x3584 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6144x3584 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6144x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Ternary.lean ====
/-
  THE WEIGHTS: a byte holds four two-bit digits; digit `f` of byte `b` is `(b >> 2f) & 3`, and the weight it stands for
  is the digit minus one. A packed array of `K4` rows stands for an array of `4 * K4` rows: row `f * K4 + r` holds digit
  `f` of packed row `r`. The kernel reads four bytes of a column as one 32-bit word, shifts the word and masks all four
  bytes at once; the reference shifts every byte by itself. Both read the same digits.
-/
module

public import Idealize.ShloMosaic.Lib.Pipeline.ValueKit
public import Idealize.ShloMosaic.Lib.BitcastFour
public import Idealize.ShloMosaic.Lib.MatmulPlain
public import Idealize.ShloMosaic.Lib.Pointwise

@[expose] public section

noncomputable section

namespace Cert.Ternary

open Idealize.ShloMosaic hiding ix1 ix2 eq_ix2
open Idealize.ShloMosaic.ValueIdx
open scoped BigOperators

/-- The rank-2 shape of `m` rows and `n` columns. -/
abbrev Sh (m n : ℕ) : Shape := ⟨2, ![m, n]⟩

/-- The one index of a one-element vector. -/
theorem eq_zero1 (j : (⟨1, ![1]⟩ : Shape).Idx) : j = ix1 0 := by
  funext b; match b with | ⟨0, _⟩ => exact Subsingleton.elim (α := Fin 1) _ _

/-- Digit `f` of a byte, as a byte. -/
def digit (b : BitVec 8) (f : ℕ) : BitVec 8 := (b >>> (2 * f)) &&& 3#8

/-- The weight digit `f` of a byte stands for: the digit minus one. -/
def weight (b : BitVec 8) (f : ℕ) : EReal := (((digit b f).toInt - 1 : ℤ) : ℝ)

theorem digit_getLsbD (b : BitVec 8) (f q : ℕ) :
    (digit b f).getLsbD q = (decide (q < 2) && b.getLsbD (2 * f + q)) := by
  have h3 : (3#8 : BitVec 8).getLsbD q = decide (q < 2) := by
    by_cases h : q < 8
    · interval_cases q <;> rfl
    · rw [BitVec.getLsbD_of_ge _ _ (by omega)]; symm; simp; omega
  rw [digit, BitVec.getLsbD_and, BitVec.getLsbD_ushiftRight, h3, Bool.and_comm]

/-- The mask of the two low bits of each of a word's four bytes, bit by bit. -/
theorem mask_getLsbD (q : ℕ) (hq : q < 32) : (50529027#32 : BitVec 32).getLsbD q = decide (q % 8 < 2) := by
  interval_cases q <;> rfl

/-- A word shifted right by `s` and masked, at a bit the mask keeps. -/
theorem word_getLsbD (w s : BitVec 32) (f q : ℕ) (hs : s.toNat = 2 * f) (hf : f < 4) (hq : q < 32) :
    (IntOp.andi (IntOp.shrsi .vector w s) 50529027#32).getLsbD q
      = (decide (q % 8 < 2) && w.getLsbD (2 * f + q)) := by
  have hs' : s.toNat < 32 := by omega
  simp only [IntOp.andi, IntOp.shrsi, if_pos hs', BitVec.getLsbD_and, mask_getLsbD q hq, BitVec.sshiftRight',
    BitVec.getLsbD_sshiftRight, hs]
  by_cases h : q % 8 < 2
  · have h2 : 2 * f + q < 32 := by omega
    have hf' : 2 * f < 32 := by omega
    simp [h, h2, hf', hq, BitVec.getElem_sshiftRight]
  · simp [h]

/-- THE WORD TRICK IS THE BYTE'S DIGIT: bytes read as words, the words shifted and masked, read back as bytes. -/
theorem bitcast_digit {R r n : ℕ} (x : (Sh R n).Idx → BitVec 8) (h : (Sh R n).Bitcasts 8 (Sh r n) 32)
    (h' : (Sh r n).Bitcasts 32 (Sh R n) 8) (s : BitVec 32) (f : ℕ) (hs : s.toNat = 2 * f) (hf : f < 4) (j : (Sh R n).Idx) :
    bitcast (Sh R n) 8 (andi (shrsi (bitcast (Sh r n) 32 x h) (broadcast (Sh r n) s)) (broadcast (Sh r n) 50529027#32)) h' j
      = digit (x j) f := by
  apply BitVec.eq_of_getLsbD_eq
  intro q hq
  have hrow : (Sh R n).row j = (j 0).val := rfl
  rw [bitcast_getLsbD _ h' j q hq (by decide)]
  set p : (Sh r n).Idx := h'.srcIdx j (((Sh R n).row j * 8 + q) / 32) _ with hp
  have p0 : (p 0).val = ((j 0).val * 8 + q) / 32 := h'.srcIdx_row _ _ _ ⟨0, Nat.zero_lt_two⟩ rfl
  have p1 : p 1 = j 1 := Fin.ext (h'.srcIdx_other _ _ _ ⟨1, Nat.one_lt_two⟩ (by show ¬ 1 + 2 = 2; omega))
  have hm : ((j 0).val * 8 + q) % 32 < 32 := Nat.mod_lt _ (by decide)
  show (IntOp.andi (IntOp.shrsi .vector (bitcast (Sh r n) 32 x h p) s) 50529027#32).getLsbD (((j 0).val * 8 + q) % 32) = _
  rw [word_getLsbD _ s f _ hs hf hm, digit_getLsbD]
  have e8 : ((j 0).val * 8 + q) % 32 % 8 = q := by omega
  rw [e8]
  by_cases h2 : q < 2
  · have hb : 2 * f + ((j 0).val * 8 + q) % 32 < 32 := by omega
    have hj : j = ix2 (j 0) (j 1) := eq_ix2 j
    have hx := bitcast_8_32_getLsbD_ix2 x h (p 0) (j 1) _ hb (j 0) (by rw [p0]; omega)
    have hp' : p = ix2 (p 0) (j 1) := (eq_ix2 p).trans (congrArg (ix2 (p 0)) p1)
    have ep : bitcast (Sh r n) 32 x h p = bitcast (Sh r n) 32 x h (ix2 (p 0) (j 1)) := congrArg _ hp'
    have ej : x (ix2 (j 0) (j 1)) = x j := congrArg x hj.symm
    have eq8 : (2 * f + ((j 0).val * 8 + q) % 32) % 8 = 2 * f + q := by omega
    refine congrArg (decide (q < 2) && ·) ((congrArg (BitVec.getLsbD · _) ep).trans (hx.trans ?_))
    rw [eq8]
    exact congrArg (BitVec.getLsbD · _) ej
  · simp [h2]

/-- The kernel's weight: the digit as a number, minus the bf16 one. -/
theorem digit_sub_one (b : BitVec 8) (f : ℕ) :
    (FloatOps.subf (φ := .bf16) (FloatOps.sitofp (F := Ideal) .bf16 (digit b f)) (Scalar.ofBits .bf16 0x3F80#16) : EReal)
      = weight b f := by
  have h1 : (Scalar.ofBits (F := Ideal) .bf16 0x3F80#16 : EReal) = ((1 : ℝ) : EReal) := by
    simp [Scalar.ofBits, Ideal.ofBits, Ideal.ieee]
    rw [← EReal.coe_one, ← EReal.coe_mul]
    norm_num
  rw [h1]
  show (((digit b f).toInt : ℝ) : EReal) - ((1 : ℝ) : EReal) = _
  rw [weight, ← EReal.coe_sub]; push_cast; rfl

/-- The reference's digit: the byte widened, shifted, masked and narrowed, minus one — as an integer. -/
theorem ref_digit : ∀ (b : BitVec 8) (f : Fin 4),
    (IntOp.subi ((IntOp.andi (IntOp.shrsi .vector (b.setWidth 32) (BitVec.ofNat 32 (2 * f.val))) 3#32).setWidth 8) 1#8).toInt
      = (digit b f.val).toInt - 1 := by
  decide +kernel

/-- The unpacked array: row `f * K4 + r` holds the weight of digit `f` of packed row `r`. -/
def unpacked {K4 n : ℕ} (K : ℕ) (h4 : 0 < K4) (x : (Sh K4 n).Idx → BitVec 8) : (Sh K n).Idx → EReal := fun j =>
  weight (x (ix2 ⟨(j 0).val % K4, Nat.mod_lt _ h4⟩ (j 1))) ((j 0).val / K4)

/-- ONE STORED PLANE: packed rows `r …` of a block, digit `f`, read at a local index, are rows `f * K4 + r …` of the
    unpacked array. -/
theorem plane_eq {K4 n : ℕ} (K : ℕ) (h4 : 0 < K4) (x : (Sh K4 n).Idx → BitVec 8) (R q r f : ℕ) (s : BitVec 32)
    (hs : s.toNat = 2 * f) (hf : f < 4) (hr : r + R ≤ K4) (inb) (h : (Sh R n).Bitcasts 8 (Sh q n) 32)
    (h' : (Sh q n).Bitcasts 32 (Sh R n) 8) (hc : (Sh R n).ShapeCasts (Sh R n)) (j : (Sh R n).Idx) (y : (Sh K n).Idx)
    (h0 : (y 0).val = f * K4 + r + (j 0).val) (h1 : (y 1).val = (j 1).val) :
    shapeCast (Sh R n) (subf (F := Ideal) (φ := .bf16) (sitofp (F := Ideal) .bf16 (bitcast (Sh R n) 8
      (andi (shrsi (bitcast (Sh q n) 32 (View.ld (Val := Elt Ideal) (e' := .i8) (S := Sh K4 n) x
        (Rect.unit (s := Sh K4 n) ![r, 0] ![R, n] inb)) h) (broadcast (Sh q n) s)) (broadcast (Sh q n) 50529027#32)) h'))
      (broadcast (Sh R n) (Scalar.ofBits (F := Ideal) .bf16 0x3F80#16))) hc j = unpacked K h4 x y := by
  have hj : Shape.reshapeEquiv hc j = j := by simp
  have hjR : (j 0).val < R := (j 0).isLt
  show FloatOps.subf (φ := .bf16) (FloatOps.sitofp (F := Ideal) .bf16 (bitcast (Sh R n) 8 _ h' (Shape.reshapeEquiv hc j)))
    (Scalar.ofBits (F := Ideal) .bf16 0x3F80#16) = _
  rw [hj, bitcast_digit _ h h' s f hs hf j, digit_sub_one, unpacked]
  have e0 : (y 0).val % K4 = r + (j 0).val := by
    rw [h0, Nat.add_assoc, Nat.mul_comm, Nat.mul_add_mod, Nat.mod_eq_of_lt (by omega)]
  have e1 : (y 0).val / K4 = f := by
    rw [h0, Nat.add_assoc, Nat.mul_comm, Nat.mul_add_div h4, Nat.div_eq_of_lt (by omega), Nat.add_zero]
  rw [e1]
  refine congrArg (weight · f) (View.ld_unit_apply_of (Val := Elt Ideal) (e := .i8) (S := Sh K4 n) x _ _ _ _ _ fun a => ?_)
  match a with
  | ⟨0, _⟩ => exact e0
  | ⟨1, _⟩ => exact h1.trans (Nat.zero_add _).symm

/-- The first `n` terms of the product of codes and weights at a row and a column. -/
def dotUpTo {M K N : ℕ} (x : (Sh M K).Idx → BitVec 8) (w : (Sh K N).Idx → EReal) (n : ℕ) : (Sh M N).Idx → EReal := fun j =>
  ∑ k ∈ Finset.range n, if h : k < K then (((x (ix2 (j 0) ⟨k, h⟩)).toInt : ℝ) : EReal) * w (ix2 ⟨k, h⟩ (j 1)) else 0

/-- One more block of `k` terms. -/
theorem dotUpTo_add {M K N : ℕ} (x : (Sh M K).Idx → BitVec 8) (w : (Sh K N).Idx → EReal) (n k : ℕ) (hb : n + k ≤ K)
    (j : (Sh M N).Idx) :
    dotUpTo x w n j + ∑ q : Fin k, (((x (ix2 (j 0) ⟨n + q.val, by omega⟩)).toInt : ℝ) : EReal) * w (ix2 ⟨n + q.val, by omega⟩ (j 1))
      = dotUpTo x w (n + k) j := by
  unfold dotUpTo
  rw [Finset.sum_range_add, Finset.sum_fin_eq_sum_range]
  congr 1
  refine Finset.sum_congr rfl fun q hq => ?_
  have hq' := Finset.mem_range.mp hq
  rw [dif_pos hq', dif_pos (show n + q < K by omega)]

/-- The block product of the kernel: columns `n …` of the codes by rows `n …` of the weights, onto zero. -/
theorem dot_block {M K N : ℕ} (x : (Sh M K).Idx → BitVec 8) (w : (Sh K N).Idx → EReal) (n k : ℕ) (hb : n + k ≤ K)
    (inb inb') (j : (Sh M N).Idx) :
    FloatOps.matmul (F := Ideal) (φ₁ := .bf16) (φ₂ := .bf16) (DotDims.plain M k N) none
        (sitofp (F := Ideal) .bf16 (View.ld (Val := Elt Ideal) (e' := .i8) (S := Sh M K) x (Rect.unit (s := Sh M K) ![0, n] (Sh M k).size inb)))
        (View.ld (Val := Elt Ideal) (e' := .bf16) (S := Sh K N) w (Rect.unit (s := Sh K N) ![n, 0] (Sh k N).size inb'))
        (constant (F := Ideal) (Sh M N) .f32 0x00000000#32) j
      = ∑ q : Fin k, (((x (ix2 (j 0) ⟨n + q.val, by omega⟩)).toInt : ℝ) : EReal) * w (ix2 ⟨n + q.val, by omega⟩ (j 1)) := by
  obtain ⟨a, b, rfl⟩ : ∃ (a : Fin M) (b : Fin N), j = ix2 a b := ⟨j 0, j 1, eq_ix2 j⟩
  rw [Ideal.matmul_plain_apply]
  have h0 : (constant (F := Ideal) (Sh M N) .f32 0x00000000#32) (ix2 a b) = (0 : EReal) := Ideal.ofBits_zero_f32
  rw [h0, zero_add]
  refine Finset.sum_congr rfl fun q _ => ?_
  have e1 : View.ld (Val := Elt Ideal) (e' := .bf16) (S := Sh K N) w (Rect.unit (s := Sh K N) ![n, 0] (Sh k N).size inb') (ix2 q b)
      = w (ix2 ⟨n + q.val, by omega⟩ b) :=
    View.ld_unit_apply_of (Val := Elt Ideal) (e := .bf16) (S := Sh K N) w _ _ _ _ _ fun a => by
      match a with
      | ⟨0, _⟩ => rfl
      | ⟨1, _⟩ => exact (Nat.zero_add _).symm
  have e2 : View.ld (Val := Elt Ideal) (e' := .i8) (S := Sh M K) x (Rect.unit (s := Sh M K) ![0, n] (Sh M k).size inb) (ix2 a q)
      = x (ix2 a ⟨n + q.val, by omega⟩) :=
    View.ld_unit_apply_of (Val := Elt Ideal) (e := .i8) (S := Sh M K) x _ _ _ _ _ fun a => by
      match a with
      | ⟨0, _⟩ => exact (Nat.zero_add _).symm
      | ⟨1, _⟩ => rfl
  exact congrArg₂ (· * ·) (congrArg (fun b : BitVec 8 => (((b.toInt : ℝ)) : EReal)) e2) e1

/-- The first block's terms are all the terms so far. -/
theorem dotUpTo_first {M K N : ℕ} (x : (Sh M K).Idx → BitVec 8) (w : (Sh K N).Idx → EReal) (k : ℕ) (hb : 0 + k ≤ K) (j : (Sh M N).Idx) :
    ∑ q : Fin k, (((x (ix2 (j 0) ⟨0 + q.val, by omega⟩)).toInt : ℝ) : EReal) * w (ix2 ⟨0 + q.val, by omega⟩ (j 1)) = dotUpTo x w k j := by
  have h := dotUpTo_add x w 0 k hb j
  have h0 : dotUpTo x w 0 j = 0 := by simp [dotUpTo]
  rw [h0, zero_add] at h
  exact h.trans (by rw [Nat.zero_add])

/-- Two products of the same rows and columns agree. -/
theorem dotUpTo_congr {M M' K N N' : ℕ} {x : (Sh M K).Idx → BitVec 8} {x' : (Sh M' K).Idx → BitVec 8}
    {w : (Sh K N).Idx → EReal} {w' : (Sh K N').Idx → EReal} (n : ℕ) {j : (Sh M N).Idx} {j' : (Sh M' N').Idx}
    (hx : ∀ k : Fin K, x (ix2 (j 0) k) = x' (ix2 (j' 0) k)) (hw : ∀ k : Fin K, w (ix2 k (j 1)) = w' (ix2 k (j' 1))) :
    dotUpTo x w n j = dotUpTo x' w' n j' := by
  unfold dotUpTo
  refine Finset.sum_congr rfl fun k _ => ?_
  by_cases h : k < K
  · rw [dif_pos h, dif_pos h, hx, hw]
  · rw [dif_neg h, dif_neg h]

/-- THE TERNARY PRODUCT OF ROW CODES: the codes by the unpacked weights, times the row's scale, times the weights' scale. -/
def bitlinear {M K K4 N : ℕ} (h4 : 0 < K4) (x : (Sh M K).Idx → BitVec 8) (a : (Sh M 1).Idx → EReal) (w : (Sh K4 N).Idx → BitVec 8)
    (s : EReal) (j : (Sh M N).Idx) : EReal :=
  dotUpTo x (unpacked K h4 w) K j * a (ix2 (j 0) 0) * s

/-- Residual plus ternary product. -/
def addProduct {M K K4 N : ℕ} (h4 : 0 < K4) (x : (Sh M K).Idx → BitVec 8) (a : (Sh M 1).Idx → EReal) (w : (Sh K4 N).Idx → BitVec 8)
    (h : (Sh M N).Idx → EReal) (s : (⟨1, ![1]⟩ : Shape).Idx → EReal) (j : (Sh M N).Idx) : EReal :=
  h j + bitlinear h4 x a w (s (ix1 0)) j

theorem addProduct_congr {M K K4 N : ℕ} (h4 : 0 < K4) {x x' : (Sh M K).Idx → BitVec 8} {a a' : (Sh M 1).Idx → EReal}
    {w w' : (Sh K4 N).Idx → BitVec 8} {h h' : (Sh M N).Idx → EReal} {s s' : (⟨1, ![1]⟩ : Shape).Idx → EReal}
    (ex : x = x') (ea : a = a') (ew : w = w') (eh : h = h') (es : s = s') : addProduct h4 x a w h s = addProduct h4 x' a' w' h' s' := by
  rw [ex, ea, ew, eh, es]

/-- The reference's product for one two-bit field: a slice of the codes by that field's weights. -/
theorem ref_block {M K K4 N : ℕ} (h4 : 0 < K4) (x : (Sh M K).Idx → BitVec 8) (w : (Sh K4 N).Idx → BitVec 8) (f : Fin 4) (n : ℕ)
    (hn : n = f.val * K4) (hb : n + K4 ≤ K) (hs h1 h2) (j : (Sh M N).Idx) :
    FloatOps.matmul (F := Ideal) (φ₁ := .bf16) (φ₂ := .bf16) (DotDims.plain M K4 N) none
        (extractStridedSlice (Sh M K4) ![0, n] (sitofp (F := Ideal) .bf16 x) hs)
        (sitofp (F := Ideal) .bf16 (subi (trunci 8 (andi (shrsi (extui 32 w h1) (broadcast (Sh K4 N) (BitVec.ofNat 32 (2 * f.val)))) (broadcast (Sh K4 N) 3#32)) h2)
          (broadcast (Sh K4 N) 1#8)))
        (constant (F := Ideal) (Sh M N) .f32 0x00000000#32) j
      = ∑ q : Fin K4, (((x (ix2 (j 0) ⟨n + q.val, by omega⟩)).toInt : ℝ) : EReal) * unpacked K h4 w (ix2 ⟨n + q.val, by omega⟩ (j 1)) := by
  obtain ⟨a, b, rfl⟩ : ∃ (a : Fin M) (b : Fin N), j = ix2 a b := ⟨j 0, j 1, eq_ix2 j⟩
  rw [Ideal.matmul_plain_apply]
  have h0 : (constant (F := Ideal) (Sh M N) .f32 0x00000000#32) (ix2 a b) = (0 : EReal) := Ideal.ofBits_zero_f32
  rw [h0, zero_add]
  refine Finset.sum_congr rfl fun q _ => ?_
  have e1 : extractStridedSlice (Sh M K4) ![0, n] (sitofp (F := Ideal) .bf16 x) hs (ix2 a q)
      = (((x (ix2 a ⟨n + q.val, by omega⟩)).toInt : ℝ) : EReal) := by
    refine congrArg (fun i => (((x i).toInt : ℝ) : EReal)) (funext fun d => Fin.ext ?_)
    match d with
    | ⟨0, _⟩ => exact Nat.zero_add _
    | ⟨1, _⟩ => rfl
  have hq := q.isLt
  have e2 : unpacked K h4 w (ix2 ⟨n + q.val, by omega⟩ b) = weight (w (ix2 q b)) f.val := by
    have hd : (n + q.val) / K4 = f.val := by
      rw [hn, Nat.add_comm, Nat.add_mul_div_right _ _ h4, Nat.div_eq_of_lt hq, Nat.zero_add]
    have hm : (n + q.val) % K4 = q.val := by
      rw [hn, Nat.add_comm, Nat.add_mul_mod_self_right, Nat.mod_eq_of_lt hq]
    show weight (w (ix2 ⟨(n + q.val) % K4, _⟩ b)) ((n + q.val) / K4) = _
    rw [hd]
    exact congrArg (fun i => weight (w (ix2 i b)) f.val) (Fin.ext hm)
  rw [e1]
  refine congrArg (_ * ·) ?_
  refine Eq.trans ?_ e2.symm
  exact congrArg (fun i : ℤ => ((i : ℝ) : EReal)) (ref_digit (w (ix2 q b)) f)

/-- One field of the reference's weights: shift every byte, mask it, subtract one. -/
abbrev field {K4 N : ℕ} (w : (Sh K4 N).Idx → BitVec 8) (s : BitVec 32) (h1 h2 : 8 < 32) : FVec Ideal (Sh K4 N) .bf16 :=
  sitofp (F := Ideal) .bf16 (subi (trunci 8 (andi (shrsi (extui 32 w h1) (broadcast (Sh K4 N) s)) (broadcast (Sh K4 N) 3#32)) h2)
    (broadcast (Sh K4 N) 1#8))

/-- The reference's four field products add up to the ternary product. -/
theorem ref_product {M K K4 N : ℕ} (h4 : 0 < K4) (x : (Sh M K).Idx → BitVec 8) (w : (Sh K4 N).Idx → BitVec 8) (n1 n2 n3 : ℕ)
    (e1 : n1 = K4) (e2 : n2 = n1 + K4) (e3 : n3 = n2 + K4) (eK : K = n3 + K4) (hs0 hs1 hs2 hs3) (h1 h2 : 8 < 32) (j : (Sh M N).Idx) :
    addf (F := Ideal) (φ := .f32) (addf (F := Ideal) (φ := .f32) (addf (F := Ideal) (φ := .f32)
      (FloatOps.matmul (F := Ideal) (φ₁ := .bf16) (φ₂ := .bf16) (DotDims.plain M K4 N) none
        (extractStridedSlice (Sh M K4) ![0, 0] (sitofp (F := Ideal) .bf16 x) hs0) (field w 0#32 h1 h2) (constant (F := Ideal) (Sh M N) .f32 0x00000000#32))
      (FloatOps.matmul (F := Ideal) (φ₁ := .bf16) (φ₂ := .bf16) (DotDims.plain M K4 N) none
        (extractStridedSlice (Sh M K4) ![0, n1] (sitofp (F := Ideal) .bf16 x) hs1) (field w 2#32 h1 h2) (constant (F := Ideal) (Sh M N) .f32 0x00000000#32)))
      (FloatOps.matmul (F := Ideal) (φ₁ := .bf16) (φ₂ := .bf16) (DotDims.plain M K4 N) none
        (extractStridedSlice (Sh M K4) ![0, n2] (sitofp (F := Ideal) .bf16 x) hs2) (field w 4#32 h1 h2) (constant (F := Ideal) (Sh M N) .f32 0x00000000#32)))
      (FloatOps.matmul (F := Ideal) (φ₁ := .bf16) (φ₂ := .bf16) (DotDims.plain M K4 N) none
        (extractStridedSlice (Sh M K4) ![0, n3] (sitofp (F := Ideal) .bf16 x) hs3) (field w 6#32 h1 h2) (constant (F := Ideal) (Sh M N) .f32 0x00000000#32)) j
      = dotUpTo x (unpacked K h4 w) K j := by
  have b0 := (ref_block h4 x w 0 0 (by simp) (by omega) hs0 h1 h2 j).trans (dotUpTo_first x (unpacked K h4 w) K4 (by omega) j)
  have b1 := ref_block h4 x w 1 n1 (by simp; omega) (by omega) hs1 h1 h2 j
  have b2 := ref_block h4 x w 2 n2 (by simp; omega) (by omega) hs2 h1 h2 j
  have b3 := ref_block h4 x w 3 n3 (by simp; omega) (by omega) hs3 h1 h2 j
  have c1 := (congrArg₂ (fun p q : EReal => p + q) (b0.trans (by rw [e1])) b1).trans (dotUpTo_add x (unpacked K h4 w) n1 K4 (by omega) j)
  rw [← e2] at c1
  have c2 := (congrArg₂ (fun p q : EReal => p + q) c1 b2).trans (dotUpTo_add x (unpacked K h4 w) n2 K4 (by omega) j)
  rw [← e3] at c2
  have c3 := (congrArg₂ (fun p q : EReal => p + q) c2 b3).trans (dotUpTo_add x (unpacked K h4 w) n3 K4 (by omega) j)
  exact c3.trans (by rw [← eK])

end Cert.Ternary

end
-- ==== Proof.DownScratch.lean ====
/-
  THE DOWN PROJECTION, THE SCRATCH: at the first of every twelve points the kernel unpacks the point's weight block into the
  scratch; at the other eleven it reads what is there. So after every point the scratch holds the weights of that
  point's block.
-/
module

public import proofs.«01_k».proof.Proof.Gen.DownIdeal.Value
public import proofs.«01_k».proof.Proof.Ternary
public import Idealize.ShloMosaic.Lib.Pipeline.ValueKit.Held

@[expose] public section

set_option maxRecDepth 16384

noncomputable section

namespace Cert.DownIdeal.Scratch

open Cert.DownIdeal Cert.DownIdeal.Gen Idealize.ShloMosaic Idealize.ShloMosaic.TcCoe Idealize.SL.Sem
open Cert.Ternary (unpacked dotUpTo)

variable (m : (ℓ : Loc nD τ sig) → Buf (Elt Ideal) ℓ)

/-- At a point that unpacks, the scratch is left with the weights of the point's block. -/
theorem scratch_write (c : Dev nD) (t : Fin cfg0.N) (h : t.val % 12 = 0) (y : S18944x512.Idx) :
    (outsAt0 m c t.val t.isLt).2 y = unpacked 18944 (by decide : 0 < 4736) (iblk m c 2 t) y := by
  rw [outsAt0_A m c t h]; frame_out
  canon_tiles x hx
  all_goals
    open_payloads
    first
      | exact Cert.Ternary.plane_eq 18944 _ (iblk m c 2 t) 128 32 _ 0 _ (by decide) (by decide) (by decide) _ _ _ _ x y (by omega) (by omega)
      | exact Cert.Ternary.plane_eq 18944 _ (iblk m c 2 t) 128 32 _ 1 _ (by decide) (by decide) (by decide) _ _ _ _ x y (by omega) (by omega)
      | exact Cert.Ternary.plane_eq 18944 _ (iblk m c 2 t) 128 32 _ 2 _ (by decide) (by decide) (by decide) _ _ _ _ x y (by omega) (by omega)
      | exact Cert.Ternary.plane_eq 18944 _ (iblk m c 2 t) 128 32 _ 3 _ (by decide) (by decide) (by decide) _ _ _ _ x y (by omega) (by omega)

/-- Where each window's block sits: point `t` is block row `t % 12` and block column `t / 12`. -/
theorem idx : ∀ t : Fin cfg0.N, win0_0.index t = ![t.val % 12, 0] ∧ win0_1.index t = ![t.val % 12, 0]
    ∧ win0_2.index t = ![0, t.val / 12] ∧ win0_3.index t = ![t.val % 12, t.val / 12] ∧ win0_4.index t = ![0]
    ∧ win0_5.index t = ![t.val % 12, t.val / 12] ∧ t.val / 12 < 7 :=
  (by decide +kernel : ∀ t : Fin grid0.N, _)

/-- The weight block is one block for twelve points. -/
theorem block_same (c : Dev nD) (t t' : Fin cfg0.N) (h : t'.val / 12 = t.val / 12) : iblk m c 2 t' = iblk m c 2 t := by
  funext y
  blk_point [iblk, V, idx t, idx t', h]

/-- After every point the scratch holds the weights of the point's block. -/
theorem scratch_eq (c : Dev nD) (t : Fin cfg0.N) :
    (outsAt0 m c t.val t.isLt).2 = unpacked 18944 (by decide : 0 < 4736) (iblk m c 2 t) := by
  funext y
  rw [Pipeline.eq_of_write_hold_apply (fun n h => (outsAt0 m c n h).2) 12
    (fun t => unpacked 18944 (by decide : 0 < 4736) (iblk m c 2 t)) (scratch_write m c)
    (fun t h i => by rw [outsAt0_B m c t h]; rfl) t y, block_same m c t _ (by show 12 * (t.val / 12) / 12 = _; omega)]

end Cert.DownIdeal.Scratch

end
-- ==== Proof.DownTile.lean ====
/-
  THE DOWN PROJECTION, ONE GRID POINT: what the point leaves in its output block. The block's product is a chain of
  seventy-four block products of 256 terms; four column tiles of it are scaled, added to the residual and stored.
-/
module

public import proofs.«01_k».proof.Proof.DownScratch
public import Idealize.ShloMosaic.Lib.Pipeline.ReadBack

@[expose] public section

set_option maxRecDepth 16384

noncomputable section

namespace Cert.DownIdeal.Tile

open Cert.DownIdeal Cert.DownIdeal.Gen Cert.DownIdeal.Scratch Idealize.ShloMosaic Idealize.ShloMosaic.TcCoe Idealize.SL.Sem
open Cert.Ternary (unpacked dotUpTo)

variable (m : (ℓ : Loc nD τ sig) → Buf (Elt Ideal) ℓ)

theorem readCov_ld {v : View sig .tc .vmem S18944x512 .bf16} (L : List (View.Piece (Elt Ideal) S18944x512 .bf16)) (r : Rect S18944x512) :
    v.readCov L r.toLoadRect = View.ld (View.canon L) r := View.readCov_eq_canon' v L _

theorem read_scratch (h : scM0_0.IsWhole) (X : S18944x512.Idx → EReal) :
    View.read (Elt Ideal) (View.whole cc0_scratch0) (h.unread X) = X :=
  read_unread_whole (Val := Elt Ideal) cc0_scratch0 h X

section Chain
variable (x : S512x18944.Idx → BitVec 8) (w : S18944x512.Idx → EReal)

/-- The chain's first block product: the first 256 terms. -/
theorem chain_first (inb inb') :
    matmul (F := Ideal) (φ₁ := .bf16) (φ₂ := .bf16) dot_S512x256_S256x512_S512x512_1_0_0_1_n_n none
      (sitofp (F := Ideal) .bf16 (View.ld (Val := Elt Ideal) (e' := .i8) (S := S512x18944) x (Rect.unit (s := S512x18944) ![0, 0] ![512, 256] inb)))
      (View.ld (Val := Elt Ideal) (e' := .bf16) (S := S18944x512) w (Rect.unit (s := S18944x512) ![0, 0] ![256, 512] inb'))
      (constant (F := Ideal) S512x512 .f32 0#32) = dotUpTo x w 256 := by
  funext j
  exact (Cert.Ternary.dot_block x w 0 256 (by decide) inb inb' j).trans
    (Cert.Ternary.dotUpTo_first (M := 512) (N := 512) x w 256 (by decide) j)

/-- One more block product: 256 more terms. -/
theorem chain_step (n : ℕ) (inb inb') :
    addf (F := Ideal) (φ := .f32) (dotUpTo x w n) (matmul (F := Ideal) (φ₁ := .bf16) (φ₂ := .bf16) dot_S512x256_S256x512_S512x512_1_0_0_1_n_n none
      (sitofp (F := Ideal) .bf16 (View.ld (Val := Elt Ideal) (e' := .i8) (S := S512x18944) x (Rect.unit (s := S512x18944) ![0, n] ![512, 256] inb)))
      (View.ld (Val := Elt Ideal) (e' := .bf16) (S := S18944x512) w (Rect.unit (s := S18944x512) ![n, 0] ![256, 512] inb'))
      (constant (F := Ideal) S512x512 .f32 0#32)) = dotUpTo x w (n + 256) := by
  have hb : n + 256 ≤ 18944 := inb 1
  funext j
  exact (congrArg (dotUpTo x w n j + ·) (Cert.Ternary.dot_block x w n 256 hb inb inb' j)).trans
    (Cert.Ternary.dotUpTo_add (M := 512) (N := 512) x w n 256 hb j)

end Chain

/-- One stored column tile, at a local index: residual plus product times row scale times weight scale. -/
theorem tile_eq (h acc : S512x512.Idx → EReal) (a : S512x128.Idx → EReal) (s : EReal) (p : ℕ) (inb) (hsl) (hc) (hlt)
    (x : S512x128.Idx) (y : S512x512.Idx) (hx0 : (y 0).val = (x 0).val) (hx1 : (y 1).val = p + (x 1).val) (h128 : p % 128 = 0)
    (s' : EReal) (hs : s = s') :
    truncf (F := Ideal) (φ := .f32) .bf16
      (addf (F := Ideal) (φ := .f32) (View.ld (Val := Elt Ideal) (e' := .f32) (S := S512x512) h (Rect.unit (s := S512x512) ![0, p] ![512, 128] inb))
        (mulf (F := Ideal) (φ := .f32)
          (mulf (F := Ideal) (φ := .f32) (extractStridedSlice S512x128 ![0, p] acc hsl) (shapeCast S512x128 a hc))
          (broadcast S512x128 s))) hlt x
      = h y + acc y * a (ValueIdx.ix2 (y 0) ⟨(y 1).val % 128, Nat.mod_lt _ (by decide)⟩) * s' := by
  subst hs
  have hcx : Shape.reshapeEquiv hc x = x := by simp
  have e1 : View.ld (Val := Elt Ideal) (e' := .f32) (S := S512x512) h (Rect.unit (s := S512x512) ![0, p] ![512, 128] inb) x = h y :=
    View.ld_unit_apply_of (Val := Elt Ideal) (e := .f32) (S := S512x512) h _ _ _ _ _ fun b => by
      match b with
      | ⟨0, _⟩ => exact hx0.trans (Nat.zero_add _).symm
      | ⟨1, _⟩ => exact hx1
  have e2 : extractStridedSlice S512x128 ![0, p] acc hsl x = acc y := by
    refine congrArg acc (funext fun b => Fin.ext ?_)
    match b with
    | ⟨0, _⟩ => exact (Nat.zero_add _).trans hx0.symm
    | ⟨1, _⟩ => exact hx1.symm
  have hl : (x 1).val < 128 := (x 1).isLt
  have e3 : shapeCast S512x128 a hc x = a (ValueIdx.ix2 (y 0) ⟨(y 1).val % 128, Nat.mod_lt _ (by decide)⟩) := by
    show a (Shape.reshapeEquiv hc x) = _
    rw [hcx]
    refine congrArg a (funext fun b => Fin.ext ?_)
    match b with
    | ⟨0, _⟩ => exact hx0.symm
    | ⟨1, _⟩ => show (x 1).val = (y 1).val % 128; omega
  show (View.ld (Val := Elt Ideal) (e' := .f32) (S := S512x512) h (Rect.unit (s := S512x512) ![0, p] ![512, 128] inb) x : EReal)
    + extractStridedSlice S512x128 ![0, p] acc hsl x * shapeCast S512x128 a hc x * s = _
  rw [e1, e2, e3]

/-- The tile's value from the point's blocks: codes, row scales by lane, packed weights, residual, weight scale. -/
def tile (x0 : S512x18944.Idx → BitVec 8) (x1 : S512x128.Idx → EReal) (x2 : S4736x512.Idx → BitVec 8) (x3 : S512x512.Idx → EReal)
    (x4 : S1.Idx → EReal) (y : S512x512.Idx) : EReal :=
  x3 y + dotUpTo x0 (unpacked 18944 (by decide : 0 < 4736) x2) 18944 y
    * x1 (ValueIdx.ix2 (y 0) ⟨(y 1).val % 128, Nat.mod_lt _ (by decide)⟩) * x4 (ValueIdx.ix1 0)

/-- WHAT A POINT LEAVES IN ITS OUTPUT BLOCK. -/
abbrev tileOut (c : Dev nD) (t : Fin cfg0.N) : S512x512.Idx → EReal :=
  tile (iblk m c 0 t) (iblk m c 1 t) (iblk m c 2 t) (iblk m c 3 t) (iblk m c 4 t)

theorem scale_ld (x4 : S1.Idx → EReal) (inb) (j) :
    View.ld (Val := Elt Ideal) (e' := .f32) (S := S1) x4 (Rect.unit (s := S1) ![0] ![1] inb) j = x4 (ValueIdx.ix1 0) :=
  congrArg x4 (Cert.Ternary.eq_zero1 _)

/-- At a point that reads the scratch as the point before left it. -/
theorem out_hold (c : Dev nD) (t : Fin cfg0.N) (h : ¬t.val % 12 = 0) (y : S512x512.Idx) :
    (outsAt0 m c t.val t.isLt).1 y = tileOut m c t y := by
  have hs := scratch_eq m c ⟨t.val - 1, Nat.lt_of_le_of_lt (Nat.sub_le _ _) t.isLt⟩
  rw [block_same m c t _ (by show (t.val - 1) / 12 = _; omega)] at hs
  rw [outsAt0_B m c t h]; frame_out
  simp only [hs, read_scratch]
  canon_tiles x hx
  all_goals
    open_payloads
    simp only [chain_first, chain_step, Nat.reduceAdd]
    refine (tile_eq _ _ _ _ _ _ _ _ _ x y hx0 ?_ (by decide) _ (scale_ld _ _ _))
    omega

/-- At a point that unpacks first. -/
theorem out_write (c : Dev nD) (t : Fin cfg0.N) (h : t.val % 12 = 0) (y : S512x512.Idx) :
    (outsAt0 m c t.val t.isLt).1 y = tileOut m c t y := by
  have hs := scratch_eq m c t
  rw [outsAt0_A m c t h] at hs ⊢
  frame_out at hs
  frame_out
  simp only [readCov_ld]
  rw [hs]
  canon_tiles x hx
  all_goals
    open_payloads
    simp only [chain_first, chain_step, Nat.reduceAdd]
    refine (tile_eq _ _ _ _ _ _ _ _ _ x y hx0 ?_ (by decide) _ (scale_ld _ _ _))
    omega

end Cert.DownIdeal.Tile

end
-- ==== Proof.DownValue.lean ====
/-
  THE DOWN PROJECTION'S RESULT: the tiles the grid's points leave, put together over the whole result array, are the
  residual plus the ternary product of the argument arrays.
-/
module

public import proofs.«01_k».proof.Proof.DownTile
public import proofs.«01_k».proof.Proof.Gen.DownIdeal.Value

@[expose] public section

set_option maxRecDepth 16384

noncomputable section

namespace Cert.DownIdeal.Tile

open Cert.DownIdeal Cert.DownIdeal.Gen Cert.DownIdeal.Scratch Idealize.ShloMosaic Idealize.ShloMosaic.TcCoe Idealize.SL.Sem
open Cert.Ternary (unpacked dotUpTo addProduct bitlinear)

variable (m : (ℓ : Loc nD τ sig) → Buf (Elt Ideal) ℓ)

/-- What a point leaves in its output block, at every point. -/
theorem out_eq (c : Dev nD) (t : Fin cfg0.N) (y : S512x512.Idx) : (outsAt0 m c t.val t.isLt).1 y = tileOut m c t y := by
  by_cases h : t.val % 12 = 0
  · exact out_write m c t h y
  · exact out_hold m c t h y

/-- A tile whose blocks are read from the arrays at row `i 0` and column `i 1` is the down projection there. -/
theorem tile_eq_down {x0 x1 x2 x3 x4 X A W H S} (y : S512x512.Idx) (i : S6144x3584.Idx)
    (h0 : ∀ k : Fin 18944, x0 (ValueIdx.ix2 (y 0) k) = X (ValueIdx.ix2 (i 0) k))
    (h1 : ∀ l : Fin 128, x1 (ValueIdx.ix2 (y 0) l) = A (ValueIdx.ix2 (i 0) 0))
    (h2 : ∀ k : Fin 4736, x2 (ValueIdx.ix2 k (y 1)) = W (ValueIdx.ix2 k (i 1)))
    (h3 : x3 y = H i) (h4 : x4 (ValueIdx.ix1 0) = S (ValueIdx.ix1 0)) :
    tile x0 x1 x2 x3 x4 y = addProduct (by decide : 0 < 4736) X A W H S i := by
  unfold tile addProduct bitlinear
  rw [h3, h4, h1]
  refine congrArg (fun p : EReal => H i + p * A (ValueIdx.ix2 (i 0) 0) * S (ValueIdx.ix1 0)) ?_
  exact Cert.Ternary.dotUpTo_congr (M := 512) (M' := 6144) (N := 512) (N' := 3584) _ h0 fun k =>
    congrArg (fun b => Cert.Ternary.weight b (k.val / 4736)) (h2 _)

/-- THE KERNEL'S RESULT. -/
theorem final (c : Dev nD) : (dats m 0 c).arrAt 5 cfg0.N =
    addProduct (by decide : 0 < 4736) (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp; rw [after0_5, out_eq]
  have r0 : ((((cfg0.win 5).blk t).view.emb y) 0 : ℕ) = t.val % 12 * 512 + (y 0).val := by blk_simp [idx t]
  have r1 : ((((cfg0.win 5).blk t).view.emb y) 1 : ℕ) = t.val / 12 * 512 + (y 1).val := by blk_simp [idx t]
  refine tile_eq_down y _ (fun k => ?_) (fun l => ?_) (fun k => ?_) ?_ ?_
  · blk_point [iblk, V, idx t]; exact r0.symm
  · blk_point [iblk, V, idx t]; exact r0.symm
  · blk_point [iblk, V, idx t]; exact r1.symm
  · blk_point [iblk, V, idx t]
  · blk_point [iblk, V, idx t]

end Cert.DownIdeal.Tile

end
-- ==== Proof.DownRef.lean ====
/-
  THE DOWN PROJECTION'S REFERENCE: its four field products add up to the ternary product of the whole arrays, and its
  result is the residual plus the scaled product.
-/
module

public import proofs.«01_k».proof.Proof.Ternary
public import proofs.«01_k».proof.Proof.Gen.DownRefIdeal.Value
public import Idealize.ShloMosaic.Lib.Pipeline.ReadBack

@[expose] public section

set_option maxRecDepth 16384

noncomputable section

namespace Cert.DownRefIdeal.Ref

open Cert.DownRefIdeal Cert.DownRefIdeal.Gen Idealize.ShloMosaic Idealize.ShloMosaic.TcCoe Idealize.SL.Sem
open Cert.Ternary (addProduct ref_product)

variable (m : (ℓ : Loc nD τ sig) → Buf (Elt Ideal) ℓ)

/-- The reference's payload is the down projection. -/
theorem payload_eq (x : S6144x18944.Idx → BitVec 8) (a : S6144x1.Idx → EReal) (w : S4736x3584.Idx → BitVec 8) (h : S6144x3584.Idx → EReal)
    (s : EReal) (sv : S1.Idx → EReal) (hs : s = sv (ValueIdx.ix1 0)) (j : S6144x3584.Idx) :
    k0_pay1 (F := Ideal) h a s (k0_pay2 x) (k0_pay3 (F := Ideal) w) (k0_pay4 x w) j = addProduct (by decide : 0 < 4736) x a w h sv j := by
  subst hs
  have h4 : 0 < 4736 := by decide
  have ea : broadcastTo (α := EReal) S6144x3584 a broadcasts_S6144x1_S6144x3584 j = a (ValueIdx.ix2 (j 0) 0) := by
    pointwise; rfl
  exact congrArg₂ (fun p q : EReal => h j + p * q * sv (ValueIdx.ix1 0))
    (ref_product (by decide) x w 4736 9472 14208 rfl rfl rfl rfl slices_S6144x18944_o0_0_S6144x4736 slices_S6144x18944_o0_4736_S6144x4736
      slices_S6144x18944_o0_9472_S6144x4736 slices_S6144x18944_o0_14208_S6144x4736 natLt_8_32 natLt_8_32 j) ea

theorem idx : ∀ t : Fin cfg0.N, win0_0.index t = ![0, 0] ∧ win0_1.index t = ![0, 0] ∧ win0_2.index t = ![0, 0]
    ∧ win0_3.index t = ![0, 0] ∧ win0_4.index t = ![0] ∧ win0_5.index t = ![0, 0] :=
  (by decide +kernel : ∀ t : Fin grid0.N, _)

/-- THE REFERENCE'S RESULT. -/
theorem final (c : Dev nD) : (dats m 0 c).arrAt 5 cfg0.N =
    addProduct (by decide : 0 < 4736) (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_after_last 5 t0_0 (by decide +kernel) _ fun j => ?_
  blk_simp; rw [after0_5]; frame_out
  unfold outsAt0; frame_out
  simp only [read_unread_whole (Val := Elt Ideal)]
  have e0 : iblk m c 0 t0_0 = m ((c : Thread nD τ).loc main_arg0) := by blk_ext! [iblk, V, idx t0_0]
  have e1 : iblk m c 1 t0_0 = m ((c : Thread nD τ).loc main_arg1) := by blk_ext! [iblk, V, idx t0_0]
  have e2 : iblk m c 2 t0_0 = m ((c : Thread nD τ).loc main_arg2) := by blk_ext! [iblk, V, idx t0_0]
  have e3 : iblk m c 3 t0_0 = m ((c : Thread nD τ).loc main_arg3) := by blk_ext! [iblk, V, idx t0_0]
  have e4 : iblk m c 4 t0_0 = m ((c : Thread nD τ).loc main_arg4) := by blk_ext! [iblk, V, idx t0_0]
  rw [e0, e1, e2, e3, e4]
  exact payload_eq _ _ _ _ _ _ (congrArg _ (Cert.Ternary.eq_zero1 _)) _

end Cert.DownRefIdeal.Ref

end
-- ==== Proof.DownClaim.lean ====
/-
  THE DOWN PROJECTION'S VALUE CLAIM: kernel and reference both end at the residual plus the ternary product of their
  argument arrays.
-/
module

public import proofs.«01_k».proof.Defs
public import proofs.«01_k».proof.Proof.DownValue
public import proofs.«01_k».proof.Proof.DownRef
public import Idealize.ShloMosaic.Lib.Claim

@[expose] public section

noncomputable section

namespace Cert.Proof

open Idealize.ShloMosaic Idealize.ShloMosaic.TcCoe Idealize.SL.Sem

theorem algebraic_Down : Cert.algebraic_DownIdeal_DownRefIdeal (hDownIdeal := Cert.DownIdeal.Gen.facts) (hDownRefIdeal := Cert.DownRefIdeal.Gen.facts) := by
  intro m g m' g' _ hagree
  refine ⟨fun c => (Cert.DownIdeal.Gen.dats m 0 c).arrAt 5 Cert.DownIdeal.cfg0.N, Cert.DownIdeal.Value.run_blocks m g,
    (θ_run _ _ _).mono (fun r h c => ?_) (Cert.DownRefIdeal.Value.run_blocks m' g')⟩
  obtain ⟨h0, h1, h2, h3, h4⟩ := hagree c
  exact ⟨(h c).1.trans ((Cert.DownRefIdeal.Ref.final m' c).trans
    ((Cert.Ternary.addProduct_congr _ h0 h1 h2 h3 h4).trans (Cert.DownIdeal.Tile.final m c).symm)), (h c).2⟩

end Cert.Proof

end
-- ==== Proof.UpSteps.lean ====
module

public import proofs.«01_k».proof.Proof.Gen.UpIdeal.Frame
public import proofs.«01_k».proof.Proof.Gen.UpIdeal.Skeleton
public import Idealize.ShloMosaic.Lib.VecWindow

/-!
# The two short steps of the gate/up kernel's body

The body of the gate/up kernel is a sequence of conditional blocks. The first stores the codes of a row
block, as floats, before the first column tile; the last turns the running sums into the row's scales after
the last column tile. Each is stated here once, before any continuation.
-/

@[expose] public section

set_option maxRecDepth 16384

noncomputable section

namespace Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A buffer owned at its contents, with the words that it holds. -/
theorem owns_read (c : Thread nD τ) {sp : Space} {s : Shape} {e : EltTy} (m : Memref sig c.2.kind sp s e) (q : PosShare TreeShare)
    (x : s.Idx → Elt F e) :
    (owns c m q x : sProp 𝕄) ⊢ iprop(∃ f, ⌜m.view.read (Elt F) f = x⌝ ∗ m.view.loc c ↦[m.view.set]{q} f) := .rfl

/-- The condition of the first step: column tile 0 of a row block that exists. -/
abbrev firstTile (i : grid0.Coords) : BitVec 1 :=
  Scalar.cmpi .ne (Scalar.extui (Scalar.andi (Scalar.cmpi .eq (BitVec.ofNat 32 (i 1).val) 0#32)
    (Scalar.cmpi .slt (BitVec.ofNat 32 (i 0).val) 12#32)) : BitVec 32) 0#32

open Classical in
/-- What the first step leaves in the buffer of codes. -/
def lhsAfter (i : grid0.Coords) (x2 : Vec F S512x3584 .i8) (x11 : Vec F S512x3584 .bf16) :
    Vec F S512x3584 .bf16 := if firstTile i = 1#1 then k0_pay1 x2 else x11

/-- The first step. -/
theorem firstStep (c : Dev nD) (i : grid0.Coords) (arg2 : Memref sig .tc .vmem S512x3584 .i8)
    (harg2 : arg2.IsWhole) (arg11 : Memref sig .tc .vmem S512x3584 .bf16) (harg11 : arg11.IsWhole)
    (x2 : Vec F S512x3584 .i8) (x11 : Vec F S512x3584 .bf16) (E : Set ℕ)
    (κ : Prog (TpuEff nD τ sig (Elt F) Λ₀ .tc) PUnit) (K : PUnit → sProp 𝕄) :
    iprop(owns (c : Thread nD τ) arg2 fullShare x2 ∗ owns (c : Thread nD τ) arg11 fullShare x11
      ∗ (iprop(owns (c : Thread nD τ) arg2 fullShare x2
          ∗ owns (c : Thread nD τ) arg11 fullShare (lhsAfter i x2 x11))
        -∗ wp frame (wpE (defs₀ (F := F)) Variants.none c none) E κ K))
    ⊢ wp frame (wpE (defs₀ (F := F)) Variants.none c none) E
      (if k0_h1 : firstTile i = 1#1 then do
        let v21 : Vec F S512x3584 .i8 ← Prog.lift (.load arg2 (Rect.unit (s := S512x3584) ![0, 0] S512x3584.size inb_S512x3584_S512x3584_0_0).toLoadRect (View.loadsAt_vmem h_S512x3584))
        let v23 : Vec F S512x3584 .bf16 ← Prog.lift (.load arg11 (Rect.unit (s := S512x3584) ![0, 0] S512x3584.size inb_S512x3584_S512x3584_0_0).toLoadRect (View.loadsAt_vmem h_S512x3584))
        Prog.lift (.store arg11 (Rect.unit (s := S512x3584) ![0, 0] S512x3584.size inb_S512x3584_S512x3584_0_0) (k0_pay1 v21) Finset.univ (View.stores_vmem h_S512x3584 (harg11.storeExact_slice rfl _ packedbf16_S512x3584_S512x3584_0_0) (fun _ => rfl)) (.inl rfl))
        κ
      else κ) K := by
  unfold owns lhsAfter
  iintro ⟨⟨%f2, %hf2, H2⟩, ⟨%f11, %hf11, H11⟩, Hk⟩
  by_cases hc : firstTile i = 1#1
  · rw [if_pos hc]
    sl_exec (disch := first | sl_exact hc)
    iapply Hk
    isplitl [H2]
    · iexists _; isplitr; · ipureintro; exact hf2
      iexact H2
    iexists _; isplitr; rotate_left
    · iexact H11
    ipureintro
    exact (View.read_writes_full _ _ _ _ _).trans (congrArg k0_pay1 ((View.readAt_full _ _ _).trans hf2))
  · rw [if_neg hc]
    sl_exec (disch := first | sl_exact hc)
    iapply Hk
    isplitl [H2]
    · iexists _; isplitr; · ipureintro; exact hf2
      iexact H2
    iexists _; isplitr; · ipureintro; exact hf11
    iexact H11

open Classical in
/-- What the last step leaves in a buffer that held `x`: `y` after the last column tile, `x` before. -/
def atLast {α : Type} (i : grid0.Coords) (y x : α) : α := if k0_cond5 i = 1#1 then y else x

theorem atLast_atLast {α : Type} (i : grid0.Coords) (y z x : α) : atLast i (atLast i y z) x = atLast i y x := by
  unfold atLast; split <;> rfl

set_option maxHeartbeats 1000000 in
/-- The last step: from the sums of squares `x13` and the maxima `x14` it leaves the reciprocal roots in `arg15` and
`arg10` and the quantiser's scales in `arg16` and `arg9`. -/
theorem lastStep (c : Dev nD) (i : grid0.Coords) (arg9 : Memref sig .tc .vmem S512x128 .f32) (harg9 : arg9.IsWhole) (arg10 : Memref sig .tc .vmem S512x128 .f32) (harg10 : arg10.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole)
    (x9 : Vec F S512x128 .f32) (x10 : Vec F S512x128 .f32) (x13 : Vec F S512x128 .f32) (x14 : Vec F S512x128 .f32) (x15 : Vec F S512x128 .f32) (x16 : Vec F S512x128 .f32) (E : Set ℕ)
    (κ : Prog (TpuEff nD τ sig (Elt F) Λ₀ .tc) PUnit) (K : PUnit → sProp 𝕄) :
    iprop(owns (c : Thread nD τ) arg9 fullShare x9 ∗ owns (c : Thread nD τ) arg10 fullShare x10
      ∗ owns (c : Thread nD τ) arg13 fullShare x13 ∗ owns (c : Thread nD τ) arg14 fullShare x14
      ∗ owns (c : Thread nD τ) arg15 fullShare x15 ∗ owns (c : Thread nD τ) arg16 fullShare x16
      ∗ (iprop(owns (c : Thread nD τ) arg9 fullShare (atLast i (k0_pay15 x13 x14) x9)
          ∗ owns (c : Thread nD τ) arg10 fullShare (atLast i (k0_pay14 x13) x10)
          ∗ owns (c : Thread nD τ) arg13 fullShare x13 ∗ owns (c : Thread nD τ) arg14 fullShare x14
          ∗ owns (c : Thread nD τ) arg15 fullShare (atLast i (k0_pay14 x13) x15)
          ∗ owns (c : Thread nD τ) arg16 fullShare (atLast i (k0_pay15 x13 x14) x16))
        -∗ wp frame (wpE (defs₀ (F := F)) Variants.none c none) E κ K))
    ⊢ wp frame (wpE (defs₀ (F := F)) Variants.none c none) E
      (if k0_h5 : k0_cond5 i = 1#1 then do
        let v21 : Vec F S512x128 .f32 ← Prog.lift (.load arg13 (Rect.unit (s := S512x128) ![0, 0] S512x128.size inb_S512x128_S512x128_0_0).toLoadRect (View.loadsAt_vmem h_S512x128))
        let v29 : Vec F S512x128 .f32 ← Prog.lift (.load arg14 (Rect.unit (s := S512x128) ![0, 0] S512x128.size inb_S512x128_S512x128_0_0).toLoadRect (View.loadsAt_vmem h_S512x128))
        let v41 : Vec F S512x128 .f32 ← Prog.lift (.load arg15 (Rect.unit (s := S512x128) ![0, 0] S512x128.size inb_S512x128_S512x128_0_0).toLoadRect (View.loadsAt_vmem h_S512x128))
        Prog.lift (.store arg15 (Rect.unit (s := S512x128) ![0, 0] S512x128.size inb_S512x128_S512x128_0_0) (k0_pay14 v21) Finset.univ (View.stores_vmem_bits_univ h_S512x128 rfl) (.inl rfl))
        let v46 : Vec F S512x128 .f32 ← Prog.lift (.load arg16 (Rect.unit (s := S512x128) ![0, 0] S512x128.size inb_S512x128_S512x128_0_0).toLoadRect (View.loadsAt_vmem h_S512x128))
        Prog.lift (.store arg16 (Rect.unit (s := S512x128) ![0, 0] S512x128.size inb_S512x128_S512x128_0_0) (k0_pay15 v21 v29) Finset.univ (View.stores_vmem_bits_univ h_S512x128 rfl) (.inl rfl))
        let v49 : Vec F S512x128 .f32 ← Prog.lift (.load arg16 (Rect.unit (s := S512x128) ![0, 0] S512x128.size inb_S512x128_S512x128_0_0).toLoadRect (View.loadsAt_vmem h_S512x128))
        let v50 : Vec F S512x128 .f32 ← Prog.lift (.load arg9 (Rect.unit (s := S512x128) ![0, 0] S512x128.size inb_S512x128_S512x128_0_0).toLoadRect (View.loadsAt_vmem h_S512x128))
        Prog.lift (.store arg9 (Rect.unit (s := S512x128) ![0, 0] S512x128.size inb_S512x128_S512x128_0_0) v49 Finset.univ (View.stores_vmem_bits_univ h_S512x128 rfl) (.inl rfl))
        let v51 : Vec F S512x128 .f32 ← Prog.lift (.load arg15 (Rect.unit (s := S512x128) ![0, 0] S512x128.size inb_S512x128_S512x128_0_0).toLoadRect (View.loadsAt_vmem h_S512x128))
        let v52 : Vec F S512x128 .f32 ← Prog.lift (.load arg10 (Rect.unit (s := S512x128) ![0, 0] S512x128.size inb_S512x128_S512x128_0_0).toLoadRect (View.loadsAt_vmem h_S512x128))
        Prog.lift (.store arg10 (Rect.unit (s := S512x128) ![0, 0] S512x128.size inb_S512x128_S512x128_0_0) v51 Finset.univ (View.stores_vmem_bits_univ h_S512x128 rfl) (.inl rfl))
        κ
      else κ) K := by
  unfold owns atLast
  iintro ⟨⟨%f9, %hf9, H9⟩, ⟨%f10, %hf10, H10⟩, ⟨%f13, %hf13, H13⟩, ⟨%f14, %hf14, H14⟩, ⟨%f15, %hf15, H15⟩, ⟨%f16, %hf16, H16⟩, Hk⟩
  by_cases hc : k0_cond5 i = 1#1
  · simp only [if_pos hc]
    sl_exec (disch := first | sl_exact hc)
    iapply Hk
    have h13 := (View.readAt_full arg13.view f13 inb_S512x128_S512x128_0_0).trans hf13
    have h14 := (View.readAt_full arg14.view f14 inb_S512x128_S512x128_0_0).trans hf14
    have h14' := congrArg k0_pay14 h13
    have h15' := congrArg₂ k0_pay15 h13 h14
    isplitl [H9]
    · iexists _; isplitr; rotate_left
      · iexact H9
      ipureintro; exact (View.read_writes_full _ _ _ _ _).trans ((View.readAt_writes_full _ _ _ _ _ _).trans h15')
    isplitl [H10]
    · iexists _; isplitr; rotate_left
      · iexact H10
      ipureintro; exact (View.read_writes_full _ _ _ _ _).trans ((View.readAt_writes_full _ _ _ _ _ _).trans h14')
    isplitl [H13]
    · iexists _; isplitr; · ipureintro; exact hf13
      iexact H13
    isplitl [H14]
    · iexists _; isplitr; · ipureintro; exact hf14
      iexact H14
    isplitl [H15]
    · iexists _; isplitr; rotate_left
      · iexact H15
      ipureintro; exact (View.read_writes_full _ _ _ _ _).trans h14'
    iexists _; isplitr; rotate_left
    · iexact H16
    ipureintro; exact (View.read_writes_full _ _ _ _ _).trans h15'
  · simp only [if_neg hc]
    sl_exec (disch := first | sl_exact hc)
    iapply Hk
    isplitl [H9]
    · iexists _; isplitr; · ipureintro; exact hf9
      iexact H9
    isplitl [H10]
    · iexists _; isplitr; · ipureintro; exact hf10
      iexact H10
    isplitl [H13]
    · iexists _; isplitr; · ipureintro; exact hf13
      iexact H13
    isplitl [H14]
    · iexists _; isplitr; · ipureintro; exact hf14
      iexact H14
    isplitl [H15]
    · iexists _; isplitr; · ipureintro; exact hf15
      iexact H15
    iexists _; isplitr; · ipureintro; exact hf16
    iexact H16

end Cert.UpIdeal.Gen

end
-- ==== Proof.UpState.lean ====
module

public import proofs.«01_k».proof.Proof.UpSteps

/-!
# What one grid point of the gate/up kernel computes

The grid point in row `i` and column `j` multiplies row block `i` of the codes by column block `j` of the weights
(`product`), scales and activates it (`act`), keeps the result in page `j` of a scratch buffer and adds its squares
and its scaled maxima to two running buffers. It first turns the page that row block `i - 1` left into codes
(`code`). These are functions of the blocks and of the scratch before the point (`State`).
-/

@[expose] public section

set_option maxRecDepth 16384

noncomputable section

namespace Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The scratch that one grid point hands to the next. -/
structure State (F : FTy → Type) where
  /-- the codes of the row block, as floats -/
  lhs : Vec F S512x3584 .bf16
  /-- the activated products, one page for each column block -/
  pages : Vec F S37x512x512 .f32
  /-- the running sums of squares -/
  ssq : Vec F S512x128 .f32
  /-- the running maxima -/
  amax : Vec F S512x128 .f32
  /-- the reciprocal root of the last finished row block -/
  root : Vec F S512x128 .f32
  /-- the quantiser's scale of the last finished row block -/
  scale : Vec F S512x128 .f32

/-- Columns `o` to `o + 127` of the codes. -/
def cols (x : Vec F S512x3584 .bf16) (o : ℕ) (h : o + 128 ≤ 3584) : Vec F S512x128 .bf16 :=
  VecWindow.window x ![0, o] S512x128.size (Fin.forall_fin_two.mpr ⟨Nat.le_refl 512, h⟩)

/-- Rows `o` to `o + 127` of the packed weights. -/
def rows (w : Vec F S896x512 .i8) (o : ℕ) (h : o + 128 ≤ 896) : Vec F S128x512 .i8 :=
  VecWindow.window w ![o, 0] S128x512.size (Fin.forall_fin_two.mpr ⟨h, Nat.le_refl 512⟩)

/-- The product over packed rows `o` to `o + 127`: four fields, each against its own columns of the codes. -/
def chunk (x : Vec F S512x3584 .bf16) (w : Vec F S896x512 .i8) (o : ℕ) (h : o + 128 ≤ 896) : FVec F S512x512 .f32 :=
  k0_pay18 (k0_pay17 (rows w o h)) (cols x o (by omega)) (cols x (o + 896) (by omega)) (cols x (o + 1792) (by omega))
    (cols x (o + 2688) (by omega))

/-- The product of a row block and a column block. -/
def product (x : Vec F S512x3584 .bf16) (w : Vec F S896x512 .i8) : FVec F S512x512 .f32 :=
  addf (addf (addf (addf (addf (addf (chunk x w 0 (by decide)) (chunk x w 128 (by decide))) (chunk x w 256 (by decide)))
    (chunk x w 384 (by decide))) (chunk x w 512 (by decide))) (chunk x w 640 (by decide))) (chunk x w 768 (by decide))

/-- The one word of the weights' scale. -/
def scal (x7 : Vec F S1 .f32) : Elt F .f32 :=
  View.ld x7 (Rect.unit (s := S1) ![0] S1.size inb_S1_S1_0) (Shape.Idx.first (numel1_S1.symm ▸ Nat.one_pos))

/-- Columns `o` to `o + 127` of a row of gains. -/
def gain (g : Vec F S1x512 .f32) (o : ℕ) (h : o + 128 ≤ 512) : Vec F S1x128 .f32 :=
  VecWindow.window g ![0, o] S1x128.size (Fin.forall_fin_two.mpr ⟨Nat.le_refl 1, h⟩)

/-- Columns `o` to `o + 127` of the product, scaled, cut off at zero and squared. -/
def act (p : FVec F S512x512 .f32) (a : FVec F S512x128 .f32) (s : Elt F .f32) (o : ℕ) (h : S512x512.Slices ![0, o] S512x128) :
    FVec F S512x128 .f32 :=
  k0_pay52 (mulf (mulf (extractStridedSlice S512x128 ![0, o] p h) a) (broadcast S512x128 s))

/-- The four column tiles of the activated product, one after the other. -/
def acts (x3 : Vec F S512x128 .f32) (x4 : Vec F S896x512 .i8) (x7 : Vec F S1 .f32) (lhs : Vec F S512x3584 .bf16)
    (o : ℕ) (h : S512x512.Slices ![0, o] S512x128) : FVec F S512x128 .f32 :=
  act (product lhs x4) (k0_pay16 x3) (scal x7) o h

/-- Where columns `o` to `o + 127` of page `j` start. -/
abbrev pageAt (i : grid0.Coords) (o : ℕ) : Fin 3 → ℕ := ![(i 1).val, 0, o]

theorem page_inb (i : grid0.Coords) (o : ℕ) (h : o + 128 ≤ 512) :
    ∀ a : Fin 3, pageAt i o a + S1x512x128.size a ≤ S37x512x512.size a := by
  have := (i 1).isLt
  have h1 : (i 1).val + 1 ≤ 37 := this
  rw [Fin.forall_fin_succ, Fin.forall_fin_two]
  exact ⟨h1, Nat.le_refl 512, h⟩

/-- The page with the four column tiles written. -/
def pagesAfter (i : grid0.Coords) (t : (o : ℕ) → S512x512.Slices ![0, o] S512x128 → FVec F S512x128 .f32)
    (m : Vec F S37x512x512 .f32) : Vec F S37x512x512 .f32 :=
  VecWindow.put (VecWindow.put (VecWindow.put (VecWindow.put m
    (pageAt i 0) S1x512x128.size (k0_pay2 (t 0 slices_S512x512_o0_0_S512x128)))
    (pageAt i 128) S1x512x128.size (k0_pay2 (t 128 slices_S512x512_o0_128_S512x128)))
    (pageAt i 256) S1x512x128.size (k0_pay2 (t 256 slices_S512x512_o0_256_S512x128)))
    (pageAt i 384) S1x512x128.size (k0_pay2 (t 384 slices_S512x512_o0_384_S512x128))

/-- The sums of squares with the squares of the four column tiles added. -/
def ssqAfter (i : grid0.Coords) (t : (o : ℕ) → S512x512.Slices ![0, o] S512x128 → FVec F S512x128 .f32)
    (q : Vec F S512x128 .f32) : Vec F S512x128 .f32 :=
  shapeCast S512x128 (addf (addf (addf (addf (k0_pay49 (BitVec.ofNat 32 (i 1).val) q)
    (mulf (t 0 slices_S512x512_o0_0_S512x128) (t 0 slices_S512x512_o0_0_S512x128)))
    (mulf (t 128 slices_S512x512_o0_128_S512x128) (t 128 slices_S512x512_o0_128_S512x128)))
    (mulf (t 256 slices_S512x512_o0_256_S512x128) (t 256 slices_S512x512_o0_256_S512x128)))
    (mulf (t 384 slices_S512x512_o0_384_S512x128) (t 384 slices_S512x512_o0_384_S512x128)))
    shapeCasts_S512x128_S512x128

/-- The magnitude of a column tile times its gains. -/
def mag (t : FVec F S512x128 .f32) (g : Vec F S1x128 .f32) : FVec F S512x128 .f32 :=
  absf (mulf t (broadcastTo S512x128 g broadcasts_S1x128_S512x128))

/-- The maxima with the magnitudes of the four column tiles taken in. -/
def amaxAfter (i : grid0.Coords) (x5 : Vec F S1x512 .f32)
    (t : (o : ℕ) → S512x512.Slices ![0, o] S512x128 → FVec F S512x128 .f32)
    (q : Vec F S512x128 .f32) : Vec F S512x128 .f32 :=
  shapeCast S512x128 (maximumf (maximumf (maximumf (maximumf (k0_pay49 (BitVec.ofNat 32 (i 1).val) q)
    (mag (t 0 slices_S512x512_o0_0_S512x128) (gain x5 0 (by decide))))
    (mag (t 128 slices_S512x512_o0_128_S512x128) (gain x5 128 (by decide))))
    (mag (t 256 slices_S512x512_o0_256_S512x128) (gain x5 256 (by decide))))
    (mag (t 384 slices_S512x512_o0_384_S512x128) (gain x5 384 (by decide))))
    shapeCasts_S512x128_S512x128

/-- The codes of columns `o` to `o + 127` of the page, with the scratch's root and scale. -/
def code (i : grid0.Coords) (x6 : Vec F S1x512 .f32) (s : State F) (o : ℕ) (h : o + 128 ≤ 512) : IVec S512x128 8 :=
  k0_pay59 s.root s.scale (VecWindow.window s.pages (pageAt i o) S1x512x128.size (page_inb i o h)) (gain x6 o h)

/-- The block of codes that a point which quantises writes. -/
def codes (i : grid0.Coords) (x6 : Vec F S1x512 .f32) (s : State F) (x8 : Vec F S512x512 .i8) : Vec F S512x512 .i8 :=
  VecWindow.put (VecWindow.put (VecWindow.put (VecWindow.put x8
    ![0, 0] S512x128.size (code i x6 s 0 (by decide))) ![0, 128] S512x128.size (code i x6 s 128 (by decide)))
    ![0, 256] S512x128.size (code i x6 s 256 (by decide))) ![0, 384] S512x128.size (code i x6 s 384 (by decide))

open Classical in
/-- The scratch after the first step. -/
def State.first (i : grid0.Coords) (x2 : Vec F S512x3584 .i8) (s : State F) : State F :=
  { s with lhs := lhsAfter i x2 s.lhs }

open Classical in
/-- The scratch after the multiplication, which the points of the first twelve rows carry out. -/
def State.mul (i : grid0.Coords) (x3 : Vec F S512x128 .f32) (x4 : Vec F S896x512 .i8) (x5 : Vec F S1x512 .f32)
    (x7 : Vec F S1 .f32) (s : State F) : State F :=
  if (i 0).val < 12 then
    { s with
      pages := pagesAfter i (acts x3 x4 x7 s.lhs) s.pages
      ssq := ssqAfter i (acts x3 x4 x7 s.lhs) s.ssq
      amax := amaxAfter i x5 (acts x3 x4 x7 s.lhs) s.amax }
  else s

/-- The scratch after the last step. -/
def State.last (i : grid0.Coords) (s : State F) : State F :=
  { s with root := atLast i (k0_pay14 s.ssq) s.root, scale := atLast i (k0_pay15 s.ssq s.amax) s.scale }

/-- The scratch after the point. -/
def State.next (i : grid0.Coords) (x2 : Vec F S512x3584 .i8) (x3 : Vec F S512x128 .f32) (x4 : Vec F S896x512 .i8)
    (x5 : Vec F S1x512 .f32) (x7 : Vec F S1 .f32) (s : State F) : State F :=
  ((s.first i x2).mul i x3 x4 x5 x7).last i

open Classical in
/-- The block of codes after the point: written by the points of every row but the first. -/
def codesAfter (i : grid0.Coords) (x6 : Vec F S1x512 .f32) (s : State F) (x8 : Vec F S512x512 .i8) : Vec F S512x512 .i8 :=
  if 0 < (i 0).val then codes i x6 s x8 else x8

/-- The first block of the grid is multiplied. -/
theorem cond2_iff (i : grid0.Coords) : k0_cond2 i = 1#1 ↔ (i 0).val = 0 :=
  (by decide : ∀ a : Fin 13, Scalar.cmpi .ne (Scalar.extui (Scalar.cmpi .eq (BitVec.ofNat 32 a.val) 0#32) : BitVec 32) 0#32 = 1#1
    ↔ a.val = 0) (i 0)

/-- Blocks 1 to 11 are multiplied and the block before is quantised. -/
theorem cond3_iff (i : grid0.Coords) : k0_cond3 i = 1#1 ↔ 0 < (i 0).val ∧ (i 0).val < 12 :=
  (by decide : ∀ a : Fin 13, Scalar.cmpi .ne (Scalar.extui (Scalar.andi (Scalar.cmpi .sgt (BitVec.ofNat 32 a.val) 0#32)
    (Scalar.cmpi .slt (BitVec.ofNat 32 a.val) 12#32)) : BitVec 32) 0#32 = 1#1 ↔ 0 < a.val ∧ a.val < 12) (i 0)

/-- In the last row the last block is quantised. -/
theorem cond4_iff (i : grid0.Coords) : k0_cond4 i = 1#1 ↔ (i 0).val = 12 :=
  (by decide : ∀ a : Fin 13, Scalar.cmpi .ne (Scalar.extui (Scalar.cmpi .eq (BitVec.ofNat 32 a.val) 12#32) : BitVec 32) 0#32 = 1#1
    ↔ a.val = 12) (i 0)

/-- The last step is at the last column of a row block. -/
theorem cond5_iff (i : grid0.Coords) : k0_cond5 i = 1#1 ↔ (i 1).val = 36 ∧ (i 0).val < 12 :=
  (by decide +kernel : ∀ (b : Fin 37) (a : Fin 13), Scalar.cmpi .ne (Scalar.extui (Scalar.andi
    (Scalar.cmpi .eq (BitVec.ofNat 32 b.val) 36#32) (Scalar.cmpi .slt (BitVec.ofNat 32 a.val) 12#32)) : BitVec 32) 0#32 = 1#1
    ↔ b.val = 36 ∧ a.val < 12) (i 1) (i 0)

/-- The first step is at the first column of a row block. -/
theorem firstTile_iff (i : grid0.Coords) : firstTile i = 1#1 ↔ (i 1).val = 0 ∧ (i 0).val < 12 :=
  (by decide +kernel : ∀ (b : Fin 37) (a : Fin 13), Scalar.cmpi .ne (Scalar.extui (Scalar.andi
    (Scalar.cmpi .eq (BitVec.ofNat 32 b.val) 0#32) (Scalar.cmpi .slt (BitVec.ofNat 32 a.val) 12#32)) : BitVec 32) 0#32 = 1#1
    ↔ b.val = 0 ∧ a.val < 12) (i 1) (i 0)

/-- The kernel's word for the page is the grid's column. -/
theorem page_word (i : grid0.Coords) : (Scalar.indexCast (BitVec.ofNat 32 (i 1).val) : Index).toNat = (i 1).val :=
  (by decide +kernel : ∀ b : Fin 37, (Scalar.indexCast (BitVec.ofNat 32 b.val) : Index).toNat = b.val) (i 1)

theorem pageAt_eq (i : grid0.Coords) (o : ℕ) :
    (![(Scalar.indexCast (BitVec.ofNat 32 (i 1).val) : Index).toNat, 0, o] : Fin 3 → ℕ) = pageAt i o := by
  rw [page_word]

/-- A load of columns `o` to `o + 127` of the point's page. -/
theorem page_load (i : grid0.Coords) (o : ℕ) (h : o + 128 ≤ 512) {off : Fin 3 → ℕ} (hoff : off = pageAt i o)
    (inb : ∀ a : Fin 3, off a + S1x512x128.size a ≤ S37x512x512.size a) (m : Vec F S37x512x512 .f32) :
    View.ld m (Rect.unit (s := S37x512x512) off S1x512x128.size inb)
      = VecWindow.window m (pageAt i o) S1x512x128.size (page_inb i o h) := by
  subst hoff; rfl

/-! The codes of the four column tiles are one function of the page's tile and the gains. -/

theorem code_pay59 (r s : Vec F S512x128 .f32) {z z' : Vec F S1x512x128 .f32} (g : Vec F S1x128 .f32) (h : z = z') :
    k0_pay59 r s z g = k0_pay59 r s z' g := by subst h; rfl

theorem code_pay60 (r s : Vec F S512x128 .f32) {z z' : Vec F S1x512x128 .f32} (g : Vec F S1x128 .f32) (h : z = z') :
    k0_pay60 r s z g = k0_pay59 r s z' g := by subst h; rfl

theorem code_pay62 (r s : Vec F S512x128 .f32) {z z' : Vec F S1x512x128 .f32} (g : Vec F S1x128 .f32) (h : z = z') :
    k0_pay62 s (k0_pay61 r z) g = k0_pay59 r s z' g := by subst h; rfl

theorem code_pay63 (r s : Vec F S512x128 .f32) {z z' : Vec F S1x512x128 .f32} (g : Vec F S1x128 .f32) (h : z = z') :
    k0_pay63 r s z g = k0_pay59 r s z' g := by subst h; rfl

theorem code_pay98 (r s : Vec F S512x128 .f32) {z z' : Vec F S1x512x128 .f32} (g : Vec F S1x128 .f32) (h : z = z') :
    k0_pay98 r s z g = k0_pay59 r s z' g := by subst h; rfl

theorem code_pay99 (r s : Vec F S512x128 .f32) {z z' : Vec F S1x512x128 .f32} (g : Vec F S1x128 .f32) (h : z = z') :
    k0_pay99 r s z g = k0_pay59 r s z' g := by subst h; rfl

theorem code_pay11 (r s : Vec F S512x128 .f32) {z z' : Vec F S1x512x128 .f32} (g : Vec F S1x128 .f32) (h : z = z') :
    k0_pay11 s (k0_pay100 r z) g = k0_pay59 r s z' g := by subst h; rfl

theorem code_pay12 (r s : Vec F S512x128 .f32) {z z' : Vec F S1x512x128 .f32} (g : Vec F S1x128 .f32) (h : z = z') :
    k0_pay12 r s z g = k0_pay59 r s z' g := by subst h; rfl

end Cert.UpIdeal.Gen

end
-- ==== Proof.UpBodyB.lean ====
module

public import proofs.«01_k».proof.Proof.UpState

/-!
# The gate/up kernel's body at the points of the first row of the grid

From its blocks and the scratch `s` the body leaves the scratch `s.next`, the codes `codesAfter` and, at the last
column, the row block's scales and roots.
-/

@[expose] public section

set_option maxRecDepth 16384

noncomputable section

namespace Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 1000000 in
/-- The body at the points of the first row of the grid. -/
theorem bodyB (c : Dev nD) (i : grid0.Coords) (arg2 : Memref sig .tc .vmem S512x3584 .i8) (harg2 : arg2.IsWhole) (arg3 : Memref sig .tc .vmem S512x128 .f32) (harg3 : arg3.IsWhole) (arg4 : Memref sig .tc .vmem S896x512 .i8) (harg4 : arg4.IsWhole) (arg5 : Memref sig .tc .vmem S1x512 .f32) (harg5 : arg5.IsWhole) (arg6 : Memref sig .tc .vmem S1x512 .f32) (harg6 : arg6.IsWhole) (arg7 : Memref sig .tc .smem S1 .f32) (harg7 : arg7.IsWhole) (arg8 : Memref sig .tc .vmem S512x512 .i8) (harg8 : arg8.IsWhole) (arg9 : Memref sig .tc .vmem S512x128 .f32) (harg9 : arg9.IsWhole) (arg10 : Memref sig .tc .vmem S512x128 .f32) (harg10 : arg10.IsWhole) (arg11 : Memref sig .tc .vmem S512x3584 .bf16) (harg11 : arg11.IsWhole) (arg12 : Memref sig .tc .vmem S37x512x512 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole)
    (hi : (i 0).val = 0) (x2 : Vec F S512x3584 .i8) (x3 : Vec F S512x128 .f32) (x4 : Vec F S896x512 .i8) (x5 : Vec F S1x512 .f32) (x6 : Vec F S1x512 .f32) (x7 : Vec F S1 .f32) (x8 : Vec F S512x512 .i8) (x9 : Vec F S512x128 .f32) (x10 : Vec F S512x128 .f32) (s : State F) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare s.lhs ∗ owns (c : Thread nD τ) arg12 fullShare s.pages ∗ owns (c : Thread nD τ) arg13 fullShare s.ssq ∗ owns (c : Thread nD τ) arg14 fullShare s.amax ∗ owns (c : Thread nD τ) arg15 fullShare s.root ∗ owns (c : Thread nD τ) arg16 fullShare s.scale ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (codesAfter i x6 s x8) ∗ owns (c : Thread nD τ) arg9 fullShare (atLast i (s.next i x2 x3 x4 x5 x7).scale x9) ∗ owns (c : Thread nD τ) arg10 fullShare (atLast i (s.next i x2 x3 x4 x5 x7).root x10) ∗ owns (c : Thread nD τ) arg11 fullShare (s.next i x2 x3 x4 x5 x7).lhs ∗ owns (c : Thread nD τ) arg12 fullShare (s.next i x2 x3 x4 x5 x7).pages ∗ owns (c : Thread nD τ) arg13 fullShare (s.next i x2 x3 x4 x5 x7).ssq ∗ owns (c : Thread nD τ) arg14 fullShare (s.next i x2 x3 x4 x5 x7).amax ∗ owns (c : Thread nD τ) arg15 fullShare (s.next i x2 x3 x4 x5 x7).root ∗ owns (c : Thread nD τ) arg16 fullShare (s.next i x2 x3 x4 x5 x7).scale) -∗ K ⟨⟩))
    ⊢ wp frame (wpE (defs₀ (F := F)) Variants.none c none) E (cc0_up i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have hB : k0_cond2 i = 1#1 := (cond2_iff i).mpr hi
  have hC : ¬ k0_cond3 i = 1#1 := fun h => absurd ((cond3_iff i).mp h).1 (by omega)
  have hD : ¬ k0_cond4 i = 1#1 := fun h => absurd ((cond4_iff i).mp h) (by omega)
  obtain ⟨lhs, pages, ssq, amax, root, scale⟩ := s
  rw [cc0_up_eq_skeleton]; unfold cc0_up_skel
  refine BIBase.Entails.trans ?_ (firstStep c i arg2 harg2 arg11 harg11 x2 lhs E _ K)
  iintro ⟨H2, H3, H4, H5, H6, H7, H8, H9, H10, H11, H12, H13, H14, H15, H16, Hk⟩
  isplitl [H2]; · iexact H2
  isplitl [H11]; · iexact H11
  iintro ⟨H2, H11⟩
  simp only [State.next, State.first, State.mul, State.last, codesAfter, atLast_atLast, if_pos (show (i 0).val < 12 by omega), if_neg (show ¬ 0 < (i 0).val by omega)]
  generalize lhsAfter i x2 lhs = lhs
  icases (owns_read c arg2 fullShare _) $$ H2 with ⟨%f2, %hf2, H2⟩
  icases (owns_read c arg3 fullShare _) $$ H3 with ⟨%f3, %hf3, H3⟩
  icases (owns_read c arg4 fullShare _) $$ H4 with ⟨%f4, %hf4, H4⟩
  icases (owns_read c arg5 fullShare _) $$ H5 with ⟨%f5, %hf5, H5⟩
  icases (owns_read c arg6 fullShare _) $$ H6 with ⟨%f6, %hf6, H6⟩
  icases (owns_read c arg7 fullShare _) $$ H7 with ⟨%f7, %hf7, H7⟩
  icases (owns_read c arg8 fullShare _) $$ H8 with ⟨%f8, %hf8, H8⟩
  icases (owns_read c arg11 fullShare _) $$ H11 with ⟨%f11, %hf11, H11⟩
  icases (owns_read c arg12 fullShare _) $$ H12 with ⟨%f12, %hf12, H12⟩
  icases (owns_read c arg13 fullShare _) $$ H13 with ⟨%f13, %hf13, H13⟩
  icases (owns_read c arg14 fullShare _) $$ H14 with ⟨%f14, %hf14, H14⟩
  simp -zeta only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  sl_exec (disch := first | sl_exact hB | sl_exact hC | sl_exact hD)
  obtain rfl := (View.readAt_full arg3.view f3 inb_S512x128_S512x128_0_0).trans hf3
  obtain rfl := (View.readAt_full arg13.view f13 inb_S512x128_S512x128_0_0).trans hf13
  obtain rfl := (View.readAt_full arg14.view f14 inb_S512x128_S512x128_0_0).trans hf14
  subst hf2 hf4 hf5 hf6 hf7 hf8 hf11 hf12
  iapply (lastStep c i arg9 harg9 arg10 harg10 arg13 harg13 arg14 harg14 arg15 harg15 arg16 harg16 x9 x10 (ssqAfter i (acts (View.readAt (Elt F) arg3.view (Rect.unit ![0, 0] S512x128.size inb_S512x128_S512x128_0_0).toLoadRect f3) (View.read (Elt F) arg4.view f4) (View.read (Elt F) arg7.view f7) (View.read (Elt F) arg11.view f11)) (View.readAt (Elt F) arg13.view (Rect.unit ![0, 0] S512x128.size inb_S512x128_S512x128_0_0).toLoadRect f13)) (amaxAfter i (View.read (Elt F) arg5.view f5) (acts (View.readAt (Elt F) arg3.view (Rect.unit ![0, 0] S512x128.size inb_S512x128_S512x128_0_0).toLoadRect f3) (View.read (Elt F) arg4.view f4) (View.read (Elt F) arg7.view f7) (View.read (Elt F) arg11.view f11)) (View.readAt (Elt F) arg14.view (Rect.unit ![0, 0] S512x128.size inb_S512x128_S512x128_0_0).toLoadRect f14)) root scale E _ K)
  isplitl [H9]; · iexact H9
  isplitl [H10]; · iexact H10
  isplitl [H13]
  · unfold owns; iexists _; isplitr; rotate_left
    · iexact H13
    ipureintro; exact (View.read_writes_full _ _ _ _ _).trans rfl
  isplitl [H14]
  · unfold owns; iexists _; isplitr; rotate_left
    · iexact H14
    ipureintro; exact (View.read_writes_full _ _ _ _ _).trans rfl
  isplitl [H15]; · iexact H15
  isplitl [H16]; · iexact H16
  iintro ⟨H9, H10, H13, H14, H15, H16⟩
  iapply (le_wp_ret _ _ E PUnit.unit K)
  iapply Hk
  isplitl [H2]
  · unfold owns; iexists _; isplitr; rotate_left
    · iexact H2
    ipureintro; exact rfl
  isplitl [H3]
  · unfold owns; iexists _; isplitr; rotate_left
    · iexact H3
    ipureintro; exact hf3
  isplitl [H4]
  · unfold owns; iexists _; isplitr; rotate_left
    · iexact H4
    ipureintro; exact rfl
  isplitl [H5]
  · unfold owns; iexists _; isplitr; rotate_left
    · iexact H5
    ipureintro; exact rfl
  isplitl [H6]
  · unfold owns; iexists _; isplitr; rotate_left
    · iexact H6
    ipureintro; exact rfl
  isplitl [H7]
  · unfold owns; iexists _; isplitr; rotate_left
    · iexact H7
    ipureintro; exact rfl
  isplitl [H8]
  · unfold owns; iexists _; isplitr; rotate_left
    · iexact H8
    ipureintro; exact rfl
  isplitl [H9]; · iexact H9
  isplitl [H10]; · iexact H10
  isplitl [H11]
  · unfold owns; iexists _; isplitr; rotate_left
    · iexact H11
    ipureintro; exact rfl
  isplitl [H12]
  · unfold owns; iexists _; isplitr; rotate_left
    · iexact H12
    ipureintro; exact (View.read_writes_cons_put _ _ _ _ _ (pageAt_eq i 384)).trans (congrArg₂ (fun z w => VecWindow.put z _ _ w) ((View.read_writes_cons_put _ _ _ _ _ (pageAt_eq i 256)).trans (congrArg₂ (fun z w => VecWindow.put z _ _ w) ((View.read_writes_cons_put _ _ _ _ _ (pageAt_eq i 128)).trans (congrArg₂ (fun z w => VecWindow.put z _ _ w) ((View.read_writes_cons_put _ _ _ _ _ (pageAt_eq i 0)).trans (congrArg₂ (fun z w => VecWindow.put z _ _ w) (rfl) rfl)) rfl)) rfl)) rfl)
  isplitl [H13]; · iexact H13
  isplitl [H14]; · iexact H14
  isplitl [H15]; · iexact H15
  iexact H16

end Cert.UpIdeal.Gen

end
-- ==== Proof.UpBodyC.lean ====
module

public import proofs.«01_k».proof.Proof.UpState

/-!
# The gate/up kernel's body at the points of rows 1 to 11 of the grid

From its blocks and the scratch `s` the body leaves the scratch `s.next`, the codes `codesAfter` and, at the last
column, the row block's scales and roots.
-/

@[expose] public section

set_option maxRecDepth 16384

noncomputable section

namespace Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 1000000 in
/-- The body at the points of rows 1 to 11 of the grid. -/
theorem bodyC (c : Dev nD) (i : grid0.Coords) (arg2 : Memref sig .tc .vmem S512x3584 .i8) (harg2 : arg2.IsWhole) (arg3 : Memref sig .tc .vmem S512x128 .f32) (harg3 : arg3.IsWhole) (arg4 : Memref sig .tc .vmem S896x512 .i8) (harg4 : arg4.IsWhole) (arg5 : Memref sig .tc .vmem S1x512 .f32) (harg5 : arg5.IsWhole) (arg6 : Memref sig .tc .vmem S1x512 .f32) (harg6 : arg6.IsWhole) (arg7 : Memref sig .tc .smem S1 .f32) (harg7 : arg7.IsWhole) (arg8 : Memref sig .tc .vmem S512x512 .i8) (harg8 : arg8.IsWhole) (arg9 : Memref sig .tc .vmem S512x128 .f32) (harg9 : arg9.IsWhole) (arg10 : Memref sig .tc .vmem S512x128 .f32) (harg10 : arg10.IsWhole) (arg11 : Memref sig .tc .vmem S512x3584 .bf16) (harg11 : arg11.IsWhole) (arg12 : Memref sig .tc .vmem S37x512x512 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole)
    (hi : 0 < (i 0).val ∧ (i 0).val < 12) (x2 : Vec F S512x3584 .i8) (x3 : Vec F S512x128 .f32) (x4 : Vec F S896x512 .i8) (x5 : Vec F S1x512 .f32) (x6 : Vec F S1x512 .f32) (x7 : Vec F S1 .f32) (x8 : Vec F S512x512 .i8) (x9 : Vec F S512x128 .f32) (x10 : Vec F S512x128 .f32) (s : State F) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare s.lhs ∗ owns (c : Thread nD τ) arg12 fullShare s.pages ∗ owns (c : Thread nD τ) arg13 fullShare s.ssq ∗ owns (c : Thread nD τ) arg14 fullShare s.amax ∗ owns (c : Thread nD τ) arg15 fullShare s.root ∗ owns (c : Thread nD τ) arg16 fullShare s.scale ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (codesAfter i x6 s x8) ∗ owns (c : Thread nD τ) arg9 fullShare (atLast i (s.next i x2 x3 x4 x5 x7).scale x9) ∗ owns (c : Thread nD τ) arg10 fullShare (atLast i (s.next i x2 x3 x4 x5 x7).root x10) ∗ owns (c : Thread nD τ) arg11 fullShare (s.next i x2 x3 x4 x5 x7).lhs ∗ owns (c : Thread nD τ) arg12 fullShare (s.next i x2 x3 x4 x5 x7).pages ∗ owns (c : Thread nD τ) arg13 fullShare (s.next i x2 x3 x4 x5 x7).ssq ∗ owns (c : Thread nD τ) arg14 fullShare (s.next i x2 x3 x4 x5 x7).amax ∗ owns (c : Thread nD τ) arg15 fullShare (s.next i x2 x3 x4 x5 x7).root ∗ owns (c : Thread nD τ) arg16 fullShare (s.next i x2 x3 x4 x5 x7).scale) -∗ K ⟨⟩))
    ⊢ wp frame (wpE (defs₀ (F := F)) Variants.none c none) E (cc0_up i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have hB : ¬ k0_cond2 i = 1#1 := fun h => absurd ((cond2_iff i).mp h) (by omega)
  have hC : k0_cond3 i = 1#1 := (cond3_iff i).mpr hi
  have hD : ¬ k0_cond4 i = 1#1 := fun h => absurd ((cond4_iff i).mp h) (by omega)
  obtain ⟨lhs, pages, ssq, amax, root, scale⟩ := s
  rw [cc0_up_eq_skeleton]; unfold cc0_up_skel
  refine BIBase.Entails.trans ?_ (firstStep c i arg2 harg2 arg11 harg11 x2 lhs E _ K)
  iintro ⟨H2, H3, H4, H5, H6, H7, H8, H9, H10, H11, H12, H13, H14, H15, H16, Hk⟩
  isplitl [H2]; · iexact H2
  isplitl [H11]; · iexact H11
  iintro ⟨H2, H11⟩
  simp only [State.next, State.first, State.mul, State.last, codesAfter, atLast_atLast, if_pos (show (i 0).val < 12 by omega), if_pos (show 0 < (i 0).val by omega)]
  generalize lhsAfter i x2 lhs = lhs
  icases (owns_read c arg2 fullShare _) $$ H2 with ⟨%f2, %hf2, H2⟩
  icases (owns_read c arg3 fullShare _) $$ H3 with ⟨%f3, %hf3, H3⟩
  icases (owns_read c arg4 fullShare _) $$ H4 with ⟨%f4, %hf4, H4⟩
  icases (owns_read c arg5 fullShare _) $$ H5 with ⟨%f5, %hf5, H5⟩
  icases (owns_read c arg6 fullShare _) $$ H6 with ⟨%f6, %hf6, H6⟩
  icases (owns_read c arg7 fullShare _) $$ H7 with ⟨%f7, %hf7, H7⟩
  icases (owns_read c arg8 fullShare _) $$ H8 with ⟨%f8, %hf8, H8⟩
  icases (owns_read c arg11 fullShare _) $$ H11 with ⟨%f11, %hf11, H11⟩
  icases (owns_read c arg12 fullShare _) $$ H12 with ⟨%f12, %hf12, H12⟩
  icases (owns_read c arg13 fullShare _) $$ H13 with ⟨%f13, %hf13, H13⟩
  icases (owns_read c arg14 fullShare _) $$ H14 with ⟨%f14, %hf14, H14⟩
  icases (owns_read c arg15 fullShare _) $$ H15 with ⟨%f15, %hf15, H15⟩
  icases (owns_read c arg16 fullShare _) $$ H16 with ⟨%f16, %hf16, H16⟩
  simp -zeta only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  sl_exec (disch := first | sl_exact hB | sl_exact hC | sl_exact hD)
  obtain rfl := (View.readAt_full arg3.view f3 inb_S512x128_S512x128_0_0).trans hf3
  obtain rfl := (View.readAt_full arg13.view f13 inb_S512x128_S512x128_0_0).trans hf13
  obtain rfl := (View.readAt_full arg14.view f14 inb_S512x128_S512x128_0_0).trans hf14
  obtain rfl := (View.readAt_full arg15.view f15 inb_S512x128_S512x128_0_0).trans hf15
  obtain rfl := (View.readAt_full arg16.view f16 inb_S512x128_S512x128_0_0).trans hf16
  subst hf2 hf4 hf5 hf6 hf7 hf8 hf11 hf12
  iapply (lastStep c i arg9 harg9 arg10 harg10 arg13 harg13 arg14 harg14 arg15 harg15 arg16 harg16 x9 x10 (ssqAfter i (acts (View.readAt (Elt F) arg3.view (Rect.unit ![0, 0] S512x128.size inb_S512x128_S512x128_0_0).toLoadRect f3) (View.read (Elt F) arg4.view f4) (View.read (Elt F) arg7.view f7) (View.read (Elt F) arg11.view f11)) (View.readAt (Elt F) arg13.view (Rect.unit ![0, 0] S512x128.size inb_S512x128_S512x128_0_0).toLoadRect f13)) (amaxAfter i (View.read (Elt F) arg5.view f5) (acts (View.readAt (Elt F) arg3.view (Rect.unit ![0, 0] S512x128.size inb_S512x128_S512x128_0_0).toLoadRect f3) (View.read (Elt F) arg4.view f4) (View.read (Elt F) arg7.view f7) (View.read (Elt F) arg11.view f11)) (View.readAt (Elt F) arg14.view (Rect.unit ![0, 0] S512x128.size inb_S512x128_S512x128_0_0).toLoadRect f14)) (View.readAt (Elt F) arg15.view (Rect.unit ![0, 0] S512x128.size inb_S512x128_S512x128_0_0).toLoadRect f15) (View.readAt (Elt F) arg16.view (Rect.unit ![0, 0] S512x128.size inb_S512x128_S512x128_0_0).toLoadRect f16) E _ K)
  isplitl [H9]; · iexact H9
  isplitl [H10]; · iexact H10
  isplitl [H13]
  · unfold owns; iexists _; isplitr; rotate_left
    · iexact H13
    ipureintro; exact (View.read_writes_full _ _ _ _ _).trans rfl
  isplitl [H14]
  · unfold owns; iexists _; isplitr; rotate_left
    · iexact H14
    ipureintro; exact (View.read_writes_full _ _ _ _ _).trans rfl
  isplitl [H15]
  · unfold owns; iexists _; isplitr; rotate_left
    · iexact H15
    ipureintro; exact hf15
  isplitl [H16]
  · unfold owns; iexists _; isplitr; rotate_left
    · iexact H16
    ipureintro; exact hf16
  iintro ⟨H9, H10, H13, H14, H15, H16⟩
  iapply (le_wp_ret _ _ E PUnit.unit K)
  iapply Hk
  isplitl [H2]
  · unfold owns; iexists _; isplitr; rotate_left
    · iexact H2
    ipureintro; exact rfl
  isplitl [H3]
  · unfold owns; iexists _; isplitr; rotate_left
    · iexact H3
    ipureintro; exact hf3
  isplitl [H4]
  · unfold owns; iexists _; isplitr; rotate_left
    · iexact H4
    ipureintro; exact rfl
  isplitl [H5]
  · unfold owns; iexists _; isplitr; rotate_left
    · iexact H5
    ipureintro; exact rfl
  isplitl [H6]
  · unfold owns; iexists _; isplitr; rotate_left
    · iexact H6
    ipureintro; exact rfl
  isplitl [H7]
  · unfold owns; iexists _; isplitr; rotate_left
    · iexact H7
    ipureintro; exact rfl
  isplitl [H8]
  · unfold owns; iexists _; isplitr; rotate_left
    · iexact H8
    ipureintro; exact (View.read_writes_cons_put _ _ _ _ _ rfl).trans (congrArg₂ (fun z w => VecWindow.put z _ _ w) ((View.read_writes_cons_put _ _ _ _ _ rfl).trans (congrArg₂ (fun z w => VecWindow.put z _ _ w) ((View.read_writes_cons_put _ _ _ _ _ rfl).trans (congrArg₂ (fun z w => VecWindow.put z _ _ w) ((View.read_writes_cons_put _ _ _ _ _ rfl).trans (congrArg₂ (fun z w => VecWindow.put z _ _ w) (rfl) (code_pay59 _ _ _ (page_load i 0 (by decide) (pageAt_eq i 0) _ _)))) (code_pay60 _ _ _ (page_load i 128 (by decide) (pageAt_eq i 128) _ _)))) (code_pay62 _ _ _ (page_load i 256 (by decide) (pageAt_eq i 256) _ _)))) (code_pay63 _ _ _ (page_load i 384 (by decide) (pageAt_eq i 384) _ _)))
  isplitl [H9]; · iexact H9
  isplitl [H10]; · iexact H10
  isplitl [H11]
  · unfold owns; iexists _; isplitr; rotate_left
    · iexact H11
    ipureintro; exact rfl
  isplitl [H12]
  · unfold owns; iexists _; isplitr; rotate_left
    · iexact H12
    ipureintro; exact (View.read_writes_cons_put _ _ _ _ _ (pageAt_eq i 384)).trans (congrArg₂ (fun z w => VecWindow.put z _ _ w) ((View.read_writes_cons_put _ _ _ _ _ (pageAt_eq i 256)).trans (congrArg₂ (fun z w => VecWindow.put z _ _ w) ((View.read_writes_cons_put _ _ _ _ _ (pageAt_eq i 128)).trans (congrArg₂ (fun z w => VecWindow.put z _ _ w) ((View.read_writes_cons_put _ _ _ _ _ (pageAt_eq i 0)).trans (congrArg₂ (fun z w => VecWindow.put z _ _ w) (rfl) rfl)) rfl)) rfl)) rfl)
  isplitl [H13]; · iexact H13
  isplitl [H14]; · iexact H14
  isplitl [H15]; · iexact H15
  iexact H16

end Cert.UpIdeal.Gen

end
-- ==== Proof.UpBodyD.lean ====
module

public import proofs.«01_k».proof.Proof.UpState

/-!
# The gate/up kernel's body at the points of the last row of the grid

From its blocks and the scratch `s` the body leaves the scratch `s.next`, the codes `codesAfter` and, at the last
column, the row block's scales and roots.
-/

@[expose] public section

set_option maxRecDepth 16384

noncomputable section

namespace Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 1000000 in
/-- The body at the points of the last row of the grid. -/
theorem bodyD (c : Dev nD) (i : grid0.Coords) (arg2 : Memref sig .tc .vmem S512x3584 .i8) (harg2 : arg2.IsWhole) (arg3 : Memref sig .tc .vmem S512x128 .f32) (harg3 : arg3.IsWhole) (arg4 : Memref sig .tc .vmem S896x512 .i8) (harg4 : arg4.IsWhole) (arg5 : Memref sig .tc .vmem S1x512 .f32) (harg5 : arg5.IsWhole) (arg6 : Memref sig .tc .vmem S1x512 .f32) (harg6 : arg6.IsWhole) (arg7 : Memref sig .tc .smem S1 .f32) (harg7 : arg7.IsWhole) (arg8 : Memref sig .tc .vmem S512x512 .i8) (harg8 : arg8.IsWhole) (arg9 : Memref sig .tc .vmem S512x128 .f32) (harg9 : arg9.IsWhole) (arg10 : Memref sig .tc .vmem S512x128 .f32) (harg10 : arg10.IsWhole) (arg11 : Memref sig .tc .vmem S512x3584 .bf16) (harg11 : arg11.IsWhole) (arg12 : Memref sig .tc .vmem S37x512x512 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole)
    (hi : (i 0).val = 12) (x2 : Vec F S512x3584 .i8) (x3 : Vec F S512x128 .f32) (x4 : Vec F S896x512 .i8) (x5 : Vec F S1x512 .f32) (x6 : Vec F S1x512 .f32) (x7 : Vec F S1 .f32) (x8 : Vec F S512x512 .i8) (x9 : Vec F S512x128 .f32) (x10 : Vec F S512x128 .f32) (s : State F) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare s.lhs ∗ owns (c : Thread nD τ) arg12 fullShare s.pages ∗ owns (c : Thread nD τ) arg13 fullShare s.ssq ∗ owns (c : Thread nD τ) arg14 fullShare s.amax ∗ owns (c : Thread nD τ) arg15 fullShare s.root ∗ owns (c : Thread nD τ) arg16 fullShare s.scale ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (codesAfter i x6 s x8) ∗ owns (c : Thread nD τ) arg9 fullShare (atLast i (s.next i x2 x3 x4 x5 x7).scale x9) ∗ owns (c : Thread nD τ) arg10 fullShare (atLast i (s.next i x2 x3 x4 x5 x7).root x10) ∗ owns (c : Thread nD τ) arg11 fullShare (s.next i x2 x3 x4 x5 x7).lhs ∗ owns (c : Thread nD τ) arg12 fullShare (s.next i x2 x3 x4 x5 x7).pages ∗ owns (c : Thread nD τ) arg13 fullShare (s.next i x2 x3 x4 x5 x7).ssq ∗ owns (c : Thread nD τ) arg14 fullShare (s.next i x2 x3 x4 x5 x7).amax ∗ owns (c : Thread nD τ) arg15 fullShare (s.next i x2 x3 x4 x5 x7).root ∗ owns (c : Thread nD τ) arg16 fullShare (s.next i x2 x3 x4 x5 x7).scale) -∗ K ⟨⟩))
    ⊢ wp frame (wpE (defs₀ (F := F)) Variants.none c none) E (cc0_up i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have hB : ¬ k0_cond2 i = 1#1 := fun h => absurd ((cond2_iff i).mp h) (by omega)
  have hC : ¬ k0_cond3 i = 1#1 := fun h => absurd ((cond3_iff i).mp h).2 (by omega)
  have hD : k0_cond4 i = 1#1 := (cond4_iff i).mpr hi
  obtain ⟨lhs, pages, ssq, amax, root, scale⟩ := s
  rw [cc0_up_eq_skeleton]; unfold cc0_up_skel
  refine BIBase.Entails.trans ?_ (firstStep c i arg2 harg2 arg11 harg11 x2 lhs E _ K)
  iintro ⟨H2, H3, H4, H5, H6, H7, H8, H9, H10, H11, H12, H13, H14, H15, H16, Hk⟩
  isplitl [H2]; · iexact H2
  isplitl [H11]; · iexact H11
  iintro ⟨H2, H11⟩
  simp only [State.next, State.first, State.mul, State.last, codesAfter, atLast_atLast, if_neg (show ¬ (i 0).val < 12 by omega), if_pos (show 0 < (i 0).val by omega)]
  generalize lhsAfter i x2 lhs = lhs
  icases (owns_read c arg2 fullShare _) $$ H2 with ⟨%f2, %hf2, H2⟩
  icases (owns_read c arg3 fullShare _) $$ H3 with ⟨%f3, %hf3, H3⟩
  icases (owns_read c arg4 fullShare _) $$ H4 with ⟨%f4, %hf4, H4⟩
  icases (owns_read c arg5 fullShare _) $$ H5 with ⟨%f5, %hf5, H5⟩
  icases (owns_read c arg6 fullShare _) $$ H6 with ⟨%f6, %hf6, H6⟩
  icases (owns_read c arg7 fullShare _) $$ H7 with ⟨%f7, %hf7, H7⟩
  icases (owns_read c arg8 fullShare _) $$ H8 with ⟨%f8, %hf8, H8⟩
  icases (owns_read c arg11 fullShare _) $$ H11 with ⟨%f11, %hf11, H11⟩
  icases (owns_read c arg12 fullShare _) $$ H12 with ⟨%f12, %hf12, H12⟩
  icases (owns_read c arg15 fullShare _) $$ H15 with ⟨%f15, %hf15, H15⟩
  icases (owns_read c arg16 fullShare _) $$ H16 with ⟨%f16, %hf16, H16⟩
  simp -zeta only [k0_part21_eq_skeleton]
  sl_exec (disch := first | sl_exact hB | sl_exact hC | sl_exact hD)
  obtain rfl := (View.readAt_full arg3.view f3 inb_S512x128_S512x128_0_0).trans hf3
  obtain rfl := (View.readAt_full arg15.view f15 inb_S512x128_S512x128_0_0).trans hf15
  obtain rfl := (View.readAt_full arg16.view f16 inb_S512x128_S512x128_0_0).trans hf16
  subst hf2 hf4 hf5 hf6 hf7 hf8 hf11 hf12
  iapply (lastStep c i arg9 harg9 arg10 harg10 arg13 harg13 arg14 harg14 arg15 harg15 arg16 harg16 x9 x10 ssq amax (View.readAt (Elt F) arg15.view (Rect.unit ![0, 0] S512x128.size inb_S512x128_S512x128_0_0).toLoadRect f15) (View.readAt (Elt F) arg16.view (Rect.unit ![0, 0] S512x128.size inb_S512x128_S512x128_0_0).toLoadRect f16) E _ K)
  isplitl [H9]; · iexact H9
  isplitl [H10]; · iexact H10
  isplitl [H13]; · iexact H13
  isplitl [H14]; · iexact H14
  isplitl [H15]
  · unfold owns; iexists _; isplitr; rotate_left
    · iexact H15
    ipureintro; exact hf15
  isplitl [H16]
  · unfold owns; iexists _; isplitr; rotate_left
    · iexact H16
    ipureintro; exact hf16
  iintro ⟨H9, H10, H13, H14, H15, H16⟩
  iapply (le_wp_ret _ _ E PUnit.unit K)
  iapply Hk
  isplitl [H2]
  · unfold owns; iexists _; isplitr; rotate_left
    · iexact H2
    ipureintro; exact rfl
  isplitl [H3]
  · unfold owns; iexists _; isplitr; rotate_left
    · iexact H3
    ipureintro; exact hf3
  isplitl [H4]
  · unfold owns; iexists _; isplitr; rotate_left
    · iexact H4
    ipureintro; exact rfl
  isplitl [H5]
  · unfold owns; iexists _; isplitr; rotate_left
    · iexact H5
    ipureintro; exact rfl
  isplitl [H6]
  · unfold owns; iexists _; isplitr; rotate_left
    · iexact H6
    ipureintro; exact rfl
  isplitl [H7]
  · unfold owns; iexists _; isplitr; rotate_left
    · iexact H7
    ipureintro; exact rfl
  isplitl [H8]
  · unfold owns; iexists _; isplitr; rotate_left
    · iexact H8
    ipureintro; exact (View.read_writes_cons_put _ _ _ _ _ rfl).trans (congrArg₂ (fun z w => VecWindow.put z _ _ w) ((View.read_writes_cons_put _ _ _ _ _ rfl).trans (congrArg₂ (fun z w => VecWindow.put z _ _ w) ((View.read_writes_cons_put _ _ _ _ _ rfl).trans (congrArg₂ (fun z w => VecWindow.put z _ _ w) ((View.read_writes_cons_put _ _ _ _ _ rfl).trans (congrArg₂ (fun z w => VecWindow.put z _ _ w) (rfl) (code_pay98 _ _ _ (page_load i 0 (by decide) (pageAt_eq i 0) _ _)))) (code_pay99 _ _ _ (page_load i 128 (by decide) (pageAt_eq i 128) _ _)))) (code_pay11 _ _ _ (page_load i 256 (by decide) (pageAt_eq i 256) _ _)))) (code_pay12 _ _ _ (page_load i 384 (by decide) (pageAt_eq i 384) _ _)))
  isplitl [H9]; · iexact H9
  isplitl [H10]; · iexact H10
  isplitl [H11]
  · unfold owns; iexists _; isplitr; rotate_left
    · iexact H11
    ipureintro; exact rfl
  isplitl [H12]
  · unfold owns; iexists _; isplitr; rotate_left
    · iexact H12
    ipureintro; exact rfl
  isplitl [H13]; · iexact H13
  isplitl [H14]; · iexact H14
  isplitl [H15]; · iexact H15
  iexact H16

end Cert.UpIdeal.Gen

end
-- ==== Proof.UpBody.lean ====
module

public import proofs.«01_k».proof.Proof.UpBodyB
public import proofs.«01_k».proof.Proof.UpBodyC
public import proofs.«01_k».proof.Proof.UpBodyD

/-!
# The gate/up kernel's body at any grid point
-/

@[expose] public section

set_option maxRecDepth 16384

noncomputable section

namespace Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body at any point: from its blocks and the scratch `s` it leaves the scratch `s.next`, the codes `codesAfter`
and, at the last column, the row block's scales and roots. -/
theorem body (c : Dev nD) (i : grid0.Coords) (arg2 : Memref sig .tc .vmem S512x3584 .i8) (harg2 : arg2.IsWhole) (arg3 : Memref sig .tc .vmem S512x128 .f32) (harg3 : arg3.IsWhole) (arg4 : Memref sig .tc .vmem S896x512 .i8) (harg4 : arg4.IsWhole) (arg5 : Memref sig .tc .vmem S1x512 .f32) (harg5 : arg5.IsWhole) (arg6 : Memref sig .tc .vmem S1x512 .f32) (harg6 : arg6.IsWhole) (arg7 : Memref sig .tc .smem S1 .f32) (harg7 : arg7.IsWhole) (arg8 : Memref sig .tc .vmem S512x512 .i8) (harg8 : arg8.IsWhole) (arg9 : Memref sig .tc .vmem S512x128 .f32) (harg9 : arg9.IsWhole) (arg10 : Memref sig .tc .vmem S512x128 .f32) (harg10 : arg10.IsWhole) (arg11 : Memref sig .tc .vmem S512x3584 .bf16) (harg11 : arg11.IsWhole) (arg12 : Memref sig .tc .vmem S37x512x512 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole)
    (x2 : Vec F S512x3584 .i8) (x3 : Vec F S512x128 .f32) (x4 : Vec F S896x512 .i8) (x5 : Vec F S1x512 .f32) (x6 : Vec F S1x512 .f32) (x7 : Vec F S1 .f32) (x8 : Vec F S512x512 .i8) (x9 : Vec F S512x128 .f32) (x10 : Vec F S512x128 .f32) (s : State F) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare s.lhs ∗ owns (c : Thread nD τ) arg12 fullShare s.pages ∗ owns (c : Thread nD τ) arg13 fullShare s.ssq ∗ owns (c : Thread nD τ) arg14 fullShare s.amax ∗ owns (c : Thread nD τ) arg15 fullShare s.root ∗ owns (c : Thread nD τ) arg16 fullShare s.scale ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (codesAfter i x6 s x8) ∗ owns (c : Thread nD τ) arg9 fullShare (atLast i (s.next i x2 x3 x4 x5 x7).scale x9) ∗ owns (c : Thread nD τ) arg10 fullShare (atLast i (s.next i x2 x3 x4 x5 x7).root x10) ∗ owns (c : Thread nD τ) arg11 fullShare (s.next i x2 x3 x4 x5 x7).lhs ∗ owns (c : Thread nD τ) arg12 fullShare (s.next i x2 x3 x4 x5 x7).pages ∗ owns (c : Thread nD τ) arg13 fullShare (s.next i x2 x3 x4 x5 x7).ssq ∗ owns (c : Thread nD τ) arg14 fullShare (s.next i x2 x3 x4 x5 x7).amax ∗ owns (c : Thread nD τ) arg15 fullShare (s.next i x2 x3 x4 x5 x7).root ∗ owns (c : Thread nD τ) arg16 fullShare (s.next i x2 x3 x4 x5 x7).scale) -∗ K ⟨⟩))
    ⊢ wp frame (wpE (defs₀ (F := F)) Variants.none c none) E (cc0_up i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have hlt : (i 0).val < 13 := (i 0).isLt
  by_cases h0 : (i 0).val = 0
  · exact bodyB c i arg2 harg2 arg3 harg3 arg4 harg4 arg5 harg5 arg6 harg6 arg7 harg7 arg8 harg8 arg9 harg9 arg10 harg10 arg11 harg11 arg12 harg12 arg13 harg13 arg14 harg14 arg15 harg15 arg16 harg16 h0 x2 x3 x4 x5 x6 x7 x8 x9 x10 s E K
  by_cases h12 : (i 0).val = 12
  · exact bodyD c i arg2 harg2 arg3 harg3 arg4 harg4 arg5 harg5 arg6 harg6 arg7 harg7 arg8 harg8 arg9 harg9 arg10 harg10 arg11 harg11 arg12 harg12 arg13 harg13 arg14 harg14 arg15 harg15 arg16 harg16 h12 x2 x3 x4 x5 x6 x7 x8 x9 x10 s E K
  exact bodyC c i arg2 harg2 arg3 harg3 arg4 harg4 arg5 harg5 arg6 harg6 arg7 harg7 arg8 harg8 arg9 harg9 arg10 harg10 arg11 harg11 arg12 harg12 arg13 harg13 arg14 harg14 arg15 harg15 arg16 harg16 ⟨by omega, by omega⟩ x2 x3 x4 x5 x6 x7 x8 x9 x10 s E K

end Cert.UpIdeal.Gen

end
-- ==== Proof.UpData.lean ====
module

public import proofs.«01_k».proof.Proof.UpBody

/-!
# The gate/up kernel's run, under an invariant of its scratch

The scratch of the gate/up kernel starts at anything. A predicate `I c t s` that holds of every scratch before the
first point and is kept by every point's `State.next` is an invariant of the run: the outputs are then written from
scratches of which `I` holds (`Out`).
-/

@[expose] public section

set_option maxRecDepth 16384

noncomputable section

namespace Cert.UpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch on core `c`. -/
def scratch (c : Dev nD) (s : State F) : sProp 𝕄 :=
  iprop(owns (c : Thread nD τ) (Memref.whole cc0_scratch0) fullShare s.lhs ∗ owns (c : Thread nD τ) (Memref.whole cc0_scratch1) fullShare s.pages ∗ owns (c : Thread nD τ) (Memref.whole cc0_scratch2) fullShare s.ssq ∗ owns (c : Thread nD τ) (Memref.whole cc0_scratch3) fullShare s.amax ∗ owns (c : Thread nD τ) (Memref.whole cc0_scratch4) fullShare s.root ∗ owns (c : Thread nD τ) (Memref.whole cc0_scratch5) fullShare s.scale)

/-- The scratch after point `t` on core `c`, which found it at `s`. -/
def nextAt (c : Dev nD) (t : Fin cfg0.N) (s : State F) : State F :=
  s.next (grid0.coords t) (iblk m c 0 t) (iblk m c 1 t) (iblk m c 2 t) (iblk m c 3 t) (iblk m c 5 t)

/-- An invariant of the scratch: true of any scratch before the first point, and kept by every point. -/
structure Invariant (I : Dev nD → ℕ → State F → Prop) : Prop where
  zero : ∀ c s, I c 0 s
  step : ∀ c (t : Fin cfg0.N) s, I c t.val s → I c (t.val + 1) (nextAt m c t s)

variable (I : Dev nD → ℕ → State F → Prop)

/-- What point `t` may leave in window `w`'s buffer, which it found at `Y`. -/
def Out (c : Dev nD) (w : Fin cfg0.W) (t : Fin cfg0.N) :
    (Y X : (cfg0.win w).block.Idx → Elt F (cfg0.win w).elt) → Prop :=
  match w with
  | ⟨0, _⟩ => fun Y X => X = Y
  | ⟨1, _⟩ => fun Y X => X = Y
  | ⟨2, _⟩ => fun Y X => X = Y
  | ⟨3, _⟩ => fun Y X => X = Y
  | ⟨4, _⟩ => fun Y X => X = Y
  | ⟨5, _⟩ => fun Y X => X = Y
  | ⟨6, _⟩ => fun Y X => ∃ s, I c t.val s ∧ X = codesAfter (grid0.coords t) (iblk m c 4 t) s Y
  | ⟨7, _⟩ => fun Y X => ∃ s, I c t.val s ∧ X = atLast (grid0.coords t) (nextAt m c t s).scale Y
  | ⟨8, _⟩ => fun Y X => ∃ s, I c t.val s ∧ X = atLast (grid0.coords t) (nextAt m c t s).root Y

/-- The proof data: the arrays as the region finds them, the outputs related by `Out`, the scratch at some state of
which `I` holds. -/
def rdat (c : Dev nD) : Pipeline.RDat τ (Elt F) Unit ℕ (UR sig nD τ) ℕ cfg0 c where
  A w := V m c (Pipeline.arrRef spec0 w)
  after w t := Out m I c w t
  Φ t := iprop((∃ s, ⌜I c t.val s⌝ ∗ scratch c s) ∗ ∃ r, prngReg c r)
  q w := Pipeline.shareOf spec0 w
  owed _ := 0

/-! An input window's buffer holds its block at every point. -/

theorem finds0 (c : Dev nD) (t : Fin cfg0.N) (Y) (h : (rdat m I c).Finds 0 t Y) : Y = iblk m c 0 t := by
  obtain ⟨d, hd⟩ := Pipeline.RDat.finds_in_eq_fetched (rdat m I c) 0 rfl (fun _ _ _ => rfl) (fun _ _ _ hX => hX) t Y h
  rw [hd]; rfl

theorem finds1 (c : Dev nD) (t : Fin cfg0.N) (Y) (h : (rdat m I c).Finds 1 t Y) : Y = iblk m c 1 t := by
  obtain ⟨d, hd⟩ := Pipeline.RDat.finds_in_eq_fetched (rdat m I c) 1 rfl (fun _ _ _ => rfl) (fun _ _ _ hX => hX) t Y h
  rw [hd]; rfl

theorem finds2 (c : Dev nD) (t : Fin cfg0.N) (Y) (h : (rdat m I c).Finds 2 t Y) : Y = iblk m c 2 t := by
  obtain ⟨d, hd⟩ := Pipeline.RDat.finds_in_eq_fetched (rdat m I c) 2 rfl (fun _ _ _ => rfl) (fun _ _ _ hX => hX) t Y h
  rw [hd]; rfl

theorem finds3 (c : Dev nD) (t : Fin cfg0.N) (Y) (h : (rdat m I c).Finds 3 t Y) : Y = iblk m c 3 t := by
  obtain ⟨d, hd⟩ := Pipeline.RDat.finds_in_eq_fetched (rdat m I c) 3 rfl (fun _ _ _ => rfl) (fun _ _ _ hX => hX) t Y h
  rw [hd]; rfl

theorem finds4 (c : Dev nD) (t : Fin cfg0.N) (Y) (h : (rdat m I c).Finds 4 t Y) : Y = iblk m c 4 t := by
  obtain ⟨d, hd⟩ := Pipeline.RDat.finds_in_eq_fetched (rdat m I c) 4 rfl (fun _ _ _ => rfl) (fun _ _ _ hX => hX) t Y h
  rw [hd]; rfl

theorem finds5 (c : Dev nD) (t : Fin cfg0.N) (Y) (h : (rdat m I c).Finds 5 t Y) : Y = iblk m c 5 t := by
  obtain ⟨d, hd⟩ := Pipeline.RDat.finds_in_eq_fetched (rdat m I c) 5 rfl (fun _ _ _ => rfl) (fun _ _ _ hX => hX) t Y h
  rw [hd]; rfl

variable {I}

/-- What the launch hands the region is the invariant before the first point. -/
theorem hin (hI : Invariant m I) (c : Dev nD) : Pipeline.ΦA spec0 c ⊢ (rdat m I c).Φ 0 := by
  show iprop(Pipeline.scopedRest spec0 c ∗ ∃ r, prngReg c r) ⊢ iprop((∃ s, ⌜I c 0 s⌝ ∗ scratch c s) ∗ ∃ r, prngReg c r)
  rw [scopedRest0_eq]
  unfold scratch
  simp only [owns_whole]
  iintro ⟨⟨⟨%f0, H0⟩, ⟨%f1, H1⟩, ⟨%f2, H2⟩, ⟨%f3, H3⟩, ⟨%f4, H4⟩, ⟨%f5, H5⟩⟩, Hg⟩
  isplitr [Hg]
  · iexists (⟨f0, f1, f2, f3, f4, f5⟩ : State F)
    isplitr; · ipureintro; exact hI.zero c _
    isplitl [H0]; · iexact H0
    isplitl [H1]; · iexact H1
    isplitl [H2]; · iexact H2
    isplitl [H3]; · iexact H3
    isplitl [H4]; · iexact H4
    iexact H5
  iexact Hg

/-- After the last point the scratch's contents are forgotten. -/
theorem hout (c : Dev nD) : (rdat m I c).Φ (Fin.last cfg0.N) ⊢ Pipeline.ΦA spec0 c := by
  show iprop((∃ s, ⌜I c cfg0.N s⌝ ∗ scratch c s) ∗ ∃ r, prngReg c r) ⊢ iprop(Pipeline.scopedRest spec0 c ∗ ∃ r, prngReg c r)
  rw [scopedRest0_eq]
  unfold scratch
  simp only [owns_whole]
  iintro ⟨⟨%s, -, H0, H1, H2, H3, H4, H5⟩, Hg⟩
  isplitr [Hg]
  · isplitl [H0]; · iexists _; iexact H0
    isplitl [H1]; · iexists _; iexact H1
    isplitl [H2]; · iexists _; iexact H2
    isplitl [H3]; · iexists _; iexact H3
    isplitl [H4]; · iexists _; iexact H4
    iexists _; iexact H5
  iexact Hg

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 1000000 in
/-- The body's obligation at every point. -/
theorem body_obligation (hI : Invariant m I) (c : Dev nD) :
    (rdat m I c).BodyObligation (defs₀ (F := F)) Variants.none () Set.univ := fun t Y hY => by
  rw [bigSep_W0, bigSep_W0, defs₀_row]
  rw [show (rdat m I c).owesAt () t.succ = (rdat m I c).owesAt () t.castSucc from rfl]
  rw [finds0 m I c t _ (hY 0), finds1 m I c t _ (hY 1), finds2 m I c t _ (hY 2), finds3 m I c t _ (hY 3),
    finds4 m I c t _ (hY 4), finds5 m I c t _ (hY 5)]
  rw [show (rdat m I c).Φ t.succ = iprop((∃ s, ⌜I c (t.val + 1) s⌝ ∗ scratch c s) ∗ ∃ r, prngReg c r) from rfl]
  generalize hy6 : Y 6 = y6
  generalize hy7 : Y 7 = y7
  generalize hy8 : Y 8 = y8
  show iprop(((∃ s, ⌜I c t.val s⌝ ∗ scratch c s) ∗ ∃ r, prngReg c r) ∗ _) ⊢ _
  unfold scratch
  iintro ⟨⟨⟨%s, %hs, S0, S1, S2, S3, S4, S5⟩, Hg⟩, Ho, H0, H1, H2, H3, H4, H5, H6, H7, H8⟩
  iapply (body c (grid0.coords t) _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) y6 y7 y8 s Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, S0, S1, S2, S3, S4, S5⟩
  isplitl [S0 S1 S2 S3 S4 S5 Hg]
  · isplitr [Hg]
    · iexists (nextAt m c t s)
      isplitr; · ipureintro; exact hI.step c t s hs
      isplitl [S0]; · iexact S0
      isplitl [S1]; · iexact S1
      isplitl [S2]; · iexact S2
      isplitl [S3]; · iexact S3
      isplitl [S4]; · iexact S4
      iexact S5
    iexact Hg
  isplitl [Ho]; · iexact Ho
  isplitl [H0]
  · iexists _; isplitr; rotate_left
    · iexact H0
    ipureintro; exact rfl
  isplitl [H1]
  · iexists _; isplitr; rotate_left
    · iexact H1
    ipureintro; exact rfl
  isplitl [H2]
  · iexists _; isplitr; rotate_left
    · iexact H2
    ipureintro; exact rfl
  isplitl [H3]
  · iexists _; isplitr; rotate_left
    · iexact H3
    ipureintro; exact rfl
  isplitl [H4]
  · iexists _; isplitr; rotate_left
    · iexact H4
    ipureintro; exact rfl
  isplitl [H5]
  · iexists _; isplitr; rotate_left
    · iexact H5
    ipureintro; exact rfl
  isplitl [H6]
  · iexists _; isplitr; rotate_left
    · iexact H6
    ipureintro; exact ⟨s, hs, rfl⟩
  isplitl [H7]
  · iexists _; isplitr; rotate_left
    · iexact H7
    ipureintro; exact ⟨s, hs, rfl⟩
  iexists _; isplitr; rotate_left
  · iexact H8
  ipureintro; exact ⟨s, hs, rfl⟩

-- the launch theorem's implicit arguments are found by unifying its conclusion with this one, which takes unfolding
-- plain definitions in a metavariable's type
set_option backward.isDefEq.respectTransparency.types false in
/-- The run, with every semaphore counter at zero at the end. -/
theorem run_quiescent (hI : Invariant m I) :
    θ_run defs (onTc (τ := τ) (main (F := F))) (s₀ m ρ)
      (fun r => (Pipeline.RDat.FramePost cfg0 (rdat m I) (V m)) r ∧ r.2.sem = fun _ => 0) :=
  Pipeline.RDat.θ_run_frame_track_shared cfgs (0 : Fin 1) launch₀0 defs₀ Variants.none (rdat m I) m ρ main
    (hbody := body_obligation m hI) (hq := fun _ _ _ => rfl) (howed := fun _ _ => rfl) (V := V m)
    (hmain := hmain m Variants.none) (hA := fun _ _ => rfl) (hin := hin m hI) (hout := hout m) (Q' := _)
    (hQ' := fun _ h => h)

/-- Nothing said of the scratch is an invariant. -/
theorem invariant_true : Invariant m fun _ _ _ => True := ⟨fun _ _ => trivial, fun _ _ _ _ => trivial⟩

/-- The argument arrays at the end of the run. -/
theorem unchanged_of {r} (h : Pipeline.RDat.FramePost cfg0 (rdat m I) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(Pipeline.RDat.FramePost.arr_in h c 0 rfl).trans (V_main_arg0 m c),
    ((h c).2 main_arg1 (Pipeline.mem_restRefs_of main_arg1 (by decide) (by decide))).trans (V_main_arg1 m c),
    (Pipeline.RDat.FramePost.arr_in h c 2 rfl).trans (V_main_arg2 m c),
    (Pipeline.RDat.FramePost.arr_in h c 4 rfl).trans (V_main_arg3 m c),
    (Pipeline.RDat.FramePost.arr_in h c 5 rfl).trans (V_main_arg4 m c)⟩

/-- The frame: every run ends, with the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨unchanged_of m h.1, h.2⟩) (run_quiescent m ρ (invariant_true m))

end Cert.UpIdeal.Gen

end
-- ==== Proof.UpFrame.lean ====
module

public import proofs.«01_k».proof.Defs
public import proofs.«01_k».proof.Proof.UpData
public import proofs.«01_k».proof.Proof.Gen.Up

/-!
# The gate/up kernel's frame

The kernel and its ideal program are the same program (no operation was rewritten), so the ideal program's run, proved
for any float values, is the kernel's run.
-/

@[expose] public section

set_option maxRecDepth 100000

noncomputable section

namespace Cert.Proof

open Idealize.ShloMosaic Idealize.SL.Sem Idealize.ShloMosaic.TcCoe Idealize.ShloMosaic.Tactic

variable {F : FTy → Type} [FloatOps F]

/-- The two programs' runs are one. -/
theorem up_transfer (m : (ℓ : Loc Cert.Up.nD Cert.Up.τ Cert.Up.sig) → Buf (Elt F) ℓ) (ρ : Dev Cert.Up.nD → PrngReg) :
    (θ_run (Cert.UpIdeal.defs (F := F)) (onTc (τ := Cert.UpIdeal.τ) (Cert.UpIdeal.main (F := F))) ⟨m, fun _ => 0, ρ⟩
      (fun r => (∀ c : Dev Cert.UpIdeal.nD,
        r.2.mem ((c.tc : Thread Cert.UpIdeal.nD Cert.UpIdeal.τ).loc Cert.UpIdeal.main_arg0) = m ((c.tc : Thread Cert.UpIdeal.nD Cert.UpIdeal.τ).loc Cert.UpIdeal.main_arg0)
        ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
        ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
        ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
        ∧ r.2.mem ((c.tc : Thread Cert.UpIdeal.nD Cert.UpIdeal.τ).loc Cert.UpIdeal.main_arg4) = m ((c.tc : Thread Cert.UpIdeal.nD Cert.UpIdeal.τ).loc Cert.UpIdeal.main_arg4))
        ∧ r.2.sem = fun _ => 0)) =
    θ_run (Cert.Up.defs (F := F)) (onTc (τ := Cert.Up.τ) (Cert.Up.main (F := F))) ⟨m, fun _ => 0, ρ⟩
      (fun r => (∀ c : Dev Cert.Up.nD,
        r.2.mem ((c.tc : Thread Cert.Up.nD Cert.Up.τ).loc Cert.Up.main_arg0) = m ((c.tc : Thread Cert.Up.nD Cert.Up.τ).loc Cert.Up.main_arg0)
        ∧ r.2.mem ((c.tc : Thread Cert.Up.nD Cert.Up.τ).loc Cert.Up.main_arg1) = m ((c.tc : Thread Cert.Up.nD Cert.Up.τ).loc Cert.Up.main_arg1)
        ∧ r.2.mem ((c.tc : Thread Cert.Up.nD Cert.Up.τ).loc Cert.Up.main_arg2) = m ((c.tc : Thread Cert.Up.nD Cert.Up.τ).loc Cert.Up.main_arg2)
        ∧ r.2.mem ((c.tc : Thread Cert.Up.nD Cert.Up.τ).loc Cert.Up.main_arg3) = m ((c.tc : Thread Cert.Up.nD Cert.Up.τ).loc Cert.Up.main_arg3)
        ∧ r.2.mem ((c.tc : Thread Cert.Up.nD Cert.Up.τ).loc Cert.Up.main_arg4) = m ((c.tc : Thread Cert.Up.nD Cert.Up.τ).loc Cert.Up.main_arg4))
        ∧ r.2.sem = fun _ => 0) := by
  sl_kernel_rfl

/-- The kernel's frame, at machine words. -/
theorem quiescent_Up : Cert.quiescent_Up (hUp := Cert.Up.Gen.facts) := fun m ρ _ =>
  (up_transfer (F := Bits) m ρ).mp (Cert.UpIdeal.Gen.frame m ρ)

/-- The ideal program's frame. -/
theorem quiescent_UpIdeal : Cert.quiescent_UpIdeal (hUpIdeal := Cert.UpIdeal.Gen.facts) := fun m ρ _ =>
  Cert.UpIdeal.Gen.frame m ρ

end Cert.Proof
end
-- ==== Proof.UpMath.lean ====
module

public import proofs.«01_k».proof.Proof.Ternary

/-!
# The gate/up projection's mathematics

A row of the wide activations is the squared, cut-off ternary product of a row of codes (`wide`). Its normaliser is
the reciprocal root of its mean square (`root`), and its quantiser's scale is its greatest magnitude after the norm and
the gain, over 127 (`peak`, `stepOf`). The two facts proved here are that sums and maxima over a row may be taken lane
by lane, and that the norm, which is not negative, may be taken out of the maximum.
-/

@[expose] public section

noncomputable section

namespace Cert.GateUp

open Idealize.ShloMosaic hiding ix1 ix2 eq_ix2
open Idealize.ShloMosaic.ValueIdx
open Cert.Ternary (Sh bitlinear)
open scoped BigOperators

/-- Cut off at zero and squared. -/
def relu2 (u : EReal) : EReal := max u 0 * max u 0

/-- Row `r`, column `k` of the wide activations; zero outside of the array. -/
def wide (X : (Sh 6144 3584).Idx → BitVec 8) (A : (Sh 6144 1).Idx → EReal) (W : (Sh 896 18944).Idx → BitVec 8) (s : EReal)
    (r k : ℕ) : EReal :=
  if h : r < 6144 ∧ k < 18944 then relu2 (bitlinear (by decide : 0 < 896) X A W s (ix2 ⟨r, h.1⟩ ⟨k, h.2⟩)) else 0

/-- Entry `k` of the gains; zero outside of the array. -/
def gainOf (G : (Sh 1 18944).Idx → EReal) (k : ℕ) : EReal := if h : k < 18944 then G (ix2 0 ⟨k, h⟩) else 0

/-- The reciprocal root of a mean square, from the sum of squares. -/
def rootOf (q : EReal) : EReal :=
  Ideal.rsqrt (Ideal.div q (Scalar.ofBits (F := Ideal) .f32 0x46940000#32) + Scalar.ofBits (F := Ideal) .f32 0x3727C5AC#32)

/-- The quantiser's scale for a greatest magnitude: a 127th of it, or one for a row of zeros. -/
def stepOf (v : EReal) : EReal :=
  Scalar.select (FloatOps.cmpf (F := Ideal) (φ := .f32) .oeq v (Scalar.ofBits (F := Ideal) .f32 0x00000000#32))
    (Scalar.ofBits (F := Ideal) .f32 0x3F800000#32) (Ideal.div v (Scalar.ofBits (F := Ideal) .f32 0x42FE0000#32))

/-- The magnitude of an extended real. -/
abbrev mag (x : EReal) : EReal := max x (-x)

/-- The sum of a row's squares. -/
def squares (f : ℕ → EReal) : EReal := ∑ k ∈ Finset.range 18944, f k * f k

/-- The normaliser of a row. -/
def root (f : ℕ → EReal) : EReal := rootOf (squares f)

/-- The greatest magnitude of a row after the norm and the gain. -/
def peak (f g : ℕ → EReal) : EReal := (Finset.range 18944).sup fun k => mag (f k * root f * g k)

/-- A row's scale. -/
def scale (f g : ℕ → EReal) : EReal := stepOf (peak f g)

/-- The code of one entry: divided by the scale, rounded to the nearest integer, clipped. -/
def codeOf (x : EReal) : BitVec 8 :=
  FloatOps.fptosi (F := Ideal) (φ := .f32) 8 (min (Scalar.ofBits (F := Ideal) .f32 0x42FE0000#32)
    (max (Scalar.ofBits (F := Ideal) .f32 0xC2FE0000#32) (FloatOps.roundeven (F := Ideal) (φ := .f32) x)))

/-- Column `k` of a row's codes. -/
def codeAt (f g : ℕ → EReal) (k : ℕ) : BitVec 8 := codeOf (Ideal.div (f k * root f * g k) (scale f g))

section Results
variable (X : (Sh 6144 3584).Idx → BitVec 8) (A : (Sh 6144 1).Idx → EReal) (W : (Sh 896 18944).Idx → BitVec 8)
  (G : (Sh 1 18944).Idx → EReal) (S : (⟨1, ![1]⟩ : Shape).Idx → EReal)

/-- Row `r` of the wide activations. -/
abbrev wideRow (r : Fin 6144) : ℕ → EReal := wide X A W (S (ix1 0)) r.val

/-- The array of codes. -/
def codesOut : (Sh 6144 18944).Idx → BitVec 8 := fun j => codeAt (wideRow X A W S (j 0)) (gainOf G) (j 1).val

/-- The array of scales, each in all 128 lanes of its row. -/
def scalesOut : (Sh 6144 128).Idx → EReal := fun j => scale (wideRow X A W S (j 0)) (gainOf G)

/-- The array of normalisers, each in all 128 lanes of its row. -/
def rootsOut : (Sh 6144 128).Idx → EReal := fun j => root (wideRow X A W S (j 0))

end Results

/-- A sum over `n` blocks of `b`. -/
theorem sum_blocks (b n : ℕ) (F : ℕ → EReal) :
    ∑ k ∈ Finset.range (b * n), F k = ∑ v ∈ Finset.range n, ∑ l ∈ Finset.range b, F (b * v + l) := by
  induction n with
  | zero => simp
  | succ n ih => rw [Nat.mul_succ, Finset.sum_range_add, ih, Finset.sum_range_succ]

/-- The running maximum of the first `n` terms, from zero. -/
def runMax (c : ℕ → EReal) : ℕ → EReal
  | 0 => 0
  | n + 1 => max (runMax c n) (c n)

theorem runMax_le {c : ℕ → EReal} {x : EReal} (h0 : 0 ≤ x) : ∀ n, (∀ k < n, c k ≤ x) → runMax c n ≤ x
  | 0, _ => h0
  | n + 1, h => max_le (runMax_le h0 n fun k hk => h k (Nat.lt_succ_of_lt hk)) (h n (Nat.lt_succ_self n))

theorem le_runMax {c : ℕ → EReal} : ∀ {n k : ℕ}, k < n → c k ≤ runMax c n
  | n + 1, k, h => by
    rcases Nat.lt_succ_iff_lt_or_eq.mp h with h | h
    · exact (le_runMax h).trans (le_max_left _ _)
    · subst h; exact le_max_right _ _

theorem mag_nonneg (x : EReal) : 0 ≤ mag x := by
  rcases le_total 0 x with h | h
  · exact h.trans (le_max_left _ _)
  · exact (EReal.neg_nonneg.mpr h).trans (le_max_right _ _)

theorem mul_self_nonneg (x : EReal) : 0 ≤ x * x := by
  rcases le_total 0 x with h | h
  · exact mul_nonneg h h
  · rw [← neg_mul_neg]
    exact mul_nonneg (EReal.neg_nonneg.mpr h) (EReal.neg_nonneg.mpr h)

/-- The magnitude of a product by a factor that is not negative. -/
theorem mag_mul {r : EReal} (hr : 0 ≤ r) (x : EReal) : mag (r * x) = r * mag x := by
  show max (r * x) (-(r * x)) = r * max x (-x)
  rw [← mul_neg]
  exact (Monotone.map_max (f := fun y : EReal => r * y) (fun _ _ h => mul_le_mul_of_nonneg_left h hr)).symm

theorem rsqrt_nonneg {x : EReal} (h : 0 ≤ x) : 0 ≤ Ideal.rsqrt x := by
  induction x with
  | bot => exact absurd h (by simp)
  | top => simp
  | coe r =>
    rw [Ideal.rsqrt_coe]
    have hr : ¬ r < 0 := not_lt.mpr (EReal.coe_nonneg.mp h)
    rw [if_neg hr]
    split
    · exact le_top
    · exact EReal.coe_nonneg.mpr (inv_nonneg.mpr (Real.sqrt_nonneg r))

theorem squares_nonneg (f : ℕ → EReal) : 0 ≤ squares f := Finset.sum_nonneg fun _ _ => mul_self_nonneg _

theorem width_eq : (Scalar.ofBits (F := Ideal) .f32 0x46940000#32 : EReal) = ((18944 : ℝ) : EReal) := by
  simp [Scalar.ofBits, Ideal.ofBits, Ideal.ieee]
  rw [← EReal.coe_mul]; norm_num

theorem eps_nonneg : (0 : EReal) ≤ Scalar.ofBits (F := Ideal) .f32 0x3727C5AC#32 := by
  simp [Scalar.ofBits, Ideal.ofBits, Ideal.ieee]
  rw [← EReal.coe_mul]
  exact EReal.coe_nonneg.mpr (by positivity)

theorem root_nonneg (f : ℕ → EReal) : 0 ≤ root f := by
  refine rsqrt_nonneg (add_nonneg ?_ eps_nonneg)
  rw [width_eq, Ideal.div, if_neg (by norm_num)]
  refine mul_nonneg (squares_nonneg f) ?_
  rw [← EReal.coe_inv]
  exact EReal.coe_nonneg.mpr (by norm_num)

/-- THE KERNEL'S MAXIMUM: for each of 128 lanes the running maximum of the magnitudes without the norm, the greatest of the
lanes, times the norm. -/
theorem peak_lanes (f g : ℕ → EReal) (M : EReal)
    (hM : M = (Finset.range 128).sup fun l => runMax (fun v => mag (f (128 * v + l) * g (128 * v + l))) 148) :
    root f * M = peak f g := by
  have hr := root_nonneg f
  have e : ∀ k, mag (f k * root f * g k) = root f * mag (f k * g k) := fun k => by
    rw [← mag_mul hr]; congr 1
    rw [mul_comm (f k), mul_assoc]
  have hM' : M = (Finset.range 18944).sup fun k => mag (f k * g k) := by
    rw [hM]
    refine le_antisymm (Finset.sup_le fun l hl => runMax_le ?_ _ fun v hv => ?_) (Finset.sup_le fun k hk => ?_)
    · exact (mag_nonneg _).trans (Finset.le_sup (f := fun k => mag (f k * g k)) (Finset.mem_range.mpr (by decide : 0 < 18944)))
    · have := Finset.mem_range.mp hl
      exact Finset.le_sup (f := fun k => mag (f k * g k)) (Finset.mem_range.mpr (by omega))
    · have hk' := Finset.mem_range.mp hk
      have h1 : mag (f k * g k) ≤ runMax (fun v => mag (f (128 * v + k % 128) * g (128 * v + k % 128))) 148 := by
        have := le_runMax (c := fun v => mag (f (128 * v + k % 128) * g (128 * v + k % 128))) (n := 148) (k := k / 128) (by omega)
        rwa [show 128 * (k / 128) + k % 128 = k from Nat.div_add_mod k 128] at this
      exact h1.trans (Finset.le_sup (f := fun l => runMax (fun v => mag (f (128 * v + l) * g (128 * v + l))) 148)
        (Finset.mem_range.mpr (Nat.mod_lt _ (by decide))))
  obtain ⟨k, hk, hkM⟩ := Finset.exists_mem_eq_sup (Finset.range 18944) ⟨0, Finset.mem_range.mpr (by decide)⟩ fun k => mag (f k * g k)
  unfold peak
  refine le_antisymm ?_ (Finset.sup_le fun j hj => ?_)
  · rw [hM', hkM, ← e k]
    exact Finset.le_sup (f := fun k => mag (f k * root f * g k)) hk
  · rw [e j, hM']
    exact mul_le_mul_of_nonneg_left (Finset.le_sup (f := fun k => mag (f k * g k)) hj) hr

/-- THE KERNEL'S SUM OF SQUARES: for each of 128 lanes the squares so far, then the lanes added up. -/
theorem squares_lanes (f : ℕ → EReal) :
    ∑ l ∈ Finset.range 128, ∑ v ∈ Finset.range 148, f (128 * v + l) * f (128 * v + l) = squares f := by
  rw [Finset.sum_comm, squares]
  exact (sum_blocks 128 148 fun k => f k * f k).symm

end Cert.GateUp

end
-- ==== Proof.UpTile.lean ====
module

public import proofs.«01_k».proof.Proof.UpMath
public import proofs.«01_k».proof.Proof.UpState
public import Idealize.ShloMosaic.Lib.Pipeline.ReadBack

/-!
# The gate/up kernel, one block product

A block product is seven chunk products; a chunk's contraction runs over 128 packed rows, four fields each. All chunks
together run over every row of the unpacked weights once.
-/

@[expose] public section

set_option maxRecDepth 16384

noncomputable section

namespace Cert.UpIdeal.Tile

open Cert.UpIdeal Cert.UpIdeal.Gen Idealize.ShloMosaic Idealize.ShloMosaic.TcCoe Idealize.SL.Sem
open Cert.Ternary (unpacked dotUpTo weight)
open Cert.GateUp (sum_blocks)
open scoped BigOperators

/-- Term `k` of the product at row `p`, column `q`. -/
def term (b : S512x3584.Idx → BitVec 8) (w : S896x512.Idx → BitVec 8) (p q : Fin 512) (k : ℕ) : EReal :=
  if h : k < 3584 then (((b (ValueIdx.ix2 p ⟨k, h⟩)).toInt : ℝ) : EReal) * unpacked 3584 (by decide : 0 < 896) w (ValueIdx.ix2 ⟨k, h⟩ q)
  else 0

/-- The plane of field `f` of 128 packed rows. -/
def plane (v : S128x512.Idx → BitVec 8) (s : BitVec 32) : FVec Ideal S128x512 .bf16 :=
  subf (F := Ideal) (φ := .bf16) (sitofp (F := Ideal) .bf16 (bitcast S128x512 8
      (andi (shrsi (bitcast S32x512 32 v bitcasts_S128x512_w8_S32x512_w32) (broadcast S32x512 s)) (broadcast S32x512 50529027#32))
      bitcasts_S32x512_w32_S128x512_w8))
    (broadcast S128x512 (Scalar.ofBits (F := Ideal) .bf16 0x3F80#16))

theorem plane_apply (v : S128x512.Idx → BitVec 8) (f : Fin 4) (j : S128x512.Idx) :
    plane v (BitVec.ofNat 32 (2 * f.val)) j = weight (v j) f.val := by
  show (FloatOps.subf (φ := .bf16) (FloatOps.sitofp (F := Ideal) .bf16 (bitcast S128x512 8 _ bitcasts_S32x512_w32_S128x512_w8 j))
    (Scalar.ofBits (F := Ideal) .bf16 0x3F80#16) : EReal) = _
  rw [Cert.Ternary.bitcast_digit v _ _ _ f.val (by have := f.isLt; rw [BitVec.toNat_ofNat]; omega) f.isLt j,
    Cert.Ternary.digit_sub_one]

/-- The four planes on top of each other, at a row. -/
theorem planes_apply (v : S128x512.Idx → BitVec 8) (k q : Fin 512) :
    k0_pay17 (F := Ideal) v (ValueIdx.ix2 k q) = weight (v (ValueIdx.ix2 ⟨k.val % 128, Nat.mod_lt _ (by decide)⟩ q)) (k.val / 128) := by
  have hk := k.isLt
  exact (concatenate_ofFn_apply (t := S512x512) (s₁ := S128x512) 0 (fun f : Fin 4 => plane v (BitVec.ofNat 32 (2 * f.val)))
    concatenates_S128x512_S128x512_S128x512_S128x512_S512x512_d0 rfl 128 rfl (ValueIdx.ix2 k q) ⟨k.val / 128, by omega⟩ rfl
    (ValueIdx.ix2 ⟨k.val % 128, Nat.mod_lt _ (by decide)⟩ q) rfl (fun b hb => by
      match b with
      | ⟨0, _⟩ => exact absurd rfl hb
      | ⟨1, _⟩ => rfl)).trans (plane_apply v _ _)

/-- The four column tiles of a chunk's codes side by side, at a column. -/
theorem codes_apply (x : Fin 4 → S512x128.Idx → EReal) (p k : Fin 512) :
    concatenate S512x512 1 [⟨S512x128, x 0⟩, ⟨S512x128, x 1⟩, ⟨S512x128, x 2⟩, ⟨S512x128, x 3⟩]
      concatenates_S512x128_S512x128_S512x128_S512x128_S512x512_d1 (ValueIdx.ix2 p k)
      = x ⟨k.val / 128, by have := k.isLt; omega⟩ (ValueIdx.ix2 p ⟨k.val % 128, Nat.mod_lt _ (by decide)⟩) := by
  have hk := k.isLt
  exact concatenate_ofFn_apply (t := S512x512) (s₁ := S512x128) 1 x
    concatenates_S512x128_S512x128_S512x128_S512x128_S512x512_d1 rfl 128 rfl (ValueIdx.ix2 p k) ⟨k.val / 128, by omega⟩ rfl
    (ValueIdx.ix2 p ⟨k.val % 128, Nat.mod_lt _ (by decide)⟩) rfl (fun b hb => by
      match b with
      | ⟨0, _⟩ => rfl
      | ⟨1, _⟩ => exact absurd rfl hb)

theorem sum_seven (g : ℕ → EReal) : ∑ c ∈ Finset.range 7, g c = g 0 + g 1 + g 2 + g 3 + g 4 + g 5 + g 6 := by
  simp only [Finset.sum_range_succ, Finset.sum_range_zero, zero_add]

section Product
variable (x : S512x3584.Idx → EReal) (b : S512x3584.Idx → BitVec 8) (w : S896x512.Idx → BitVec 8)
  (hx : ∀ j, x j = (((b j).toInt : ℝ) : EReal)) (p q : Fin 512)
include hx

/-- One chunk: packed rows `o` to `o + 127`, four fields. -/
theorem chunk_eq (o : ℕ) (h : o + 128 ≤ 896) :
    chunk (F := Ideal) x w o h (ValueIdx.ix2 p q)
      = ∑ f ∈ Finset.range 4, ∑ r ∈ Finset.range 128, term b w p q (896 * f + (o + r)) := by
  show FloatOps.matmul (F := Ideal) (φ₁ := .bf16) (φ₂ := .bf16) (DotDims.plain 512 512 512) none
    (concatenate S512x512 1 [⟨S512x128, cols (F := Ideal) x o (by omega)⟩, ⟨S512x128, cols (F := Ideal) x (o + 896) (by omega)⟩,
      ⟨S512x128, cols (F := Ideal) x (o + 1792) (by omega)⟩, ⟨S512x128, cols (F := Ideal) x (o + 2688) (by omega)⟩]
      concatenates_S512x128_S512x128_S512x128_S512x128_S512x512_d1)
    (k0_pay17 (rows (F := Ideal) w o h)) (constant (F := Ideal) S512x512 .f32 0x00000000#32) (ValueIdx.ix2 p q) = _
  rw [Ideal.matmul_plain_apply]
  have h0 : (constant (F := Ideal) S512x512 .f32 0x00000000#32) (ValueIdx.ix2 p q) = (0 : EReal) := Ideal.ofBits_zero_f32
  rw [h0, zero_add]
  have hs := sum_blocks 128 4 fun k => term b w p q (896 * (k / 128) + (o + k % 128))
  refine Eq.trans ?_ (hs.trans (Finset.sum_congr rfl fun f _ => Finset.sum_congr rfl fun r hr => ?_))
  · rw [Finset.sum_range]
    refine Finset.sum_congr rfl fun k _ => ?_
    have hk : k.val < 512 := k.isLt
    have e1 := codes_apply (fun f => cols (F := Ideal) x (o + 896 * f.val) (by have := f.isLt; omega)) p k
    refine (congrArg₂ (fun u v : EReal => u * v) e1 (planes_apply _ k q)).trans ?_
    have hlt : 896 * (k.val / 128) + (o + k.val % 128) < 3584 := by omega
    rw [term, dif_pos hlt]
    refine congrArg₂ (fun u v : EReal => u * v) ?_ ?_
    · refine (hx _).trans (congrArg (fun i => (((b i).toInt : ℝ) : EReal)) (funext fun a => Fin.ext ?_))
      match a with
      | ⟨0, _⟩ => show 0 + 1 * p.val = p.val; omega
      | ⟨1, _⟩ => show o + 896 * (k.val / 128) + 1 * (k.val % 128) = 896 * (k.val / 128) + (o + k.val % 128); omega
    · unfold unpacked
      have e2 : (896 * (k.val / 128) + (o + k.val % 128)) / 896 = k.val / 128 := by omega
      refine (congrArg (fun i => weight (w i) (k.val / 128)) (funext fun a => Fin.ext ?_)).trans
        (congrArg (weight _) e2.symm)
      match a with
      | ⟨0, _⟩ => show o + 1 * (k.val % 128) = (896 * (k.val / 128) + (o + k.val % 128)) % 896; omega
      | ⟨1, _⟩ => show 0 + 1 * q.val = q.val; omega
  · have := Finset.mem_range.mp hr
    rw [show (128 * f + r) / 128 = f by omega, show (128 * f + r) % 128 = r by omega]

/-- THE BLOCK PRODUCT is the product of the codes and the unpacked weights. -/
theorem product_eq : product (F := Ideal) x w (ValueIdx.ix2 p q) = dotUpTo b (unpacked 3584 (by decide : 0 < 896) w) 3584 (ValueIdx.ix2 p q) := by
  have e : product (F := Ideal) x w (ValueIdx.ix2 p q)
      = ∑ c ∈ Finset.range 7, ∑ f ∈ Finset.range 4, ∑ r ∈ Finset.range 128, term b w p q (896 * f + (128 * c + r)) := by
    rw [sum_seven]
    show (chunk (F := Ideal) x w 0 _ (ValueIdx.ix2 p q) + chunk (F := Ideal) x w 128 _ (ValueIdx.ix2 p q)
      + chunk (F := Ideal) x w 256 _ (ValueIdx.ix2 p q) + chunk (F := Ideal) x w 384 _ (ValueIdx.ix2 p q)
      + chunk (F := Ideal) x w 512 _ (ValueIdx.ix2 p q) + chunk (F := Ideal) x w 640 _ (ValueIdx.ix2 p q)
      + chunk (F := Ideal) x w 768 _ (ValueIdx.ix2 p q) : EReal) = _
    simp only [chunk_eq x b w hx p q, Nat.reduceMul]
  rw [e, Finset.sum_comm]
  have e2 : ∀ f, ∑ c ∈ Finset.range 7, ∑ r ∈ Finset.range 128, term b w p q (896 * f + (128 * c + r))
      = ∑ r ∈ Finset.range 896, term b w p q (896 * f + r) := fun f =>
    (sum_blocks 128 7 fun r => term b w p q (896 * f + r)).symm
  rw [Finset.sum_congr rfl fun f _ => e2 f]
  exact (sum_blocks 896 4 (term b w p q)).symm

end Product

end Cert.UpIdeal.Tile

end
-- ==== Proof.UpRows.lean ====
module

public import proofs.«01_k».proof.Proof.UpMath
public import Idealize.ShloMosaic.Lib.ValueLayoutCasts

/-!
# Sums and maxima along the lanes

What a reduction along the second axis computes at a row, and how its result, read as a column, is spread over a row.
-/

@[expose] public section

noncomputable section

namespace Cert.GateUp

open Idealize.ShloMosaic hiding ix1 ix2 eq_ix2
open Idealize.ShloMosaic.ValueIdx
open Cert.Ternary (Sh)
open scoped BigOperators

variable {m n : ℕ}

theorem lift_ix (h : (Sh m n).Reduces [1] ⟨1, ![m]⟩) (r : Fin m) (k : Fin n) : h.lift (ix1 r) k = ix2 r k := by
  funext a
  match a with
  | ⟨0, _⟩ => rfl
  | ⟨1, _⟩ => rfl

/-- A row's sum. -/
theorem row_sum (x : (Sh m n).Idx → EReal) (h : (Sh m n).Reduces [1] ⟨1, ![m]⟩) (hφ hacc) (r : Fin m) (f : ℕ → EReal)
    (hf : ∀ k : Fin n, x (ix2 r k) = f k.val) :
    multiReduction (F := Ideal) (φ := .f32) .add [1] ⟨1, ![m]⟩ x 0x00000000#32 h hφ hacc (ix1 r) = ∑ k ∈ Finset.range n, f k := by
  refine (Ideal.multiReduction_add_single x _ h hφ hacc (ix1 r)).trans ?_
  rw [Finset.sum_range]
  exact Finset.sum_congr rfl fun k _ => (congrArg x (lift_ix h r k)).trans (hf k)

theorem low_eq : (FloatOps.ofBits (F := Ideal) .f32 0xFF800000#32 : EReal) = ⊥ := by
  simp [FloatOps.ofBits, Ideal.ofBits, Ideal.ieee]

/-- A row's maximum. -/
theorem row_max (x : (Sh m n).Idx → EReal) (h : (Sh m n).Reduces [1] ⟨1, ![m]⟩) (hφ hacc) (r : Fin m) (f : ℕ → EReal)
    (hf : ∀ k : Fin n, x (ix2 r k) = f k.val) :
    multiReduction (F := Ideal) (φ := .f32) .maximumf [1] ⟨1, ![m]⟩ x 0xFF800000#32 h hφ hacc (ix1 r) = (Finset.range n).sup f := by
  refine (Ideal.multiReduction_maximumf_single x _ h hφ hacc (ix1 r)).trans ?_
  rw [low_eq]
  have e : x ∘ h.lift (ix1 r) = fun k : Fin n => f k.val := funext fun k => (congrArg x (lift_ix h r k)).trans (hf k)
  refine (congrArg (fun y : Fin n → EReal => (Finset.univ : Finset (Fin n)).fold max ⊥ y) e).trans ?_
  show (Finset.univ : Finset (Fin n)).sup (fun k : Fin n => f k.val) = _
  refine le_antisymm (Finset.sup_le fun k _ => ?_) (Finset.sup_le fun k hk => ?_)
  · exact Finset.le_sup (f := f) (Finset.mem_range.mpr k.isLt)
  · exact Finset.le_sup (f := fun k : Fin n => f k.val) (Finset.mem_univ (⟨k, Finset.mem_range.mp hk⟩ : Fin n))

/-- A vector read as a column. -/
theorem column_apply {α : Type} (v : (⟨1, ![m]⟩ : Shape).Idx → α) (h : (⟨1, ![m]⟩ : Shape).ShapeCasts (Sh m 1)) (r : Fin m) :
    shapeCast (Sh m 1) v h (ix2 r 0) = v (ix1 r) :=
  shapeCast_a_a1_apply v h r 0

/-- A column spread over the rows. -/
theorem spread_apply {α : Type} (v : (Sh m 1).Idx → α) (h : (Sh m 1).Broadcasts (Sh m n)) (r : Fin m) (k : Fin n) :
    broadcastTo (Sh m n) v h (ix2 r k) = v (ix2 r 0) := by
  refine congrArg v (funext fun a => ?_)
  match a with
  | ⟨0, _⟩ =>
    by_cases hm : m = 1
    · subst hm; exact Subsingleton.elim (α := Fin 1) _ _
    · exact (dif_neg hm).trans (Fin.ext rfl)
  | ⟨1, _⟩ => exact Subsingleton.elim (α := Fin 1) _ _

/-- A row spread over the columns. -/
theorem spread_row_apply {α : Type} (v : (Sh 1 n).Idx → α) (h : (Sh 1 n).Broadcasts (Sh m n)) (r : Fin m) (k : Fin n) :
    broadcastTo (Sh m n) v h (ix2 r k) = v (ix2 0 k) := by
  refine congrArg v (funext fun a => ?_)
  match a with
  | ⟨0, _⟩ => exact Subsingleton.elim (α := Fin 1) _ _
  | ⟨1, _⟩ =>
    by_cases hm : n = 1
    · subst hm; exact Subsingleton.elim (α := Fin 1) _ _
    · exact (dif_neg hm).trans (Fin.ext rfl)

/-- A cast to the same shape changes nothing. -/
theorem recast_apply {α : Type} {s : Shape} (v : s.Idx → α) (h : s.ShapeCasts s) (j : s.Idx) : shapeCast s v h j = v j := by
  show v (Shape.reshapeEquiv h j) = v j
  simp

/-- The scales of a column of magnitudes, one by one. -/
theorem step_apply {s : Shape} (v : FVec Ideal s .f32) (j : s.Idx) :
    select (cmpf (F := Ideal) (φ := .f32) .oeq v (broadcast s (Scalar.ofBits (F := Ideal) .f32 0x00000000#32)))
      (broadcast s (Scalar.ofBits (F := Ideal) .f32 0x3F800000#32))
      (divf (F := Ideal) (φ := .f32) v (broadcast s (Scalar.ofBits (F := Ideal) .f32 0x42FE0000#32))) j = stepOf (v j) := rfl

/-- The codes of an array of quotients, one by one. -/
theorem code_apply {s : Shape} (x y : FVec Ideal s .f32) (j : s.Idx) :
    fptosi (F := Ideal) (φ := .f32) 8 (minimumf (F := Ideal) (φ := .f32) (broadcast s (Scalar.ofBits (F := Ideal) .f32 0x42FE0000#32))
      (maximumf (F := Ideal) (φ := .f32) (broadcast s (Scalar.ofBits (F := Ideal) .f32 0xC2FE0000#32))
        (roundeven (F := Ideal) (φ := .f32) (divf (F := Ideal) (φ := .f32) x y)))) j = codeOf (Ideal.div (x j) (y j)) := rfl

/-- The magnitudes, one by one. -/
theorem absf_row {s : Shape} (v : FVec Ideal s .f32) (j : s.Idx) : absf (F := Ideal) (φ := .f32) v j = mag (v j) := rfl

end Cert.GateUp

end
-- ==== Proof.UpParts.lean ====
module

public import proofs.«01_k».proof.Proof.UpTile
public import proofs.«01_k».proof.Proof.UpRows

/-!
# The gate/up kernel's steps, element by element

Each of the functions of which `State.next` and `codesAfter` are made, read at one index.
-/

@[expose] public section

set_option maxRecDepth 16384

noncomputable section

namespace Cert.UpIdeal.Tile

open Cert.UpIdeal Cert.UpIdeal.Gen Idealize.ShloMosaic.TcCoe Idealize.SL.Sem
open Cert.Ternary (unpacked dotUpTo)
open Cert.GateUp
open Idealize.ShloMosaic hiding ix1 ix2 ix3
open Idealize.ShloMosaic.ValueIdx (ix1 ix2 ix3)
open scoped BigOperators

theorem zero_word : (Scalar.ofBits (F := Ideal) .f32 0x00000000#32 : EReal) = 0 := Ideal.ofBits_zero_f32

/-- One column tile put into a page. -/
theorem put_page (i : grid0.Coords) (o : ℕ) (T : FVec Ideal S512x128 .f32) (m : S37x512x512.Idx → EReal) (y : Fin 37) (p q : Fin 512) :
    VecWindow.put (s := S37x512x512) m (pageAt i o) S1x512x128.size (k0_pay2 (F := Ideal) T) (ix3 y p q)
      = if h : y.val = (i 1).val ∧ o ≤ q.val ∧ q.val < o + 128 then T (ix2 p ⟨q.val - o, by omega⟩) else m (ix3 y p q) := by
  have hp : p.val < 512 := p.isLt
  unfold VecWindow.put
  by_cases h : y.val = (i 1).val ∧ o ≤ q.val ∧ q.val < o + 128
  · have hall : ∀ a, pageAt i o a ≤ (ix3 (n0 := 37) (n1 := 512) (n2 := 512) y p q a).val
        ∧ (ix3 (n0 := 37) (n1 := 512) (n2 := 512) y p q a).val < pageAt i o a + S1x512x128.size a := fun a => by
      match a with
      | ⟨0, _⟩ => exact ⟨h.1.symm.le, by show y.val < (i 1).val + 1; omega⟩
      | ⟨1, _⟩ => exact ⟨Nat.zero_le _, by show p.val < 0 + 512; omega⟩
      | ⟨2, _⟩ => exact ⟨h.2.1, h.2.2⟩
    rw [dif_pos h]
    refine (dif_pos hall).trans ?_
    refine Eq.trans (congrArg (k0_pay2 (F := Ideal) T) ?_)
      (ValueIdx.shapeCast_ab_1ab_apply T shapeCasts_S512x128_S1x512x128 0 p ⟨q.val - o, by omega⟩)
    funext a
    match a with
    | ⟨0, _⟩ => exact Subsingleton.elim (α := Fin 1) _ _
    | ⟨1, _⟩ => exact Fin.ext (Nat.sub_zero _)
    | ⟨2, _⟩ => rfl
  · rw [dif_neg h]
    refine dif_neg fun hall => h ⟨?_, hall 2⟩
    have h0 := hall 0
    have h1 : (i 1).val ≤ y.val ∧ y.val < (i 1).val + 1 := h0
    omega

/-- One column tile put into a block of codes. -/
theorem put_codes (o : ℕ) (T : S512x128.Idx → BitVec 8) (m : S512x512.Idx → BitVec 8) (p q : Fin 512) :
    VecWindow.put (s := S512x512) m ![0, o] S512x128.size T (ix2 p q)
      = if h : o ≤ q.val ∧ q.val < o + 128 then T (ix2 p ⟨q.val - o, by omega⟩) else m (ix2 p q) := by
  have hp : p.val < 512 := p.isLt
  unfold VecWindow.put
  by_cases h : o ≤ q.val ∧ q.val < o + 128
  · have hall : ∀ a, (![0, o] : Fin 2 → ℕ) a ≤ (ix2 (n0 := 512) (n1 := 512) p q a).val
        ∧ (ix2 (n0 := 512) (n1 := 512) p q a).val < (![0, o] : Fin 2 → ℕ) a + S512x128.size a := fun a => by
      match a with
      | ⟨0, _⟩ => exact ⟨Nat.zero_le _, by show p.val < 0 + 512; omega⟩
      | ⟨1, _⟩ => exact ⟨h.1, h.2⟩
    rw [dif_pos h]
    refine (dif_pos hall).trans (congrArg T ?_)
    funext a
    match a with
    | ⟨0, _⟩ => exact Fin.ext (Nat.sub_zero _)
    | ⟨1, _⟩ => rfl
  · rw [dif_neg h]
    exact dif_neg fun hall => h (hall 1)

/-- The weights' scale is the one word of its block. -/
theorem scal_eq (x7 : S1.Idx → EReal) : scal (F := Ideal) x7 = x7 (ix1 0) := congrArg x7 (Cert.Ternary.eq_zero1 _)

/-- A gain of a column tile. -/
theorem gain_apply (x : S1x512.Idx → EReal) (o : ℕ) (h : o + 128 ≤ 512) (l : Fin 128) :
    gain (F := Ideal) x o h (ix2 0 l) = x (ix2 0 ⟨o + l.val, by omega⟩) := by
  refine congrArg x (funext fun a => Fin.ext ?_)
  match a with
  | ⟨0, _⟩ => rfl
  | ⟨1, _⟩ => show o + 1 * l.val = o + l.val; omega

/-- One activated product. -/
theorem act_apply (P : FVec Ideal S512x512 .f32) (a : FVec Ideal S512x128 .f32) (s : EReal) (o : ℕ)
    (h : S512x512.Slices ![0, o] S512x128) (ho : o + 128 ≤ 512) (p : Fin 512) (l : Fin 128) :
    act (F := Ideal) P a s o h (ix2 p l) = relu2 (P (ix2 p ⟨o + l.val, by omega⟩) * a (ix2 p l) * s) := by
  have e2 : extractStridedSlice S512x128 ![0, o] P h (ix2 p l) = P (ix2 p ⟨o + l.val, by omega⟩) := by
    refine congrArg P (funext fun b => Fin.ext ?_)
    match b with
    | ⟨0, _⟩ => exact Nat.zero_add _
    | ⟨1, _⟩ => rfl
  rw [← e2]
  unfold relu2
  rw [← zero_word]
  rfl

/-- A running buffer at the start of a point: zero at the first column, as it was elsewhere. -/
theorem restart_apply (i : grid0.Coords) (q : FVec Ideal S512x128 .f32) (j : S512x128.Idx) :
    k0_pay49 (F := Ideal) (BitVec.ofNat 32 (i 1).val) q j = if (i 1).val = 0 then (0 : EReal) else q j := by
  have hb := (by decide +kernel : ∀ b : Fin 37, Scalar.cmpi .eq (BitVec.ofNat 32 b.val) 0#32 = if b.val = 0 then 1#1 else 0#1) (i 1)
  unfold k0_pay49
  by_cases h : (i 1).val = 0
  · rw [if_pos h] at hb ⊢
    simp only [hb]
    exact zero_word
  · rw [if_neg h] at hb ⊢
    simp only [hb]
    rfl

section Accumulate
variable (i : grid0.Coords) (T : (o : ℕ) → S512x512.Slices ![0, o] S512x128 → FVec Ideal S512x128 .f32) (f : ℕ → ℕ → EReal)
  (hT : ∀ o h (_ : o + 128 ≤ 512) (p : Fin 512) (l : Fin 128), T o h (ix2 p l) = f p.val (512 * (i 1).val + o + l.val))
include hT

/-- The pages after a point that multiplies. -/
theorem pagesAfter_apply (m : S37x512x512.Idx → EReal) (y : Fin 37) (p q : Fin 512) :
    pagesAfter (F := Ideal) i T m (ix3 y p q) = if y.val = (i 1).val then f p.val (512 * y.val + q.val) else m (ix3 y p q) := by
  have hq : q.val < 512 := q.isLt
  have key : ∀ o h (ho : o + 128 ≤ 512) (hc : y.val = (i 1).val ∧ o ≤ q.val ∧ q.val < o + 128),
      T o h (ix2 p ⟨q.val - o, by omega⟩) = f p.val (512 * y.val + q.val) := fun o h ho hc => by
    rw [hT o h ho, hc.1]
    refine congrArg (f p.val) ?_
    show 512 * (i 1).val + o + (q.val - o) = _
    omega
  unfold pagesAfter
  rw [put_page, put_page, put_page, put_page]
  by_cases hy : y.val = (i 1).val
  · rw [if_pos hy]
    split
    · next hc => exact key _ _ (by decide) hc
    split
    · next hc => exact key _ _ (by decide) hc
    split
    · next hc => exact key _ _ (by decide) hc
    split
    · next hc => exact key _ _ (by decide) hc
    omega
  · rw [if_neg hy]
    rw [dif_neg fun hc => hy hc.1, dif_neg fun hc => hy hc.1, dif_neg fun hc => hy hc.1, dif_neg fun hc => hy hc.1]

/-- Tile `n` of the point, in the lanes' numbering. -/
theorem tile_lane (n : ℕ) (h) (hn : n < 4) (p : Fin 512) (l : Fin 128) :
    T (128 * n) h (ix2 p l) = f p.val (128 * (4 * (i 1).val + n) + l.val) := by
  rw [hT _ h (by omega)]
  exact congrArg (f p.val) (by omega)

/-- The sums of squares after a point that multiplies. -/
theorem ssqAfter_apply (q : S512x128.Idx → EReal) (p : Fin 512) (l : Fin 128)
    (hq : (i 1).val ≠ 0 → q (ix2 p l) = ∑ v ∈ Finset.range (4 * (i 1).val), f p.val (128 * v + l.val) * f p.val (128 * v + l.val)) :
    ssqAfter (F := Ideal) i T q (ix2 p l)
      = ∑ v ∈ Finset.range (4 * ((i 1).val + 1)), f p.val (128 * v + l.val) * f p.val (128 * v + l.val) := by
  have e0 : k0_pay49 (F := Ideal) (BitVec.ofNat 32 (i 1).val) q (ix2 p l)
      = ∑ v ∈ Finset.range (4 * (i 1).val), f p.val (128 * v + l.val) * f p.val (128 * v + l.val) := by
    rw [restart_apply]
    split
    · next h => rw [h]; simp
    · next h => exact hq h
  unfold ssqAfter
  refine (recast_apply _ _ _).trans ?_
  show (k0_pay49 (F := Ideal) (BitVec.ofNat 32 (i 1).val) q (ix2 p l)
    + T (128 * 0) _ (ix2 p l) * T (128 * 0) _ (ix2 p l) + T (128 * 1) _ (ix2 p l) * T (128 * 1) _ (ix2 p l)
    + T (128 * 2) _ (ix2 p l) * T (128 * 2) _ (ix2 p l) + T (128 * 3) _ (ix2 p l) * T (128 * 3) _ (ix2 p l) : EReal) = _
  rw [tile_lane i T f hT 0 _ (by decide), tile_lane i T f hT 1 _ (by decide), tile_lane i T f hT 2 _ (by decide),
    tile_lane i T f hT 3 _ (by decide), e0]
  rw [show 4 * ((i 1).val + 1) = 4 * (i 1).val + 1 + 1 + 1 + 1 by omega]
  rw [Finset.sum_range_succ _ (4 * (i 1).val + 1 + 1 + 1), Finset.sum_range_succ _ (4 * (i 1).val + 1 + 1),
    Finset.sum_range_succ _ (4 * (i 1).val + 1), Finset.sum_range_succ _ (4 * (i 1).val)]
  rfl

/-- The maxima after a point that multiplies. -/
theorem amaxAfter_apply (x5 : S1x512.Idx → EReal) (g : ℕ → EReal) (hg : ∀ k : Fin 512, x5 (ix2 0 k) = g (512 * (i 1).val + k.val))
    (q : S512x128.Idx → EReal) (p : Fin 512) (l : Fin 128)
    (hq : (i 1).val ≠ 0 → q (ix2 p l) = runMax (fun v => GateUp.mag (f p.val (128 * v + l.val) * g (128 * v + l.val))) (4 * (i 1).val)) :
    amaxAfter (F := Ideal) i x5 T q (ix2 p l)
      = runMax (fun v => GateUp.mag (f p.val (128 * v + l.val) * g (128 * v + l.val))) (4 * ((i 1).val + 1)) := by
  have e0 : k0_pay49 (F := Ideal) (BitVec.ofNat 32 (i 1).val) q (ix2 p l)
      = runMax (fun v => GateUp.mag (f p.val (128 * v + l.val) * g (128 * v + l.val))) (4 * (i 1).val) := by
    rw [restart_apply]
    split
    · next h => rw [h]; rfl
    · next h => exact hq h
  have eg : ∀ n h, n < 4 → broadcastTo (α := EReal) S512x128 (gain (F := Ideal) x5 (128 * n) h) broadcasts_S1x128_S512x128 (ix2 p l)
      = g (128 * (4 * (i 1).val + n) + l.val) := fun n h hn => by
    refine (spread_row_apply _ broadcasts_S1x128_S512x128 p l).trans ((gain_apply x5 _ h l).trans ((hg _).trans (congrArg g ?_)))
    show 512 * (i 1).val + (128 * n + l.val) = _
    omega
  have em : ∀ n h h', n < 4 → Gen.mag (F := Ideal) (T (128 * n) h) (gain (F := Ideal) x5 (128 * n) h') (ix2 p l)
      = (fun v => GateUp.mag (f p.val (128 * v + l.val) * g (128 * v + l.val))) (4 * (i 1).val + n) := fun n h h' hn =>
    (absf_row _ _).trans (congrArg GateUp.mag (congrArg₂ (fun u v : EReal => u * v) (tile_lane i T f hT n h hn p l) (eg n h' hn)))
  unfold amaxAfter
  refine (recast_apply _ _ _).trans ?_
  rw [show 4 * ((i 1).val + 1) = 4 * (i 1).val + 1 + 1 + 1 + 1 by omega]
  show max (max (max (max (k0_pay49 (F := Ideal) (BitVec.ofNat 32 (i 1).val) q (ix2 p l))
    (Gen.mag (F := Ideal) (T (128 * 0) _) (gain (F := Ideal) x5 (128 * 0) _) (ix2 p l)))
    (Gen.mag (F := Ideal) (T (128 * 1) _) (gain (F := Ideal) x5 (128 * 1) _) (ix2 p l)))
    (Gen.mag (F := Ideal) (T (128 * 2) _) (gain (F := Ideal) x5 (128 * 2) _) (ix2 p l)))
    (Gen.mag (F := Ideal) (T (128 * 3) _) (gain (F := Ideal) x5 (128 * 3) _) (ix2 p l)) = _
  rw [em 0 _ _ (by decide), em 1 _ _ (by decide), em 2 _ _ (by decide), em 3 _ _ (by decide), e0]
  rfl

end Accumulate

section Finish
variable (f g : ℕ → EReal) (ssq amax : S512x128.Idx → EReal) (p : Fin 512)
  (hs : ∀ l : Fin 128, ssq (ix2 p l) = ∑ v ∈ Finset.range 148, f (128 * v + l.val) * f (128 * v + l.val))
include hs

/-- The normaliser of a finished row, as a column. -/
theorem root_column : k0_pay13 (F := Ideal) ssq (ix2 p 0) = root f := by
  have e := (row_sum ssq reduces_S512x128_S512 (.inl rfl) rfl p
    (fun l => ∑ v ∈ Finset.range 148, f (128 * v + l) * f (128 * v + l)) hs).trans (squares_lanes f)
  exact congrArg rootOf ((column_apply _ shapeCasts_S512_S512x1 p).trans e)

/-- The normaliser of a finished row. -/
theorem root_apply (l : Fin 128) : k0_pay14 (F := Ideal) ssq (ix2 p l) = root f := by
  unfold k0_pay14
  exact (recast_apply _ _ _).trans ((spread_apply _ broadcasts_S512x1_S512x128 p l).trans
    ((recast_apply _ _ _).trans (root_column f ssq p hs)))

/-- The scale of a finished row. -/
theorem scale_apply (ha : ∀ l : Fin 128, amax (ix2 p l) = runMax (fun v => GateUp.mag (f (128 * v + l.val) * g (128 * v + l.val))) 148)
    (l : Fin 128) : k0_pay15 (F := Ideal) ssq amax (ix2 p l) = scale f g := by
  have e := row_max amax reduces_S512x128_S512 (.inl rfl) rfl p
    (fun l => runMax (fun v => GateUp.mag (f (128 * v + l) * g (128 * v + l))) 148) ha
  have e' := (congrArg₂ (fun u v : EReal => u * v) (root_column f ssq p hs) ((column_apply _ shapeCasts_S512_S512x1 p).trans e)).trans
    (peak_lanes f g _ rfl)
  unfold k0_pay15
  exact (recast_apply _ _ _).trans ((spread_apply _ broadcasts_S512x1_S512x128 p l).trans
    ((recast_apply _ _ _).trans ((step_apply _ _).trans (congrArg stepOf e'))))

end Finish

/-- One code. -/
theorem code_tile_apply (r s : S512x128.Idx → EReal) (z : S1x512x128.Idx → EReal) (g : S1x128.Idx → EReal) (p : Fin 512) (l : Fin 128) :
    k0_pay59 (F := Ideal) r s z g (ix2 p l) = codeOf (Ideal.div (z (ix3 0 p l) * r (ix2 p l) * g (ix2 0 l)) (s (ix2 p l))) := by
  unfold k0_pay59
  exact (code_apply _ s _).trans (congrArg (fun u : EReal => codeOf (Ideal.div u (s (ix2 p l))))
    (congrArg₂ (fun u v : EReal => u * v)
      (congrArg (fun u : EReal => u * r (ix2 p l)) (ValueIdx.shapeCast_1ab_ab_apply z shapeCasts_S1x512x128_S512x128 p l))
      (spread_row_apply g broadcasts_S1x128_S512x128 p l)))

/-- The block of codes that a point which quantises writes. -/
theorem codes_apply_of (i : grid0.Coords) (x6 : S1x512.Idx → EReal) (s : State Ideal) (x8 : S512x512.Idx → BitVec 8) (p q : Fin 512)
    (f g : ℕ → EReal) (hg : ∀ k : Fin 512, x6 (ix2 0 k) = g (512 * (i 1).val + k.val))
    (hp : ∀ k : Fin 512, s.pages (ix3 (i 1) p k) = f (512 * (i 1).val + k.val))
    (hr : ∀ l : Fin 128, s.root (ix2 p l) = root f) (hs : ∀ l : Fin 128, s.scale (ix2 p l) = scale f g) :
    codes (F := Ideal) i x6 s x8 (ix2 p q) = codeAt f g (512 * (i 1).val + q.val) := by
  have hq : q.val < 512 := q.isLt
  have key : ∀ o h (hc : o ≤ q.val ∧ q.val < o + 128), code (F := Ideal) i x6 s o h (ix2 p ⟨q.val - o, by omega⟩)
      = codeAt f g (512 * (i 1).val + q.val) := fun o h hc => by
    have e : (⟨o + (q.val - o), by omega⟩ : Fin 512) = q := Fin.ext (by show o + (q.val - o) = q.val; omega)
    have ez : VecWindow.window (s := S37x512x512) s.pages (pageAt i o) S1x512x128.size (page_inb i o h)
        (ix3 (0 : Fin 1) p (⟨q.val - o, by omega⟩ : Fin 128)) = f (512 * (i 1).val + q.val) := by
      refine Eq.trans (congrArg s.pages (funext fun a => Fin.ext ?_)) (hp q)
      match a with
      | ⟨0, _⟩ => show (i 1).val + 1 * 0 = (i 1).val; omega
      | ⟨1, _⟩ => show 0 + 1 * p.val = p.val; omega
      | ⟨2, _⟩ => show o + 1 * (q.val - o) = q.val; omega
    have eg : gain (F := Ideal) x6 o h (ix2 0 (⟨q.val - o, by omega⟩ : Fin 128)) = g (512 * (i 1).val + q.val) :=
      (gain_apply x6 o h _).trans ((congrArg (fun k => x6 (ix2 0 k)) e).trans (hg q))
    unfold code
    refine (code_tile_apply _ _ _ _ _ _).trans ?_
    rw [hr, hs]
    exact congrArg₂ (fun u v : EReal => codeOf (Ideal.div (u * root f * v) (scale f g))) ez eg
  unfold codes
  rw [put_codes, put_codes, put_codes, put_codes]
  split
  · next hc => exact key _ _ hc
  split
  · next hc => exact key _ _ hc
  split
  · next hc => exact key _ _ hc
  split
  · next hc => exact key _ _ hc
  omega

end Cert.UpIdeal.Tile

end
-- ==== Proof.UpBlocks.lean ====
module

public import proofs.«01_k».proof.Proof.UpData
public import proofs.«01_k».proof.Proof.UpMath
public import Idealize.ShloMosaic.Lib.Pipeline.ReadBack

/-!
# The gate/up kernel's blocks

Where each grid point's blocks lie in the argument arrays.
-/

@[expose] public section

set_option maxRecDepth 16384

noncomputable section

namespace Cert.UpIdeal.Tile

open Cert.UpIdeal Cert.UpIdeal.Gen Idealize.ShloMosaic.TcCoe Idealize.SL.Sem
open Idealize.ShloMosaic hiding ix1 ix2 ix3
open Idealize.ShloMosaic.ValueIdx (ix1 ix2 ix3)

variable (m : (ℓ : Loc nD τ sig) → Buf (Elt Ideal) ℓ)

theorem idx : ∀ t : Fin cfg0.N, win0_0.index t = ![min (t.val / 37) 11, 0] ∧ win0_1.index t = ![min (t.val / 37) 11, 0]
    ∧ win0_2.index t = ![0, if t.val / 37 < 12 then t.val % 37 else 36] ∧ win0_3.index t = ![0, t.val % 37] ∧ win0_4.index t = ![0, t.val % 37]
    ∧ win0_5.index t = ![0] ∧ win0_6.index t = ![t.val / 37 - 1, if t.val / 37 = 0 then 0 else t.val % 37]
    ∧ win0_7.index t = ![min (t.val / 37) 11, 0] ∧ win0_8.index t = ![min (t.val / 37) 11, 0] :=
  (by decide +kernel : ∀ t : Fin grid0.N, _)

theorem coords_eq : ∀ t : Fin cfg0.N, (grid0.coords t 0).val = t.val / 37 ∧ (grid0.coords t 1).val = t.val % 37 :=
  (by decide +kernel : ∀ t : Fin grid0.N, _)

variable (c : Dev nD) (t : Fin cfg0.N)

theorem block0 (p : Fin 512) (k : Fin 3584) (r : Fin 6144) (hr : r.val = 512 * min (t.val / 37) 11 + p.val) :
    iblk m c 0 t (ix2 p k) = m ((c : Thread nD τ).loc main_arg0) (ix2 r k) := by
  blk_point [iblk, V, idx t]; show _ * 512 + p.val = r.val; omega

theorem block1 (p : Fin 512) (l : Fin 128) (r : Fin 6144) (hr : r.val = 512 * min (t.val / 37) 11 + p.val) :
    iblk m c 1 t (ix2 p l) = m ((c : Thread nD τ).loc main_arg1) (ix2 r 0) := by
  blk_point [iblk, V, idx t]; show _ * 512 + p.val = r.val; omega

theorem block2 (h : t.val / 37 < 12) (k : Fin 896) (q : Fin 512) (r : Fin 18944) (hr : r.val = 512 * (t.val % 37) + q.val) :
    iblk m c 2 t (ix2 k q) = m ((c : Thread nD τ).loc main_arg2) (ix2 k r) := by
  blk_point [iblk, V, idx t]; rw [if_pos h]; show _ * 512 + q.val = r.val; omega

theorem block3 (q : Fin 512) (r : Fin 18944) (hr : r.val = 512 * (t.val % 37) + q.val) :
    iblk m c 3 t (ix2 0 q) = m ((c : Thread nD τ).loc main_arg3) (ix2 0 r) := by
  blk_point [iblk, V, idx t]; show _ * 512 + q.val = r.val; omega

theorem block4 (q : Fin 512) (r : Fin 18944) (hr : r.val = 512 * (t.val % 37) + q.val) :
    iblk m c 4 t (ix2 0 q) = m ((c : Thread nD τ).loc main_arg3) (ix2 0 r) := by
  blk_point [iblk, V, idx t]; show _ * 512 + q.val = r.val; omega

theorem block5 : iblk m c 5 t (ix1 0) = m ((c : Thread nD τ).loc main_arg4) (ix1 0) := by
  blk_point [iblk, V, idx t]

end Cert.UpIdeal.Tile

end
-- ==== Proof.UpInvariant.lean ====
module

public import proofs.«01_k».proof.Proof.UpParts
public import proofs.«01_k».proof.Proof.UpBlocks

/-!
# What the gate/up kernel's scratch holds

Before point `37 * I + J` the pages below `J` hold the activations of row block `I`, the others still those of row block
`I - 1`; the running sums and maxima cover the columns below `512 * J`; root and scale are those of row block `I - 1`.
-/

@[expose] public section

set_option maxRecDepth 16384

noncomputable section

namespace Cert.UpIdeal.Tile

open Cert.UpIdeal Cert.UpIdeal.Gen Idealize.ShloMosaic.TcCoe Idealize.SL.Sem
open Cert.Ternary (unpacked dotUpTo)
open Cert.GateUp
open Idealize.ShloMosaic hiding ix1 ix2 ix3
open Idealize.ShloMosaic.ValueIdx (ix1 ix2 ix3)
open scoped BigOperators

variable (m : (ℓ : Loc nD τ sig) → Buf (Elt Ideal) ℓ)

/-- Row `r` of the activations. -/
def row (c : Dev nD) (r : ℕ) : ℕ → EReal :=
  wide (m ((c : Thread nD τ).loc main_arg0)) (m ((c : Thread nD τ).loc main_arg1)) (m ((c : Thread nD τ).loc main_arg2))
    (m ((c : Thread nD τ).loc main_arg4) (ix1 0)) r

/-- The gains. -/
def gains (c : Dev nD) : ℕ → EReal := gainOf (m ((c : Thread nD τ).loc main_arg3))

/-- The codes' block `I`, as floats. -/
def Fed (c : Dev nD) (I : ℕ) (x : S512x3584.Idx → EReal) : Prop :=
  ∀ (p : Fin 512) (k : Fin 3584) (r : Fin 6144), r.val = 512 * I + p.val →
    x (ix2 p k) = (((m ((c : Thread nD τ).loc main_arg0) (ix2 r k)).toInt : ℝ) : EReal)

/-- The scratch before point `37 * I + J`. -/
structure Inv (c : Dev nD) (I J : ℕ) (s : State Ideal) : Prop where
  lhs : 0 < J → I < 12 → Fed m c I s.lhs
  fresh : ∀ (y : Fin 37) (p q : Fin 512), I < 12 → y.val < J → s.pages (ix3 y p q) = row m c (512 * I + p.val) (512 * y.val + q.val)
  old : ∀ (y : Fin 37) (p q : Fin 512), 0 < I → ¬(I < 12 ∧ y.val < J) →
    s.pages (ix3 y p q) = row m c (512 * (I - 1) + p.val) (512 * y.val + q.val)
  ssq : 0 < J → I < 12 → ∀ (p : Fin 512) (l : Fin 128), s.ssq (ix2 p l) = ∑ v ∈ Finset.range (4 * J),
    row m c (512 * I + p.val) (128 * v + l.val) * row m c (512 * I + p.val) (128 * v + l.val)
  amax : 0 < J → I < 12 → ∀ (p : Fin 512) (l : Fin 128), s.amax (ix2 p l)
    = runMax (fun v => GateUp.mag (row m c (512 * I + p.val) (128 * v + l.val) * gains m c (128 * v + l.val))) (4 * J)
  root : 0 < I → ∀ (p : Fin 512) (l : Fin 128), s.root (ix2 p l) = root (row m c (512 * (I - 1) + p.val))
  scale : 0 < I → ∀ (p : Fin 512) (l : Fin 128), s.scale (ix2 p l) = scale (row m c (512 * (I - 1) + p.val)) (gains m c)

variable (c : Dev nD) (t : Fin cfg0.N)

/-- The codes that the point multiplies by. -/
def fed (s : State Ideal) : S512x3584.Idx → EReal := (s.first (grid0.coords t) (iblk m c 0 t)).lhs

/-- The point's column tiles. -/
def tiles (s : State Ideal) : (o : ℕ) → S512x512.Slices ![0, o] S512x128 → FVec Ideal S512x128 .f32 :=
  acts (F := Ideal) (iblk m c 1 t) (iblk m c 2 t) (iblk m c 5 t) (fed m c t s)

theorem row_of (r k : ℕ) (hr : r < 6144) (hk : k < 18944) : row m c r k
    = relu2 (Cert.Ternary.bitlinear (by decide : 0 < 896) (m ((c : Thread nD τ).loc main_arg0)) (m ((c : Thread nD τ).loc main_arg1))
      (m ((c : Thread nD τ).loc main_arg2)) (m ((c : Thread nD τ).loc main_arg4) (ix1 0)) (ix2 ⟨r, hr⟩ ⟨k, hk⟩)) := dif_pos ⟨hr, hk⟩

theorem gains_of (k : ℕ) (hk : k < 18944) : gains m c k = m ((c : Thread nD τ).loc main_arg3) (ix2 0 ⟨k, hk⟩) := dif_pos hk

theorem col_lt : t.val % 37 < 37 := Nat.mod_lt _ (by decide)

/-- The gains of the point's columns. -/
theorem gains_in (k : Fin 512) : iblk m c 3 t (ix2 0 k) = gains m c (512 * (grid0.coords t 1).val + k.val) := by
  have hj := col_lt t
  have hk := k.isLt
  rw [(coords_eq t).2, gains_of m c _ (by omega)]
  exact block3 m c t k _ rfl

theorem gains_out (k : Fin 512) : iblk m c 4 t (ix2 0 k) = gains m c (512 * (grid0.coords t 1).val + k.val) := by
  have hj := col_lt t
  have hk := k.isLt
  rw [(coords_eq t).2, gains_of m c _ (by omega)]
  exact block4 m c t k _ rfl

section Multiply
variable (hI : t.val / 37 < 12) (s : State Ideal) (h : Inv m c (t.val / 37) (t.val % 37) s)
include hI

include h in
theorem fed_ok : Fed m c (t.val / 37) (fed m c t s) := by
  intro p k r hr
  unfold fed State.first lhsAfter
  by_cases h0 : t.val % 37 = 0
  · have hf : firstTile (grid0.coords t) = 1#1 := (firstTile_iff _).mpr ⟨(coords_eq t).2.trans h0, (coords_eq t).1.trans_lt hI⟩
    show (if firstTile (grid0.coords t) = 1#1 then k0_pay1 (F := Ideal) (iblk m c 0 t) else s.lhs) (ix2 p k) = _
    rw [if_pos hf]
    unfold k0_pay1
    refine (recast_apply _ _ _).trans ?_
    exact congrArg (fun b : BitVec 8 => ((b.toInt : ℝ) : EReal)) (block0 m c t p k r (by omega))
  · have hf : ¬firstTile (grid0.coords t) = 1#1 := fun e => h0 ((coords_eq t).2.symm.trans ((firstTile_iff _).mp e).1)
    show (if firstTile (grid0.coords t) = 1#1 then k0_pay1 (F := Ideal) (iblk m c 0 t) else s.lhs) (ix2 p k) = _
    rw [if_neg hf]
    exact h.lhs (Nat.pos_of_ne_zero h0) hI p k r hr

include h in
/-- The point's column tiles are columns of the activations. -/
theorem tiles_apply (o : ℕ) (hs : S512x512.Slices ![0, o] S512x128) (ho : o + 128 ≤ 512) (p : Fin 512) (l : Fin 128) :
    tiles m c t s o hs (ix2 p l) = row m c (512 * (t.val / 37) + p.val) (512 * (grid0.coords t 1).val + o + l.val) := by
  have hj := col_lt t
  have hp := p.isLt
  have hl := l.isLt
  rw [(coords_eq t).2, row_of m c _ _ (by omega) (by omega)]
  refine (act_apply _ _ _ o hs ho p l).trans (congrArg relu2 ?_)
  unfold Cert.Ternary.bitlinear
  have hF := fed_ok m c t hI s h
  refine congrArg₂ (fun u v : EReal => u * v) (congrArg₂ (fun u v : EReal => u * v) ?_ ?_) ?_
  · refine (product_eq (fed m c t s) (fun j => m ((c : Thread nD τ).loc main_arg0) (ix2 ⟨512 * (t.val / 37) + (j 0).val, by
      have : (j 0).val < 512 := (j 0).isLt
      omega⟩ (j 1))) (iblk m c 2 t) (fun j => ?_) p _).trans ?_
    · exact (congrArg (fed m c t s) (ValueIdx.eq_ix2 j)).trans (hF (j 0) (j 1) _ rfl)
    · refine Cert.Ternary.dotUpTo_congr (M := 512) (M' := 6144) (N := 512) (N' := 18944) _ (fun k => rfl) fun k =>
        congrArg (fun b => Cert.Ternary.weight b (k.val / 896)) (block2 m c t hI _ _ _ ?_)
      show 512 * (t.val % 37) + o + l.val = 512 * (t.val % 37) + (o + l.val)
      omega
  · refine (recast_apply _ _ _).trans (block1 m c t p l _ ?_)
    show 512 * (t.val / 37) + p.val = _
    omega
  · exact (scal_eq _).trans (block5 m c t)

theorem next_eq : nextAt m c t s = State.last (grid0.coords t) (⟨fed m c t s, pagesAfter (grid0.coords t) (tiles m c t s) s.pages,
    ssqAfter (grid0.coords t) (tiles m c t s) s.ssq, amaxAfter (grid0.coords t) (iblk m c 3 t) (tiles m c t s) s.amax, s.root, s.scale⟩
      : State Ideal) := by
  unfold nextAt State.next State.mul
  rw [if_pos ((coords_eq t).1.trans_lt hI)]
  rfl

include h

theorem next_pages (y : Fin 37) (p q : Fin 512) : (nextAt m c t s).pages (ix3 y p q)
    = if y.val = t.val % 37 then row m c (512 * (t.val / 37) + p.val) (512 * y.val + q.val) else s.pages (ix3 y p q) := by
  rw [next_eq m c t hI s]
  have e := pagesAfter_apply (grid0.coords t) (tiles m c t s) (fun p => row m c (512 * (t.val / 37) + p))
    (fun o hs ho p l => tiles_apply m c t hI s h o hs ho p l) s.pages y p q
  rw [(coords_eq t).2] at e
  exact e

theorem next_ssq (p : Fin 512) (l : Fin 128) : (nextAt m c t s).ssq (ix2 p l) = ∑ v ∈ Finset.range (4 * (t.val % 37 + 1)),
    row m c (512 * (t.val / 37) + p.val) (128 * v + l.val) * row m c (512 * (t.val / 37) + p.val) (128 * v + l.val) := by
  rw [next_eq m c t hI s]
  have e := ssqAfter_apply (grid0.coords t) (tiles m c t s) (fun p => row m c (512 * (t.val / 37) + p))
    (fun o hs ho p l => tiles_apply m c t hI s h o hs ho p l) s.ssq p l
  rw [(coords_eq t).2] at e
  exact e fun h0 => h.ssq (Nat.pos_of_ne_zero h0) hI p l

theorem next_amax (p : Fin 512) (l : Fin 128) : (nextAt m c t s).amax (ix2 p l)
    = runMax (fun v => GateUp.mag (row m c (512 * (t.val / 37) + p.val) (128 * v + l.val) * gains m c (128 * v + l.val)))
      (4 * (t.val % 37 + 1)) := by
  rw [next_eq m c t hI s]
  have e := amaxAfter_apply (grid0.coords t) (tiles m c t s) (fun p => row m c (512 * (t.val / 37) + p))
    (fun o hs ho p l => tiles_apply m c t hI s h o hs ho p l) (iblk m c 3 t) (gains m c) (gains_in m c t) s.amax p l
  rw [(coords_eq t).2] at e
  exact e fun h0 => h.amax (Nat.pos_of_ne_zero h0) hI p l

theorem next_lhs : Fed m c (t.val / 37) (nextAt m c t s).lhs := by
  rw [next_eq m c t hI s]
  exact fed_ok m c t hI s h

omit h in
theorem next_kept (h36 : t.val % 37 ≠ 36) : (nextAt m c t s).root = s.root ∧ (nextAt m c t s).scale = s.scale := by
  have hc : ¬k0_cond5 (grid0.coords t) = 1#1 := fun e => h36 ((coords_eq t).2.symm.trans ((cond5_iff _).mp e).1)
  rw [next_eq m c t hI s]
  exact ⟨if_neg hc, if_neg hc⟩

theorem next_root (h36 : t.val % 37 = 36) (p : Fin 512) (l : Fin 128) :
    (nextAt m c t s).root (ix2 p l) = root (row m c (512 * (t.val / 37) + p.val)) := by
  have hc : k0_cond5 (grid0.coords t) = 1#1 := (cond5_iff _).mpr ⟨(coords_eq t).2.trans h36, (coords_eq t).1.trans_lt hI⟩
  have e : (nextAt m c t s).root = k0_pay14 (F := Ideal) (nextAt m c t s).ssq := by rw [next_eq m c t hI s]; exact if_pos hc
  have hs := fun l => next_ssq m c t hI s h p l
  rw [h36] at hs
  rw [e]
  exact root_apply _ _ p hs l

theorem next_scale (h36 : t.val % 37 = 36) (p : Fin 512) (l : Fin 128) :
    (nextAt m c t s).scale (ix2 p l) = scale (row m c (512 * (t.val / 37) + p.val)) (gains m c) := by
  have hc : k0_cond5 (grid0.coords t) = 1#1 := (cond5_iff _).mpr ⟨(coords_eq t).2.trans h36, (coords_eq t).1.trans_lt hI⟩
  have e : (nextAt m c t s).scale = k0_pay15 (F := Ideal) (nextAt m c t s).ssq (nextAt m c t s).amax := by
    rw [next_eq m c t hI s]; exact if_pos hc
  have hs := fun l => next_ssq m c t hI s h p l
  have ha := fun l => next_amax m c t hI s h p l
  rw [h36] at hs ha
  rw [e]
  exact scale_apply _ _ _ _ p hs ha l

end Multiply

/-- The points of the last row leave the scratch alone. -/
theorem next_rest (hI : ¬t.val / 37 < 12) (s : State Ideal) : nextAt m c t s = s := by
  have h0 : ¬(grid0.coords t 0).val < 12 := by rw [(coords_eq t).1]; exact hI
  have hc : ¬k0_cond5 (grid0.coords t) = 1#1 := fun e => h0 ((cond5_iff _).mp e).2
  have hf : ¬firstTile (grid0.coords t) = 1#1 := fun e => h0 ((firstTile_iff _).mp e).2
  have e1 : lhsAfter (F := Ideal) (grid0.coords t) (iblk m c 0 t) s.lhs = s.lhs := if_neg hf
  unfold nextAt State.next State.mul
  rw [if_neg h0]
  unfold State.first State.last
  rw [e1]
  show (⟨s.lhs, s.pages, s.ssq, s.amax, atLast _ _ s.root, atLast _ _ s.scale⟩ : State Ideal) = s
  unfold atLast
  rw [if_neg hc, if_neg hc]

/-- One point. -/
theorem inv_step (ht : t.val + 1 < 481) (s : State Ideal) (h : Inv m c (t.val / 37) (t.val % 37) s) :
    Inv m c ((t.val + 1) / 37) ((t.val + 1) % 37) (nextAt m c t s) := by
  by_cases hI : t.val / 37 < 12
  · by_cases h36 : t.val % 37 = 36
    · rw [show (t.val + 1) / 37 = t.val / 37 + 1 by omega, show (t.val + 1) % 37 = 0 by omega]
      refine ⟨fun h0 => absurd h0 (Nat.lt_irrefl 0), fun y p q _ h0 => absurd h0 (Nat.not_lt_zero _), fun y p q _ _ => ?_,
        fun h0 => absurd h0 (Nat.lt_irrefl 0), fun h0 => absurd h0 (Nat.lt_irrefl 0), fun _ p l => ?_, fun _ p l => ?_⟩
      · rw [next_pages m c t hI s h, Nat.add_sub_cancel]
        split
        · rfl
        · have := y.isLt
          exact h.fresh y p q hI (by omega)
      · rw [Nat.add_sub_cancel]; exact next_root m c t hI s h h36 p l
      · rw [Nat.add_sub_cancel]; exact next_scale m c t hI s h h36 p l
    · rw [show (t.val + 1) / 37 = t.val / 37 by omega, show (t.val + 1) % 37 = t.val % 37 + 1 by omega]
      refine ⟨fun _ _ => next_lhs m c t hI s h, fun y p q _ hy => ?_, fun y p q h0 hy => ?_, fun _ _ p l => next_ssq m c t hI s h p l,
        fun _ _ p l => next_amax m c t hI s h p l, fun h0 p l => ?_, fun h0 p l => ?_⟩
      · rw [next_pages m c t hI s h]
        split
        · rfl
        · exact h.fresh y p q hI (by omega)
      · rw [next_pages m c t hI s h, if_neg (by omega)]
        exact h.old y p q h0 (by omega)
      · rw [(next_kept m c t hI s h36).1]; exact h.root h0 p l
      · rw [(next_kept m c t hI s h36).2]; exact h.scale h0 p l
  · rw [next_rest m c t hI s, show (t.val + 1) / 37 = t.val / 37 by omega, show (t.val + 1) % 37 = t.val % 37 + 1 by omega]
    exact ⟨fun _ h1 => absurd h1 hI, fun _ _ _ h1 => absurd h1 hI, fun y p q h0 _ => h.old y p q h0 fun h1 => hI h1.1,
      fun _ h1 => absurd h1 hI, fun _ h1 => absurd h1 hI, h.root, h.scale⟩

/-- What is true of the scratch before point `n`. -/
def At (c : Dev nD) (n : ℕ) (s : State Ideal) : Prop := n < 481 → Inv m c (n / 37) (n % 37) s

theorem at_invariant : Invariant m (At m) where
  zero c s _ := ⟨fun h => absurd h (Nat.lt_irrefl 0), fun _ _ _ _ h => absurd h (Nat.not_lt_zero _), fun _ _ _ h => absurd h (Nat.lt_irrefl 0),
    fun h => absurd h (Nat.lt_irrefl 0), fun h => absurd h (Nat.lt_irrefl 0), fun h => absurd h (Nat.lt_irrefl 0),
    fun h => absurd h (Nat.lt_irrefl 0)⟩
  step c t s h ht := inv_step m c t ht s (h (by omega))

end Cert.UpIdeal.Tile

end
-- ==== Proof.UpValue.lean ====
module

public import proofs.«01_k».proof.Proof.UpInvariant
public import Idealize.ShloMosaic.Lib.Pipeline.ArrRel

/-!
# What the gate/up kernel writes back

At a point that writes a block of codes back the buffer holds the codes of the row block before, and at a point that writes
a block of scales or normalisers back it holds those of the row block last finished.
-/

@[expose] public section

set_option maxRecDepth 16384

noncomputable section

namespace Cert.UpIdeal.Tile

open Cert.UpIdeal Cert.UpIdeal.Gen Idealize.ShloMosaic.TcCoe Idealize.SL.Sem
open Cert.GateUp
open Idealize.ShloMosaic hiding ix1 ix2 ix3
open Idealize.ShloMosaic.ValueIdx (ix1 ix2 ix3)

variable (m : (ℓ : Loc nD τ sig) → Buf (Elt Ideal) ℓ) (c : Dev nD) (t : Fin cfg0.N)

theorem flush6 : ∀ t : Fin cfg0.N, (cfg0.win 6).flush t = true → 0 < t.val / 37 := (by decide +kernel : ∀ t : Fin grid0.N, _)

theorem flush7 : ∀ t : Fin cfg0.N, (cfg0.win 7).flush t = true → t.val % 37 = 36 ∧ t.val / 37 < 12 ∨ t.val = 480 :=
  (by decide +kernel : ∀ t : Fin grid0.N, _)

theorem flush8 : ∀ t : Fin cfg0.N, (cfg0.win 8).flush t = true → t.val % 37 = 36 ∧ t.val / 37 < 12 ∨ t.val = 480 :=
  (by decide +kernel : ∀ t : Fin grid0.N, _)

theorem still7 : ∀ t : Fin cfg0.N, 443 ≤ t.val → t.val < 480 → (cfg0.win 7).flush t = false := (by decide +kernel : ∀ t : Fin grid0.N, _)

theorem still8 : ∀ t : Fin cfg0.N, 443 ≤ t.val → t.val < 480 → (cfg0.win 8).flush t = false := (by decide +kernel : ∀ t : Fin grid0.N, _)

theorem fetch7 : ∀ t : Fin cfg0.N, (cfg0.win 7).fetch t = false := (by decide +kernel : ∀ t : Fin grid0.N, _)

theorem fetch8 : ∀ t : Fin cfg0.N, (cfg0.win 8).fetch t = false := (by decide +kernel : ∀ t : Fin grid0.N, _)

theorem lt_points : t.val < 481 := t.isLt

/-- A block of codes as it is written back. -/
theorem leaves6 (hf : (cfg0.win 6).flush t = true) (X) (h : (rdat m (At m) c).Leaves 6 t X) (p q : Fin 512) :
    X (ix2 p q) = codeAt (row m c (512 * (t.val / 37 - 1) + p.val)) (gains m c) (512 * (t.val % 37) + q.val) := by
  obtain ⟨Y, -, s, hs, rfl⟩ := h
  have hi := flush6 t hf
  have hv := hs (lt_points t)
  unfold codesAfter
  rw [if_pos (by rw [(coords_eq t).1]; exact hi), ← (coords_eq t).2]
  refine codes_apply_of (grid0.coords t) _ s Y p q _ _ (gains_out m c t) (fun k => ?_) (fun l => hv.root hi p l) (fun l => hv.scale hi p l)
  refine hv.old (grid0.coords t 1) p k hi fun h => ?_
  have := (coords_eq t).2
  omega

/-- A block carried to the last point. -/
theorem carried {w : Fin cfg0.W} (P : ((cfg0.win w).block.Idx → Elt Ideal (cfg0.win w).elt) → Prop)
    (hfetch : ∀ t : Fin cfg0.N, (cfg0.win w).fetch t = false)
    (hflush : ∀ t : Fin cfg0.N, 443 ≤ t.val → t.val < 480 → (cfg0.win w).flush t = false)
    (h0 : ∀ (t : Fin cfg0.N), t.val = 443 → ∀ X, (rdat m (At m) c).Leaves w t X → P X)
    (h1 : ∀ (t : Fin cfg0.N), 443 < t.val → ∀ Y X, Out m (At m) c w t Y X → X = Y) :
    ∀ n (t : Fin cfg0.N), t.val = 443 + n → ∀ X, (rdat m (At m) c).Leaves w t X → P X := by
  intro n
  induction n with
  | zero => exact h0
  | succ n ih =>
    intro t ht X hX
    have hlt := lt_points t
    obtain ⟨Y, hY, hO⟩ := hX
    have e : X = Y := h1 t (by omega) Y X hO
    subst e
    rcases (Pipeline.RDat.finds_of_pos (rdat m (At m) c) (hfetch t) (by omega) X).mp hY with h | h
    · rw [hflush _ (by show 443 ≤ t.val - 1; omega) (by show t.val - 1 < 480; omega)] at h
      exact absurd h Bool.false_ne_true
    · exact ih _ (by show t.val - 1 = 443 + n; omega) X h

theorem late (h : 443 < t.val) : ¬k0_cond5 (grid0.coords t) = 1#1 := fun e => by
  have h5 := (cond5_iff _).mp e
  rw [(coords_eq t).1, (coords_eq t).2] at h5
  omega

theorem finished (h : t.val % 37 = 36 ∧ t.val / 37 < 12) : k0_cond5 (grid0.coords t) = 1#1 := by
  rw [cond5_iff, (coords_eq t).1, (coords_eq t).2]
  exact h

theorem finish7 (h : t.val % 37 = 36 ∧ t.val / 37 < 12) (X) (hX : (rdat m (At m) c).Leaves 7 t X) (p : Fin 512) (l : Fin 128) :
    X (ix2 p l) = scale (row m c (512 * (t.val / 37) + p.val)) (gains m c) := by
  obtain ⟨Y, -, s, hs, rfl⟩ := hX
  exact (congrFun (if_pos (finished t h)) _).trans (next_scale m c t h.2 s (hs (lt_points t)) h.1 p l)

theorem finish8 (h : t.val % 37 = 36 ∧ t.val / 37 < 12) (X) (hX : (rdat m (At m) c).Leaves 8 t X) (p : Fin 512) (l : Fin 128) :
    X (ix2 p l) = root (row m c (512 * (t.val / 37) + p.val)) := by
  obtain ⟨Y, -, s, hs, rfl⟩ := hX
  exact (congrFun (if_pos (finished t h)) _).trans (next_root m c t h.2 s (hs (lt_points t)) h.1 p l)

/-- A block of scales as it is written back. -/
theorem leaves7 (hf : (cfg0.win 7).flush t = true) (X) (hX : (rdat m (At m) c).Leaves 7 t X) (p : Fin 512) (l : Fin 128) :
    X (ix2 p l) = scale (row m c (512 * min (t.val / 37) 11 + p.val)) (gains m c) := by
  rcases flush7 t hf with h | h
  · rw [show min (t.val / 37) 11 = t.val / 37 by omega]
    exact finish7 m c t h X hX p l
  · rw [h]
    refine carried m c (w := 7) (fun X => X (ix2 p l) = scale (row m c (512 * min (480 / 37) 11 + p.val)) (gains m c)) fetch7 still7
      (fun t ht X hX => ?_) (fun t ht Y X hO => ?_) 37 t h X hX
    · have e := finish7 m c t (by omega) X hX p l
      rw [ht] at e
      exact e
    · obtain ⟨s, -, rfl⟩ := hO
      exact if_neg (late t ht)

/-- A block of normalisers as it is written back. -/
theorem leaves8 (hf : (cfg0.win 8).flush t = true) (X) (hX : (rdat m (At m) c).Leaves 8 t X) (p : Fin 512) (l : Fin 128) :
    X (ix2 p l) = root (row m c (512 * min (t.val / 37) 11 + p.val)) := by
  rcases flush8 t hf with h | h
  · rw [show min (t.val / 37) 11 = t.val / 37 by omega]
    exact finish8 m c t h X hX p l
  · rw [h]
    refine carried m c (w := 8) (fun X => X (ix2 p l) = root (row m c (512 * min (480 / 37) 11 + p.val))) fetch8 still8
      (fun t ht X hX => ?_) (fun t ht Y X hO => ?_) 37 t h X hX
    · have e := finish8 m c t (by omega) X hX p l
      rw [ht] at e
      exact e
    · obtain ⟨s, -, rfl⟩ := hO
      exact if_neg (late t ht)

section Arrays
variable (after : (w : Fin cfg0.W) → Fin cfg0.N → (cfg0.win w).block.Idx → Elt Ideal (cfg0.win w).elt)
  (hL : ∀ (w : Fin cfg0.W) (u : Fin cfg0.N), (cfg0.win w).flush u = true → (rdat m (At m) c).Leaves w u (after w u))
include hL

/-- The array of codes. -/
theorem final_codes : ((rdat m (At m) c).withAfter after).arrAt 6 cfg0.N
    = codesOut (m ((c : Thread nD τ).loc main_arg0)) (m ((c : Thread nD τ).loc main_arg1)) (m ((c : Thread nD τ).loc main_arg2))
      (m ((c : Thread nD τ).loc main_arg3)) (m ((c : Thread nD τ).loc main_arg4)) := by
  refine ((rdat m (At m) c).withAfter after).arrAt_eq_of_covers 6 _ (by decide +kernel) fun t hf y => ?_
  have e := (congrArg (after 6 t) (ValueIdx.eq_ix2 (n0 := 512) (n1 := 512) y)).trans (leaves6 m c t hf _ (hL 6 t hf) (y 0) (y 1))
  have r0 : ((((cfg0.win 6).blk t).view.emb y) 0 : ℕ) = 512 * (t.val / 37 - 1) + (y 0).val := by
    rw [Nat.mul_comm]; blk_simp [idx t]
  have r1 : ((((cfg0.win 6).blk t).view.emb y) 1 : ℕ) = 512 * (t.val % 37) + (y 1).val := by
    have h : ((((cfg0.win 6).blk t).view.emb y) 1 : ℕ) = (if t.val / 37 = 0 then 0 else t.val % 37) * 512 + (y 1).val := by blk_simp [idx t]
    rw [h, if_neg (flush6 t hf).ne', Nat.mul_comm]
  blk_simp
  refine e.trans ?_
  rw [← r0, ← r1]
  rfl

/-- The array of scales. -/
theorem final_scales : ((rdat m (At m) c).withAfter after).arrAt 7 cfg0.N
    = scalesOut (m ((c : Thread nD τ).loc main_arg0)) (m ((c : Thread nD τ).loc main_arg1)) (m ((c : Thread nD τ).loc main_arg2))
      (m ((c : Thread nD τ).loc main_arg3)) (m ((c : Thread nD τ).loc main_arg4)) := by
  refine ((rdat m (At m) c).withAfter after).arrAt_eq_of_covers 7 _ (by decide +kernel) fun t hf y => ?_
  have e := (congrArg (after 7 t) (ValueIdx.eq_ix2 (n0 := 512) (n1 := 128) y)).trans (leaves7 m c t hf _ (hL 7 t hf) (y 0) (y 1))
  have r0 : ((((cfg0.win 7).blk t).view.emb y) 0 : ℕ) = 512 * min (t.val / 37) 11 + (y 0).val := by
    rw [Nat.mul_comm]; blk_simp [idx t]
  blk_simp
  refine e.trans ?_
  rw [← r0]
  rfl

/-- The array of normalisers. -/
theorem final_roots : ((rdat m (At m) c).withAfter after).arrAt 8 cfg0.N
    = rootsOut (m ((c : Thread nD τ).loc main_arg0)) (m ((c : Thread nD τ).loc main_arg1)) (m ((c : Thread nD τ).loc main_arg2))
      (m ((c : Thread nD τ).loc main_arg4)) := by
  refine ((rdat m (At m) c).withAfter after).arrAt_eq_of_covers 8 _ (by decide +kernel) fun t hf y => ?_
  have e := (congrArg (after 8 t) (ValueIdx.eq_ix2 (n0 := 512) (n1 := 128) y)).trans (leaves8 m c t hf _ (hL 8 t hf) (y 0) (y 1))
  have r0 : ((((cfg0.win 8).blk t).view.emb y) 0 : ℕ) = 512 * min (t.val / 37) 11 + (y 0).val := by
    rw [Nat.mul_comm]; blk_simp [idx t]
  blk_simp
  refine e.trans ?_
  rw [← r0]
  rfl

end Arrays

end Cert.UpIdeal.Tile

end
-- ==== Proof.UpRef.lean ====
module

public import proofs.«01_k».proof.Proof.UpRows
public import proofs.«01_k».proof.Proof.Gen.UpRefIdeal.Value
public import Idealize.ShloMosaic.Lib.Pipeline.ReadBack

/-!
# The gate/up projection's reference

Its three results, element by element, are the codes, the scales and the normalisers of the wide activations' rows.
-/

@[expose] public section

set_option maxRecDepth 16384

noncomputable section

namespace Cert.UpRefIdeal.Ref

open Cert.UpRefIdeal Cert.UpRefIdeal.Gen Idealize.ShloMosaic Idealize.ShloMosaic.TcCoe Idealize.SL.Sem
open Cert.Ternary (ref_product)
open Cert.GateUp

/-- The scales of the rows of an array. -/
def scaleCol (P : FVec Ideal S6144x18944 .f32) : FVec Ideal S6144x1 .f32 :=
  let v : FVec Ideal S6144x1 .f32 := shapeCast S6144x1 (multiReduction (F := Ideal) (φ := .f32) .maximumf [1] S6144 (absf (F := Ideal) (φ := .f32) P) 0xFF800000#32
    reduces_S6144x18944_S6144 (.inl rfl) rfl) shapeCasts_S6144_S6144x1
  select (cmpf (F := Ideal) (φ := .f32) .oeq v (broadcast S6144x1 (Scalar.ofBits (F := Ideal) .f32 0x00000000#32)))
      (broadcast S6144x1 (Scalar.ofBits (F := Ideal) .f32 0x3F800000#32))
      (divf (F := Ideal) (φ := .f32) v (broadcast S6144x1 (Scalar.ofBits (F := Ideal) .f32 0x42FE0000#32)))

theorem scaleCol_eq (P : FVec Ideal S6144x18944 .f32) (r : Fin 6144) (f : ℕ → EReal) (hf : ∀ k : Fin 18944, P (ValueIdx.ix2 r k) = f k.val) :
    scaleCol P (ValueIdx.ix2 r 0) = stepOf ((Finset.range 18944).sup fun k => mag (f k)) := by
  have e := row_max (absf (F := Ideal) (φ := .f32) P) reduces_S6144x18944_S6144 (.inl rfl) rfl r (fun k => mag (f k))
    fun k => (absf_row P _).trans (congrArg mag (hf k))
  exact (step_apply _ _).trans (congrArg stepOf ((column_apply _ shapeCasts_S6144_S6144x1 r).trans e))

theorem pay2_apply (v : FVec Ideal S6144x1 .f32) (r : Fin 6144) (l : Fin 128) : k0_pay2 (F := Ideal) v (ValueIdx.ix2 r l) = v (ValueIdx.ix2 r 0) :=
  (spread_apply _ broadcasts_S6144x1_S6144x128 r l).trans (recast_apply v shapeCasts_S6144x1_S6144x1 _)

theorem pay3_apply (v : FVec Ideal S6144x1 .f32) (r : Fin 6144) (l : Fin 128) : k0_pay3 (F := Ideal) v (ValueIdx.ix2 r l) = v (ValueIdx.ix2 r 0) :=
  (spread_apply _ broadcasts_S6144x1_S6144x128 r l).trans (recast_apply v shapeCasts_S6144x1_S6144x1 _)

/-- The codes of an array, each row by its scale. -/
theorem codes_eq (P : FVec Ideal S6144x18944 .f32) (v : FVec Ideal S6144x1 .f32) (lo hi : EReal)
    (hlo : lo = Scalar.ofBits (F := Ideal) .f32 0xC2FE0000#32) (hhi : hi = Scalar.ofBits (F := Ideal) .f32 0x42FE0000#32) (r : Fin 6144) (k : Fin 18944) :
    k0_pay1 (F := Ideal) (maximumf (F := Ideal) (φ := .f32) (broadcast S6144x18944 lo) (roundeven (F := Ideal) (φ := .f32) (divf (F := Ideal) (φ := .f32) P
      (broadcastTo S6144x18944 v broadcasts_S6144x1_S6144x18944)))) hi (ValueIdx.ix2 r k) = codeOf (Ideal.div (P (ValueIdx.ix2 r k)) (v (ValueIdx.ix2 r 0))) := by
  subst hlo hhi
  exact (code_apply P (broadcastTo S6144x18944 v broadcasts_S6144x1_S6144x18944) _).trans
    (congrArg (fun q : EReal => codeOf (Ideal.div (P (ValueIdx.ix2 r k)) q)) (spread_apply v broadcasts_S6144x1_S6144x18944 r k))

theorem low_clip : (Scalar.sitofp (F := Ideal) .f32 4294967169#32 : EReal) = Scalar.ofBits (F := Ideal) .f32 0xC2FE0000#32 := by
  have h : (4294967169#32 : BitVec 32).toInt = -127 := by decide
  have e : (Scalar.sitofp (F := Ideal) .f32 4294967169#32 : EReal) = (((4294967169#32 : BitVec 32).toInt : ℝ) : EReal) := rfl
  rw [e, h]
  simp [Scalar.ofBits, Ideal.ofBits, Ideal.ieee]
  rw [← EReal.coe_mul]; norm_num

theorem high_clip : (k0_pay13 (F := Ideal) : EReal) = Scalar.ofBits (F := Ideal) .f32 0x42FE0000#32 := by
  have h : (127#32 : BitVec 32).toInt = 127 := by decide
  have e : (k0_pay13 (F := Ideal) : EReal) = (((127#32 : BitVec 32).toInt : ℝ) : EReal) := rfl
  rw [e, h]
  simp [Scalar.ofBits, Ideal.ofBits, Ideal.ieee]
  rw [← EReal.coe_mul]; norm_num

section Payloads
variable (X : S6144x3584.Idx → BitVec 8) (A : S6144x1.Idx → EReal) (W : S896x18944.Idx → BitVec 8) (G : S1x18944.Idx → EReal)
  (S : S1.Idx → EReal) (s : EReal)

/-- The reference's wide activations. -/
abbrev sq : FVec Ideal S6144x18944 .f32 := k0_pay8 (F := Ideal) A s (k0_pay4 (F := Ideal) X) (k0_pay6 (F := Ideal) X W) (k0_pay7 (F := Ideal) W)

/-- The reference's normalisers. -/
abbrev rt : FVec Ideal S6144x1 .f32 := k0_pay9 (F := Ideal) A s (k0_pay4 (F := Ideal) X) (k0_pay6 (F := Ideal) X W) (k0_pay7 (F := Ideal) W)

/-- The reference's activations after norm and gain. -/
abbrev nm : FVec Ideal S6144x18944 .f32 := k0_pay10 (F := Ideal) A s (k0_pay4 (F := Ideal) X) (k0_pay6 (F := Ideal) X W) (k0_pay7 (F := Ideal) W) G

/-- The reference's scales. -/
abbrev sc : FVec Ideal S6144x1 .f32 := k0_pay11 (F := Ideal) A s (k0_pay4 (F := Ideal) X) (k0_pay6 (F := Ideal) X W) (k0_pay7 (F := Ideal) W) G

/-- The reference's rounded quotients. -/
abbrev rd : FVec Ideal S6144x18944 .f32 := k0_pay12 (F := Ideal) A s (k0_pay4 (F := Ideal) X) (k0_pay6 (F := Ideal) X W) (k0_pay7 (F := Ideal) W) G

variable (hs : s = S (ValueIdx.ix1 0)) (r : Fin 6144)
include hs

theorem sq_eq (k : Fin 18944) : (sq X A W s) (ValueIdx.ix2 r k) = wideRow X A W S r k.val := by
  subst hs
  have e1 : broadcastTo (α := EReal) S6144x18944 A broadcasts_S6144x1_S6144x18944 (ValueIdx.ix2 r k) = A (ValueIdx.ix2 r 0) :=
    spread_apply A _ r k
  show _ = wide X A W (S (ValueIdx.ix1 0)) r.val k.val
  rw [wide, dif_pos ⟨r.isLt, k.isLt⟩]
  have h0 : (Scalar.ofBits (F := Ideal) .f32 0x00000000#32 : EReal) = 0 := Ideal.ofBits_zero_f32
  have e := congrArg₂ (fun p q : EReal => relu2 (p * q * S (ValueIdx.ix1 0)))
    (ref_product (by decide) X W 896 1792 2688 rfl rfl rfl rfl slices_S6144x3584_o0_0_S6144x896 slices_S6144x3584_o0_896_S6144x896
      slices_S6144x3584_o0_1792_S6144x896 slices_S6144x3584_o0_2688_S6144x896 natLt_8_32 natLt_8_32 (ValueIdx.ix2 r k)) e1
  refine Eq.trans ?_ e
  unfold relu2
  rw [← h0]
  rfl

theorem rt_eq : (rt X A W s) (ValueIdx.ix2 r 0) = root (wideRow X A W S r) := by
  have e := row_sum (mulf (F := Ideal) (φ := .f32) (sq X A W s) (sq X A W s)) reduces_S6144x18944_S6144 (.inl rfl) rfl r (fun k => wideRow X A W S r k * wideRow X A W S r k)
    fun k => congrArg (fun v : EReal => v * v) (sq_eq X A W S s hs r k)
  exact congrArg rootOf ((column_apply _ shapeCasts_S6144_S6144x1 r).trans e)

theorem nm_eq (k : Fin 18944) : (nm X A W G s) (ValueIdx.ix2 r k) = wideRow X A W S r k.val * root (wideRow X A W S r) * (gainOf G) k.val := by
  have e1 := (spread_apply (rt X A W s) broadcasts_S6144x1_S6144x18944 r k).trans (rt_eq X A W S s hs r)
  have e2 : broadcastTo (α := EReal) S6144x18944 G broadcasts_S1x18944_S6144x18944 (ValueIdx.ix2 r k) = (gainOf G) k.val := by
    refine (spread_row_apply G _ r k).trans ?_
    rw [gainOf, dif_pos k.isLt]
  exact congrArg₂ (fun p q : EReal => p * q) (congrArg₂ (fun p q : EReal => p * q) (sq_eq X A W S s hs r k) e1) e2

theorem sc_eq : (sc X A W G s) (ValueIdx.ix2 r 0) = scale (wideRow X A W S r) (gainOf G) := by
  have e : sc X A W G s = scaleCol (nm X A W G s) := by
    unfold sc k0_pay11 scaleCol; rfl
  rw [e]
  exact scaleCol_eq _ r (fun k => wideRow X A W S r k * root (wideRow X A W S r) * gainOf G k) (nm_eq X A W G S s hs r)

theorem code_eq (k : Fin 18944) : k0_pay1 (F := Ideal) (rd X A W G s) (k0_pay13 (F := Ideal)) (ValueIdx.ix2 r k) = codeAt (wideRow X A W S r) (gainOf G) k.val := by
  unfold rd k0_pay12
  exact (codes_eq (nm X A W G s) (sc X A W G s) _ _ low_clip high_clip r k).trans
    (congrArg₂ (fun p q : EReal => codeOf (Ideal.div p q)) (nm_eq X A W G S s hs r k) (sc_eq X A W G S s hs r))

theorem scales_eq (l : Fin 128) : k0_pay2 (F := Ideal) (sc X A W G s) (ValueIdx.ix2 r l) = scale (wideRow X A W S r) (gainOf G) :=
  (pay2_apply _ r l).trans (sc_eq X A W G S s hs r)

theorem roots_eq (l : Fin 128) : k0_pay3 (F := Ideal) (rt X A W s) (ValueIdx.ix2 r l) = root (wideRow X A W S r) :=
  (pay3_apply _ r l).trans (rt_eq X A W S s hs r)

end Payloads

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0] ∧ win0_5.index t = ![0, 0] ∧ win0_6.index t = ![0, 0] ∧ win0_7.index t = ![0, 0] :=
  (by decide +kernel : ∀ t : Fin grid0.N, _)

theorem e0 (c : Dev nD) : iblk m c 0 t0_0 = m ((c : Thread nD τ).loc main_arg0) := by blk_ext! [iblk, V, idx t0_0]
theorem e1 (c : Dev nD) : iblk m c 1 t0_0 = m ((c : Thread nD τ).loc main_arg1) := by blk_ext! [iblk, V, idx t0_0]
theorem e2 (c : Dev nD) : iblk m c 2 t0_0 = m ((c : Thread nD τ).loc main_arg2) := by blk_ext! [iblk, V, idx t0_0]
theorem e3 (c : Dev nD) : iblk m c 3 t0_0 = m ((c : Thread nD τ).loc main_arg3) := by blk_ext! [iblk, V, idx t0_0]
theorem e4 (c : Dev nD) : iblk m c 4 t0_0 = m ((c : Thread nD τ).loc main_arg4) := by blk_ext! [iblk, V, idx t0_0]

/-- The reference's codes. -/
theorem final_codes (c : Dev nD) : (dats m 0 c).arrAt 5 cfg0.N =
    codesOut (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_after_last 5 t0_0 (by decide +kernel) _ fun j => ?_
  blk_simp; rw [after0_5]
  unfold outsAt0; frame_out
  simp only [read_unread_whole (Val := Elt Ideal)]
  rw [e0, e1, e2, e3, e4]
  refine Eq.trans (congrArg _ (ValueIdx.eq_ix2 j)) (code_eq _ _ _ _ _ _ (congrArg _ (Cert.Ternary.eq_zero1 _)) (j 0) (j 1))

/-- The reference's scales. -/
theorem final_scales (c : Dev nD) : (dats m 0 c).arrAt 6 cfg0.N =
    scalesOut (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_after_last 6 t0_0 (by decide +kernel) _ fun j => ?_
  blk_simp; rw [after0_6]
  unfold outsAt0; frame_out
  simp only [read_unread_whole (Val := Elt Ideal)]
  rw [e0, e1, e2, e3, e4]
  refine Eq.trans (congrArg _ (ValueIdx.eq_ix2 j)) (scales_eq _ _ _ _ _ _ (congrArg _ (Cert.Ternary.eq_zero1 _)) (j 0) (j 1))

/-- The reference's normalisers. -/
theorem final_roots (c : Dev nD) : (dats m 0 c).arrAt 7 cfg0.N =
    rootsOut (m ((c : Thread nD τ).loc main_arg0)) (m ((c : Thread nD τ).loc main_arg1)) (m ((c : Thread nD τ).loc main_arg2))
      (m ((c : Thread nD τ).loc main_arg4)) := by
  refine (dats m 0 c).arrAt_eq_of_after_last 7 t0_0 (by decide +kernel) _ fun j => ?_
  blk_simp; rw [after0_7]
  unfold outsAt0; frame_out
  simp only [read_unread_whole (Val := Elt Ideal)]
  rw [e0, e1, e2, e4]
  refine Eq.trans (congrArg _ (ValueIdx.eq_ix2 j)) (roots_eq _ _ _ _ _ (congrArg _ (Cert.Ternary.eq_zero1 _)) (j 0) (j 1))

end Cert.UpRefIdeal.Ref

end
-- ==== Proof.UpClaim.lean ====
/-
  THE GATE/UP PROJECTION'S VALUE CLAIM: kernel and reference both end at the codes, the scales and the normalisers of their
  argument arrays' activations.
-/
module

public import proofs.«01_k».proof.Defs
public import proofs.«01_k».proof.Proof.UpValue
public import proofs.«01_k».proof.Proof.UpRef
public import Idealize.ShloMosaic.Lib.Claim

@[expose] public section

noncomputable section

namespace Cert.Proof

open Idealize.ShloMosaic Idealize.ShloMosaic.TcCoe Idealize.SL.Sem
open Cert.GateUp (codesOut scalesOut rootsOut)
open Cert.UpIdeal (nD τ sig main_arg0 main_arg1 main_arg2 main_arg3 main_arg4 main_v1_0 main_v1_1 main_v1_2)

variable (m : (ℓ : Loc nD τ sig) → Buf (Elt Ideal) ℓ) (c : Dev nD)

/-- The codes of the argument arrays. -/
def upCodes : Buf (Elt Ideal) ((c.tc : Thread nD τ).loc main_v1_0) :=
  codesOut (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- The scales of the argument arrays. -/
def upScales : Buf (Elt Ideal) ((c.tc : Thread nD τ).loc main_v1_1) :=
  scalesOut (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- The normalisers of the argument arrays. -/
def upRoots : Buf (Elt Ideal) ((c.tc : Thread nD τ).loc main_v1_2) :=
  rootsOut (m ((c.tc : Thread nD τ).loc main_arg0)) (m ((c.tc : Thread nD τ).loc main_arg1)) (m ((c.tc : Thread nD τ).loc main_arg2))
    (m ((c.tc : Thread nD τ).loc main_arg4))

theorem algebraic_Up : Cert.algebraic_UpIdeal_UpRefIdeal (hUpIdeal := Cert.UpIdeal.Gen.facts) (hUpRefIdeal := Cert.UpRefIdeal.Gen.facts) := by
  intro m g m' g' _ hagree
  refine ⟨upCodes m, upScales m, upRoots m,
    (θ_run _ _ _).mono (fun r h c => ?_) (Cert.UpIdeal.Gen.run_quiescent m g (Cert.UpIdeal.Tile.at_invariant m)),
    (θ_run _ _ _).mono (fun r h c => ?_) (Cert.UpRefIdeal.Value.run_blocks m' g')⟩
  · obtain ⟨after, hL, hA⟩ := Pipeline.RDat.FramePost.exists_exact h.1 c
    exact ⟨(hA 6).trans (Cert.UpIdeal.Tile.final_codes m c after hL), (hA 7).trans (Cert.UpIdeal.Tile.final_scales m c after hL),
      (hA 8).trans (Cert.UpIdeal.Tile.final_roots m c after hL), Cert.UpIdeal.Gen.unchanged_of m h.1 c⟩
  · obtain ⟨h0, h1, h2, h3, h4⟩ := hagree c
    obtain ⟨e5, e6, e7, hargs⟩ := h c
    refine ⟨e5.trans ((Cert.UpRefIdeal.Ref.final_codes m' c).trans ?_), e6.trans ((Cert.UpRefIdeal.Ref.final_scales m' c).trans ?_),
      e7.trans ((Cert.UpRefIdeal.Ref.final_roots m' c).trans ?_), hargs⟩
    · rw [h0, h1, h2, h3, h4]; rfl
    · rw [h0, h1, h2, h3, h4]; rfl
    · rw [h0, h1, h2, h4]; rfl

end Cert.Proof

end
-- ==== Proof.OprojTiles.lean ====
module

public import Idealize.ShloMosaic.Lib.VecWindow
public import Idealize.ShloMosaic.Lib.ValueIdx
public import Idealize.ShloMosaic.Lib.WritesUnit
public import Idealize.ShloMosaic.Lib.ValueLayout

/-!
# Buffers written tile by tile

A buffer that is written in tiles holds one function, whose value at an index is that of the tile which the index lies
in. `rowGlue` and `colGlue` are the functions of equal tiles of rows and of columns, `slotPut` that of tiles of columns in
one slot of a stack of blocks.
-/

@[expose] public section

noncomputable section

namespace Cert.Tiles

open Idealize.ShloMosaic
open Idealize.ShloMosaic.ValueIdx (ix1 ix2 ix3)

/-- A buffer whose every write stores the same function's values, and which held that function wherever nothing is
written, holds that function. -/
theorem read_writes_of_pieces {sig : RefSig} {κ : Kind} {sp : Space} {s : Shape} {e : EltTy} {Val : EltTy → Type}
    (v : View sig κ sp s e) (f : BufTy.Contents Val v.ty) (G : s.Idx → Val e) :
    ∀ L : List (View.Piece Val s e), (∀ p ∈ L, p.2 = View.ld G p.1) → (∀ y, ∃ p ∈ L, y ∈ p.1.set) →
      View.read Val v (v.writes Val f L) = G := by
  intro L hL hc
  funext y
  have key : ∀ L : List (View.Piece Val s e), (∀ p ∈ L, p.2 = View.ld G p.1) → (∃ p ∈ L, y ∈ p.1.set) →
      View.read Val v (v.writes Val f L) y = G y := by
    intro L
    induction L with
    | nil => rintro - ⟨p, hp, -⟩; exact absurd hp List.not_mem_nil
    | cons p L ih =>
      intro hL hy
      by_cases hp : y ∈ p.1.set
      · obtain ⟨x, rfl⟩ : ∃ x, p.1.emb x = y := p.1.exists_idx_of_mem hp
        rw [View.read_writes_cons_emb v f p.1 p.2 L x, hL p (List.mem_cons_self ..)]
        rfl
      · rw [View.writes_cons, View.read_slice_write_of_not_mem _ _ _ _ (by rw [Rect.map_emb_univ]; exact hp)]
        refine ih (fun q hq => hL q (List.mem_cons_of_mem _ hq)) ?_
        obtain ⟨q, hq, hy⟩ := hy
        rcases List.mem_cons.mp hq with rfl | hq
        · exact absurd hy hp
        · exact ⟨q, hq, hy⟩
  exact key L hL (hc y)

section Glue
variable {α : Type}

theorem split_le {b n y : ℕ} (hd : n % b = 0) (hy : y < n) : y - y % b + b ≤ n := by
  have h1 := Nat.div_add_mod y b
  have h2 := Nat.div_add_mod n b
  have h3 : y / b < n / b := by
    rcases Nat.eq_zero_or_pos b with rfl | hb
    · simp only [Nat.mod_zero] at hd; omega
    · rw [hd] at h2
      exact (Nat.div_lt_iff_lt_mul hb).mpr (by rw [Nat.mul_comm]; omega)
  have h4 : b * (y / b + 1) ≤ b * (n / b) := Nat.mul_le_mul_left b h3
  rw [Nat.mul_add] at h4
  omega

/-- A load from contents written piece by piece, each piece a part of one array that they cover. -/
theorem readCov_of_pieces {sig : RefSig} {κ : Kind} {sp : Space} {s : Shape} {e : EltTy} {Val : EltTy → Type} [∀ e, Nonempty (Val e)]
    (v : View sig κ sp s e) (G : s.Idx → Val e) (L : List (View.Piece Val s e)) (hL : ∀ p ∈ L, p.2 = View.ld G p.1)
    (hc : ∀ y, ∃ p ∈ L, y ∈ p.1.set) (r : Rect s) : v.readCov L r.toLoadRect = View.ld G r := by
  have e : View.read Val v (v.writes Val v.junk L) = G := read_writes_of_pieces v _ G L hL hc
  rw [← e]
  rfl

/-- Tiles of `b` rows, one below the other. -/
def rowGlue {M N b : ℕ} (hb : 0 < b) (hM : M % b = 0) (T : (o : ℕ) → o + b ≤ M → (⟨2, ![b, N]⟩ : Shape).Idx → α) :
    (⟨2, ![M, N]⟩ : Shape).Idx → α :=
  fun y => T ((y 0).val - (y 0).val % b) (split_le hM (y 0).isLt) (ix2 ⟨(y 0).val % b, Nat.mod_lt _ hb⟩ (y 1))

/-- Tiles of `b` columns, one beside the other. -/
def colGlue {M N b : ℕ} (hb : 0 < b) (hN : N % b = 0) (T : (o : ℕ) → o + b ≤ N → (⟨2, ![M, b]⟩ : Shape).Idx → α) :
    (⟨2, ![M, N]⟩ : Shape).Idx → α :=
  fun y => T ((y 1).val - (y 1).val % b) (split_le hN (y 1).isLt) (ix2 (y 0) ⟨(y 1).val % b, Nat.mod_lt _ hb⟩)

theorem rowGlue_at {M N b : ℕ} (hb : 0 < b) (hM : M % b = 0) (T : (o : ℕ) → o + b ≤ M → (⟨2, ![b, N]⟩ : Shape).Idx → α)
    (o : ℕ) (ho : o + b ≤ M) (hm : o % b = 0) (y : (⟨2, ![M, N]⟩ : Shape).Idx) (x : (⟨2, ![b, N]⟩ : Shape).Idx)
    (h0 : (y 0).val = o + (x 0).val) (h1 : (y 1).val = (x 1).val) : rowGlue hb hM T y = T o ho x := by
  have hx : (x 0).val < b := (x 0).isLt
  have hr : (y 0).val % b = (x 0).val := by rw [h0, Nat.add_mod, hm, Nat.zero_add, Nat.mod_mod, Nat.mod_eq_of_lt hx]
  have ho' : (y 0).val - (y 0).val % b = o := by omega
  unfold rowGlue
  have hix : (ix2 ⟨(y 0).val % b, Nat.mod_lt _ hb⟩ (y 1) : (⟨2, ![b, N]⟩ : Shape).Idx) = x :=
    funext fun a => Fin.ext (by
      match a with
      | ⟨0, _⟩ => exact hr
      | ⟨1, _⟩ => exact h1)
  rw [hix]
  congr 1

theorem colGlue_at {M N b : ℕ} (hb : 0 < b) (hN : N % b = 0) (T : (o : ℕ) → o + b ≤ N → (⟨2, ![M, b]⟩ : Shape).Idx → α)
    (o : ℕ) (ho : o + b ≤ N) (hm : o % b = 0) (y : (⟨2, ![M, N]⟩ : Shape).Idx) (x : (⟨2, ![M, b]⟩ : Shape).Idx)
    (h0 : (y 0).val = (x 0).val) (h1 : (y 1).val = o + (x 1).val) : colGlue hb hN T y = T o ho x := by
  have hx : (x 1).val < b := (x 1).isLt
  have hr : (y 1).val % b = (x 1).val := by rw [h1, Nat.add_mod, hm, Nat.zero_add, Nat.mod_mod, Nat.mod_eq_of_lt hx]
  have ho' : (y 1).val - (y 1).val % b = o := by omega
  unfold colGlue
  have hix : (ix2 (y 0) ⟨(y 1).val % b, Nat.mod_lt _ hb⟩ : (⟨2, ![M, b]⟩ : Shape).Idx) = x :=
    funext fun a => Fin.ext (by
      match a with
      | ⟨0, _⟩ => exact h0
      | ⟨1, _⟩ => exact hr)
  rw [hix]
  congr 1

end Glue

section Pieces
variable {Val : EltTy → Type} {e : EltTy} {M N b : ℕ}

/-- A tile of rows, as the part of the whole that it is stored to. -/
theorem row_piece (hb : 0 < b) (hM : M % b = 0) (T : (o : ℕ) → o + b ≤ M → (⟨2, ![b, N]⟩ : Shape).Idx → Val e)
    {o : ℕ} (inb : ∀ a : Fin 2, (![o, 0] : Fin 2 → ℕ) a + (⟨2, ![b, N]⟩ : Shape).size a ≤ (⟨2, ![M, N]⟩ : Shape).size a)
    (hm : o % b = 0) {w : (⟨2, ![b, N]⟩ : Shape).Idx → Val e} (hw : w = T o (inb 0)) :
    w = View.ld (Val := Val) (e' := e) (rowGlue hb hM T) (Rect.unit (s := ⟨2, ![M, N]⟩) ![o, 0] (⟨2, ![b, N]⟩ : Shape).size inb) := by
  subst hw
  funext x
  exact (rowGlue_at hb hM T o (inb 0) hm _ x (by show o + 1 * (x 0).val = _; omega) (by show 0 + 1 * (x 1).val = _; omega)).symm

/-- A tile of columns, as the part of the whole that it is stored to. -/
theorem col_piece (hb : 0 < b) (hN : N % b = 0) (T : (o : ℕ) → o + b ≤ N → (⟨2, ![M, b]⟩ : Shape).Idx → Val e)
    {o : ℕ} (inb : ∀ a : Fin 2, (![0, o] : Fin 2 → ℕ) a + (⟨2, ![M, b]⟩ : Shape).size a ≤ (⟨2, ![M, N]⟩ : Shape).size a)
    (hm : o % b = 0) {w : (⟨2, ![M, b]⟩ : Shape).Idx → Val e} (hw : w = T o (inb 1)) :
    w = View.ld (Val := Val) (e' := e) (colGlue hb hN T) (Rect.unit (s := ⟨2, ![M, N]⟩) ![0, o] (⟨2, ![M, b]⟩ : Shape).size inb) := by
  subst hw
  funext x
  exact (colGlue_at hb hN T o (inb 1) hm _ x (by show 0 + 1 * (x 0).val = _; omega) (by show o + 1 * (x 1).val = _; omega)).symm

/-- The stack `X` with the first `n` columns of `G` written to slot `k`. -/
def slotPut {α : Type} {K : ℕ} (k n : ℕ) (G : (⟨2, ![M, N]⟩ : Shape).Idx → α) (X : (⟨3, ![K, M, N]⟩ : Shape).Idx → α) :
    (⟨3, ![K, M, N]⟩ : Shape).Idx → α :=
  fun y => if (y 0).val = k ∧ (y 2).val < n then G (ix2 (y 1) (y 2)) else X y

theorem slotPut_zero {α : Type} {K : ℕ} (k : ℕ) (G : (⟨2, ![M, N]⟩ : Shape).Idx → α) (X : (⟨3, ![K, M, N]⟩ : Shape).Idx → α) :
    slotPut k 0 G X = X := by
  funext y; unfold slotPut; rw [if_neg (by omega)]

/-- One more tile of columns of slot `k`. -/
theorem slot_step {K : ℕ} {sig : RefSig} {κ : Kind} {sp : Space} (v : View sig κ sp ⟨3, ![K, M, N]⟩ e)
    (f : BufTy.Contents Val v.ty) (X : (⟨3, ![K, M, N]⟩ : Shape).Idx → Val e)
    (hb : 0 < b) (hN : N % b = 0) (T : (o : ℕ) → o + b ≤ N → (⟨2, ![M, b]⟩ : Shape).Idx → Val e)
    {k n : ℕ} {off : Fin 3 → ℕ} (hoff : off = ![k, 0, n])
    (inb : ∀ a : Fin 3, off a + (⟨3, ![1, M, b]⟩ : Shape).size a ≤ (⟨3, ![K, M, N]⟩ : Shape).size a)
    (hn : n + b ≤ N) (hm : n % b = 0) {w : (⟨3, ![1, M, b]⟩ : Shape).Idx → Val e}
    (hc : (⟨2, ![M, b]⟩ : Shape).ShapeCasts ⟨3, ![1, M, b]⟩) (hw : w = shapeCast ⟨3, ![1, M, b]⟩ (T n hn) hc)
    (L : List (View.Piece Val ⟨3, ![K, M, N]⟩ e))
    (ih : View.read Val v (v.writes Val f L) = slotPut k n (colGlue hb hN T) X) :
    View.read Val v (v.writes Val f (⟨Rect.unit (s := ⟨3, ![K, M, N]⟩) off (⟨3, ![1, M, b]⟩ : Shape).size inb, w⟩ :: L))
      = slotPut k (n + b) (colGlue hb hN T) X := by
  subst hw
  funext y
  have h1 : (y 1).val < M := (y 1).isLt
  by_cases hy : (y 0).val = k ∧ n ≤ (y 2).val ∧ (y 2).val < n + b
  · have hx : (y 2).val - n < b := by omega
    rw [View.read_writes_cons_unit_of_mem v f inb _ L y
      (ix3 (⟨0, Nat.one_pos⟩ : Fin 1) (y 1) (⟨(y 2).val - n, hx⟩ : Fin b)) hoff (fun a => by
        match a with
        | ⟨0, _⟩ => exact hy.1
        | ⟨1, _⟩ => exact (Nat.zero_add _).symm
        | ⟨2, _⟩ => show (y 2).val = n + ((y 2).val - n); omega)]
    unfold slotPut
    rw [if_pos ⟨hy.1, hy.2.2⟩]
    rw [colGlue_at hb hN T n hn hm (ix2 (y 1) (y 2)) (ix2 (y 1) (⟨(y 2).val - n, hx⟩ : Fin b)) rfl
      (by show (y 2).val = n + ((y 2).val - n); omega)]
    exact ValueIdx.shapeCast_ab_1ab_apply (T n hn) hc 0 (y 1) ⟨(y 2).val - n, hx⟩
  · have hr : View.read Val v (v.writes Val f (⟨Rect.unit (s := ⟨3, ![K, M, N]⟩) off (⟨3, ![1, M, b]⟩ : Shape).size inb,
        shapeCast ⟨3, ![1, M, b]⟩ (T n hn) hc⟩ :: L)) y = View.read Val v (v.writes Val f L) y := by
      by_cases hk : (y 0).val = k
      · exact View.read_writes_cons_unit_of_not_mem v f inb _ L y hoff (2 : Fin 3)
          (by show (y 2).val < n ∨ n + b ≤ (y 2).val; omega)
      · exact View.read_writes_cons_unit_of_not_mem v f inb _ L y hoff (0 : Fin 3)
          (by show (y 0).val < k ∨ k + 1 ≤ (y 0).val; omega)
    rw [hr, ih]
    unfold slotPut
    by_cases hk : (y 0).val = k
    · by_cases h2 : (y 2).val < n
      · rw [if_pos ⟨hk, h2⟩, if_pos ⟨hk, by omega⟩]
      · rw [if_neg (by omega), if_neg (by omega)]
    · rw [if_neg (by omega), if_neg (by omega)]

end Pieces

end Cert.Tiles

end
-- ==== Proof.OprojState.lean ====
module

public import proofs.«01_k».proof.Proof.OprojTiles
public import proofs.«01_k».proof.Proof.Gen.OprojIdeal.Frame
public import proofs.«01_k».proof.Proof.Gen.OprojIdeal.Skeleton

/-!
# What one grid point of the output projection computes

The first grid point unpacks the weights (`weights`). Grid points 0 to 23 multiply a row block of codes by the weights
and add the scaled product to the residual stream (`stream`), keeping the result in one of two slots of a scratch buffer
too. Grid points 1 to 24 turn the other slot into codes and scales (`codes`, `scales`). These are functions of the blocks
and of the scratch before the point (`State`).
-/

@[expose] public section

set_option maxRecDepth 16384

noncomputable section

namespace Cert.OprojIdeal.Gen

open Idealize.ShloMosaic Idealize.ShloMosaic.TcCoe
open Cert.Tiles

variable {F : FTy → Type} [FloatOps F]

/-- The scratch that one grid point hands to the next. -/
structure State (F : FTy → Type) where
  /-- the unpacked weights -/
  w : Vec F S3584x3584 .bf16
  /-- two row blocks of the residual stream -/
  h : Vec F S2x256x3584 .f32

/-- Field `f` of packed rows, as the numbers -1, 0 and 1. -/
def field (f : ℕ) (p : Vec F S128x3584 .i8) : FVec F S128x3584 .bf16 :=
  shapeCast S128x3584 (subf (sitofp .bf16 (bitcast S128x3584 8
    (andi (shrsi (bitcast S32x3584 32 p bitcasts_S128x3584_w8_S32x3584_w32) (broadcast S32x3584 (BitVec.ofNat 32 (2 * f))))
      (broadcast S32x3584 50529027#32)) bitcasts_S32x3584_w32_S128x3584_w8))
    (broadcast S128x3584 (Scalar.ofBits .bf16 0x3F80#16 : F .bf16))) shapeCasts_S128x3584_S128x3584

theorem packed_inb (o : ℕ) :
    ∀ a : Fin 2, (![o / 128 % 7 * 128, 0] : Fin 2 → ℕ) a + S128x3584.size a ≤ S896x3584.size a :=
  Fin.forall_fin_two.mpr ⟨by show o / 128 % 7 * 128 + 128 ≤ 896; omega, Nat.le_refl 3584⟩

/-- Rows `o` to `o + 127` of the weights: one field of 128 packed rows. -/
def weightRows (x3 : Vec F S896x3584 .i8) (o : ℕ) (h : o + 128 ≤ 3584) : FVec F S128x3584 .bf16 :=
  field (o / 896) (View.ld x3 (Rect.unit (s := S896x3584) ![o / 128 % 7 * 128, 0] S128x3584.size (packed_inb o)))

/-- The weights. -/
def weights (x3 : Vec F S896x3584 .i8) : Vec F S3584x3584 .bf16 :=
  rowGlue (M := 3584) (N := 3584) (b := 128) (by decide) (by decide) (weightRows x3)

theorem block_inb (o : ℕ) (h : o + 128 ≤ 3584) :
    ∀ a : Fin 2, (![0, o / 512 * 512] : Fin 2 → ℕ) a + S3584x512.size a ≤ S3584x3584.size a :=
  Fin.forall_fin_two.mpr ⟨Nat.le_refl 3584, by show o / 512 * 512 + 512 ≤ 3584; omega⟩

theorem cols_inb (o : ℕ) (h : o + 128 ≤ 3584) :
    ∀ a : Fin 2, (![0, o] : Fin 2 → ℕ) a + S256x128.size a ≤ S256x3584.size a :=
  Fin.forall_fin_two.mpr ⟨Nat.le_refl 256, h⟩

theorem slice_inb (o : ℕ) : S256x512.Slices ![0, o / 128 % 4 * 128] S256x128 :=
  ⟨rfl, Fin.forall_fin_two.mpr ⟨Nat.le_refl 256, by show o / 128 % 4 * 128 + 128 ≤ 512; omega⟩⟩

/-- The one word of the weights' scale. -/
def scal (x6 : Vec F S1 .f32) : Elt F .f32 :=
  View.ld x6 (Rect.unit (s := S1) ![0] S1.size inb_S1_S1_0) (Shape.Idx.first (numel1_S1.symm ▸ Nat.one_pos))

/-- The product of the row block and 512 columns of the weights, those which column `o` is among. -/
def product (x1 : Vec F S256x3584 .i8) (w : Vec F S3584x3584 .bf16) (o : ℕ) (h : o + 128 ≤ 3584) : FVec F S256x512 .f32 :=
  matmul dot_S256x3584_S3584x512_S256x512_1_0_0_1_n_n none (sitofp .bf16 x1 : FVec F S256x3584 .bf16)
    (View.ld w (Rect.unit (s := S3584x3584) ![0, o / 512 * 512] S3584x512.size (block_inb o h)))
    (constant S256x512 .f32 0x00000000#32)

/-- Columns `o` to `o + 127` of the new residual stream. -/
def streamCols (x1 : Vec F S256x3584 .i8) (x2 : Vec F S256x128 .f32) (x4 : Vec F S256x3584 .bf16) (x6 : Vec F S1 .f32)
    (w : Vec F S3584x3584 .bf16) (o : ℕ) (h : o + 128 ≤ 3584) : FVec F S256x128 .f32 :=
  addf (extf .f32 (View.ld x4 (Rect.unit (s := S256x3584) ![0, o] S256x128.size (cols_inb o h))) bitsLt_bf16_f32)
    (mulf (mulf (extractStridedSlice S256x128 ![0, o / 128 % 4 * 128] (product x1 w o h) (slice_inb o))
      (shapeCast S256x128 x2 shapeCasts_S256x128_S256x128)) (broadcast S256x128 (scal x6)))

/-- The row block of the new residual stream. -/
def stream (x1 : Vec F S256x3584 .i8) (x2 : Vec F S256x128 .f32) (x4 : Vec F S256x3584 .bf16) (x6 : Vec F S1 .f32)
    (w : Vec F S3584x3584 .bf16) : Vec F S256x3584 .f32 :=
  colGlue (M := 256) (N := 3584) (b := 128) (by decide) (by decide) (streamCols x1 x2 x4 x6 w)

/-- Whether the grid point multiplies. -/
theorem cond1_iff (i : grid0.Coords) : k0_cond1 i = 1#1 ↔ (i 0).val = 0 :=
  (by decide +kernel : ∀ a : Fin 25, Scalar.cmpi .ne (Scalar.extui (Scalar.cmpi .eq (BitVec.ofNat 32 a.val) 0#32) : BitVec 32) 0#32 = 1#1
    ↔ a.val = 0) (i 0)

/-- Grid points 1 to 23 quantise one row block and multiply the next. -/
theorem cond2_iff (i : grid0.Coords) : k0_cond2 i = 1#1 ↔ 0 < (i 0).val ∧ (i 0).val < 24 :=
  (by decide +kernel : ∀ a : Fin 25, Scalar.cmpi .ne (Scalar.extui (Scalar.andi (Scalar.cmpi .sgt (BitVec.ofNat 32 a.val) 0#32)
    (Scalar.cmpi .slt (BitVec.ofNat 32 a.val) 24#32)) : BitVec 32) 0#32 = 1#1 ↔ 0 < a.val ∧ a.val < 24) (i 0)

/-- The last grid point quantises the last row block. -/
theorem cond3_iff (i : grid0.Coords) : k0_cond3 i = 1#1 ↔ (i 0).val = 24 :=
  (by decide +kernel : ∀ a : Fin 25, Scalar.cmpi .ne (Scalar.extui (Scalar.cmpi .eq (BitVec.ofNat 32 a.val) 24#32) : BitVec 32) 0#32 = 1#1
    ↔ a.val = 24) (i 0)

/-- The slot that a row block is kept in, as the kernel computes it: the remainder of a word by 2, with the sign put right. -/
def slotWord (a : BitVec 32) : ℕ :=
  (Scalar.indexCast (Scalar.select
    (Scalar.andi (Scalar.xori (Scalar.cmpi .slt (Scalar.remsi a (Scalar.select (Scalar.cmpi .eq 2#32 0#32) 1#32 2#32)) 0#32)
        (Scalar.cmpi .slt (Scalar.select (Scalar.cmpi .eq 2#32 0#32) 1#32 2#32 : BitVec 32) 0#32))
      (Scalar.cmpi .ne (Scalar.remsi a (Scalar.select (Scalar.cmpi .eq 2#32 0#32) 1#32 2#32)) 0#32))
    (Scalar.addi (Scalar.remsi a (Scalar.select (Scalar.cmpi .eq 2#32 0#32) 1#32 2#32)) (Scalar.select (Scalar.cmpi .eq 2#32 0#32) 1#32 2#32))
    (Scalar.remsi a (Scalar.select (Scalar.cmpi .eq 2#32 0#32) 1#32 2#32))) : Index).toNat

theorem slotWord_cur (i : grid0.Coords) : slotWord (BitVec.ofNat 32 (i 0).val) = (i 0).val % 2 :=
  (by decide +kernel : ∀ a : Fin 25, slotWord (BitVec.ofNat 32 a.val) = a.val % 2) (i 0)

theorem slotWord_prev (i : grid0.Coords) :
    slotWord (Scalar.subi (BitVec.ofNat 32 (i 0).val) 1#32) = ((i 0).val + 1) % 2 :=
  (by decide +kernel : ∀ a : Fin 25, slotWord (Scalar.subi (BitVec.ofNat 32 a.val) 1#32) = (a.val + 1) % 2) (i 0)

/-- Where the columns from `n` on of the point's own slot start. -/
theorem cur_off (i : grid0.Coords) (n : ℕ) :
    (![slotWord (BitVec.ofNat 32 (i 0).val), 0, n] : Fin 3 → ℕ) = ![(i 0).val % 2, 0, n] := by rw [slotWord_cur]

/-- The slot that the point before wrote. -/
def prev (i : grid0.Coords) : Fin 2 := ⟨((i 0).val + 1) % 2, Nat.mod_lt _ (by decide)⟩

theorem rows_inb (k : Fin 2) (o : ℕ) (h : o + 32 ≤ 256) :
    ∀ a : Fin 3, (![k.val, o, 0] : Fin 3 → ℕ) a + S1x32x3584.size a ≤ S2x256x3584.size a := by
  rw [Fin.forall_fin_succ, Fin.forall_fin_two]
  exact ⟨k.isLt, h, Nat.le_refl 3584⟩

/-- Rows `o` to `o + 31` of a slot. -/
def slotRows (h : Vec F S2x256x3584 .f32) (k : Fin 2) (o : ℕ) (ho : o + 32 ≤ 256) : Vec F S1x32x3584 .f32 :=
  View.ld h (Rect.unit (s := S2x256x3584) ![k.val, o, 0] S1x32x3584.size (rows_inb k o ho))

/-- The codes of a slot's row block. -/
def codes (h : Vec F S2x256x3584 .f32) (k : Fin 2) (x5 : Vec F S1x3584 .f32) : Vec F S256x3584 .i8 :=
  rowGlue (M := 256) (N := 3584) (b := 32) (by decide) (by decide) (fun o ho => k0_pay138 (slotRows h k o ho) x5)

/-- The scales of a slot's row block. -/
def scales (h : Vec F S2x256x3584 .f32) (k : Fin 2) (x5 : Vec F S1x3584 .f32) : Vec F S256x128 .f32 :=
  rowGlue (M := 256) (N := 128) (b := 32) (by decide) (by decide) (fun o ho => k0_pay139 (k0_pay137 (slotRows h k o ho) x5))

theorem prev_inb (i : grid0.Coords) (o : ℕ) (ho : o + 32 ≤ 256) :
    ∀ a : Fin 3, (![slotWord (Scalar.subi (BitVec.ofNat 32 (i 0).val) 1#32), o, 0] : Fin 3 → ℕ) a + S1x32x3584.size a
      ≤ S2x256x3584.size a := by
  rw [slotWord_prev]
  exact rows_inb (prev i) o ho

/-- A tile of codes, as the part of the block that it is stored to. -/
theorem codes_piece (i : grid0.Coords) (h : Vec F S2x256x3584 .f32) (x5 : Vec F S1x3584 .f32) {o : ℕ}
    (ho : o + 32 ≤ 256)
    (hm : o % 32 = 0)
    {w : Vec F S32x3584 .i8} (hw : w = k0_pay138 (View.ld h (Rect.unit (s := S2x256x3584) _ S1x32x3584.size (prev_inb i o ho))) x5) :
    w = View.ld (Val := Elt F) (e' := .i8) (codes h (prev i) x5) (Rect.unit (s := S256x3584) ![o, 0] S32x3584.size (Fin.forall_fin_two.mpr ⟨ho, Nat.le_refl 3584⟩)) := by
  refine row_piece (Val := Elt F) (e := .i8) (M := 256) (N := 3584) (b := 32) (by decide) (by decide) _ (Fin.forall_fin_two.mpr ⟨ho, Nat.le_refl _⟩) hm (hw.trans ?_)
  unfold slotRows prev
  congr 3
  exact congrArg (fun k : ℕ => (![k, o, 0] : Fin 3 → ℕ)) (slotWord_prev i)

/-- A tile of scales, as the part of the block that it is stored to. -/
theorem scales_piece (i : grid0.Coords) (h : Vec F S2x256x3584 .f32) (x5 : Vec F S1x3584 .f32) {o : ℕ}
    (ho : o + 32 ≤ 256)
    (hm : o % 32 = 0)
    {w : Vec F S32x128 .f32} (hw : w = k0_pay139 (k0_pay137 (View.ld h (Rect.unit (s := S2x256x3584) _ S1x32x3584.size (prev_inb i o ho))) x5)) :
    w = View.ld (Val := Elt F) (e' := .f32) (scales h (prev i) x5) (Rect.unit (s := S256x128) ![o, 0] S32x128.size (Fin.forall_fin_two.mpr ⟨ho, Nat.le_refl 128⟩)) := by
  refine row_piece (Val := Elt F) (e := .f32) (M := 256) (N := 128) (b := 32) (by decide) (by decide) _ (Fin.forall_fin_two.mpr ⟨ho, Nat.le_refl _⟩) hm (hw.trans ?_)
  unfold slotRows prev
  congr 4
  exact congrArg (fun k : ℕ => (![k, o, 0] : Fin 3 → ℕ)) (slotWord_prev i)

theorem cur_inb (i : grid0.Coords) (o : ℕ) (ho : o + 128 ≤ 3584) :
    ∀ a : Fin 3, (![slotWord (BitVec.ofNat 32 (i 0).val), 0, o] : Fin 3 → ℕ) a + S1x256x128.size a ≤ S2x256x3584.size a := by
  rw [slotWord_cur, Fin.forall_fin_succ, Fin.forall_fin_two]
  exact ⟨Nat.mod_lt _ (by decide), Nat.le_refl 256, ho⟩

/-- A tile of the residual stream, as the part of the row block that it is stored to. -/
theorem stream_piece (x1 : Vec F S256x3584 .i8) (x2 : Vec F S256x128 .f32) (x4 : Vec F S256x3584 .bf16) (x6 : Vec F S1 .f32)
    (w : Vec F S3584x3584 .bf16) {o : ℕ} (ho : o + 128 ≤ 3584) (hm : o % 128 = 0)
    {t : Vec F S256x128 .f32} (ht : t = streamCols x1 x2 x4 x6 w o ho) :
    t = View.ld (Val := Elt F) (e' := .f32) (stream x1 x2 x4 x6 w)
      (Rect.unit (s := S256x3584) ![0, o] S256x128.size (Fin.forall_fin_two.mpr ⟨Nat.le_refl 256, ho⟩)) :=
  col_piece (Val := Elt F) (e := .f32) (M := 256) (N := 3584) (b := 128) (by decide) (by decide) _
    (Fin.forall_fin_two.mpr ⟨Nat.le_refl _, ho⟩) hm ht

/-- One more tile of the residual stream in the point's own slot. -/
theorem cur_step (i : grid0.Coords) (x1 : Vec F S256x3584 .i8) (x2 : Vec F S256x128 .f32) (x4 : Vec F S256x3584 .bf16)
    (x6 : Vec F S1 .f32) (w : Vec F S3584x3584 .bf16) (h : Vec F S2x256x3584 .f32)
    {κ : Kind} {sp : Space} (v : View sig κ sp S2x256x3584 .f32) (f : BufTy.Contents (Elt F) v.ty)
    (L : List (View.Piece (Elt F) S2x256x3584 .f32)) {o : ℕ} (ho : o + 128 ≤ 3584) (hm : o % 128 = 0)
    {t : Vec F S1x256x128 .f32}
    (ht : t = shapeCast S1x256x128 (streamCols x1 x2 x4 x6 w o ho) shapeCasts_S256x128_S1x256x128)
    (ih : View.read (Elt F) v (v.writes (Elt F) f L)
      = slotPut (M := 256) (N := 3584) (K := 2) ((i 0).val % 2) o (stream x1 x2 x4 x6 w) h) :
    View.read (Elt F) v (v.writes (Elt F) f (⟨Rect.unit (s := S2x256x3584) ![slotWord (BitVec.ofNat 32 (i 0).val), 0, o]
        S1x256x128.size (cur_inb i o ho), t⟩ :: L))
      = slotPut (M := 256) (N := 3584) (K := 2) ((i 0).val % 2) (o + 128) (stream x1 x2 x4 x6 w) h :=
  slot_step (Val := Elt F) (e := .f32) (M := 256) (N := 3584) (b := 128) (K := 2) v f h (by decide) (by decide)
    (streamCols x1 x2 x4 x6 w) (cur_off i o) (cur_inb i o ho) ho hm _ ht L ih

theorem zero_inb (o : ℕ) (ho : o + 128 ≤ 3584) :
    ∀ a : Fin 3, (![0, 0, o] : Fin 3 → ℕ) a + S1x256x128.size a ≤ S2x256x3584.size a := by
  rw [Fin.forall_fin_succ, Fin.forall_fin_two]
  exact ⟨(by decide : 0 + 1 ≤ 2), Nat.le_refl 256, ho⟩

/-- One more tile of the residual stream in slot 0. -/
theorem zero_step (x1 : Vec F S256x3584 .i8) (x2 : Vec F S256x128 .f32) (x4 : Vec F S256x3584 .bf16)
    (x6 : Vec F S1 .f32) (w : Vec F S3584x3584 .bf16) (h : Vec F S2x256x3584 .f32)
    {κ : Kind} {sp : Space} (v : View sig κ sp S2x256x3584 .f32) (f : BufTy.Contents (Elt F) v.ty)
    (L : List (View.Piece (Elt F) S2x256x3584 .f32)) {o : ℕ} (ho : o + 128 ≤ 3584) (hm : o % 128 = 0)
    {t : Vec F S1x256x128 .f32}
    (ht : t = shapeCast S1x256x128 (streamCols x1 x2 x4 x6 w o ho) shapeCasts_S256x128_S1x256x128)
    (ih : View.read (Elt F) v (v.writes (Elt F) f L)
      = slotPut (M := 256) (N := 3584) (K := 2) 0 o (stream x1 x2 x4 x6 w) h) :
    View.read (Elt F) v (v.writes (Elt F) f (⟨Rect.unit (s := S2x256x3584) ![0, 0, o]
        S1x256x128.size (zero_inb o ho), t⟩ :: L))
      = slotPut (M := 256) (N := 3584) (K := 2) 0 (o + 128) (stream x1 x2 x4 x6 w) h :=
  slot_step (Val := Elt F) (e := .f32) (M := 256) (N := 3584) (b := 128) (K := 2) v f h (by decide) (by decide)
    (streamCols x1 x2 x4 x6 w) rfl (zero_inb o ho) ho hm _ ht L ih

section Covered
variable (x1 : Vec F S256x3584 .i8) (x2 : Vec F S256x128 .f32) (x4 : Vec F S256x3584 .bf16) (x6 : Vec F S1 .f32)
  (w : Vec F S3584x3584 .bf16) {κ : Kind} {sp : Space} (v : View sig κ sp S3584x3584 .bf16)
  (L : List (View.Piece (Elt F) S3584x3584 .bf16))

/-- Columns `o` to `o + 127` of the new residual stream, from weights written piece by piece. -/
def coveredCols (o : ℕ) (h : o + 128 ≤ 3584) : FVec F S256x128 .f32 :=
  addf (extf .f32 (View.ld x4 (Rect.unit (s := S256x3584) ![0, o] S256x128.size (cols_inb o h))) bitsLt_bf16_f32)
    (mulf (mulf (extractStridedSlice S256x128 ![0, o / 128 % 4 * 128]
      (matmul dot_S256x3584_S3584x512_S256x512_1_0_0_1_n_n none (sitofp .bf16 x1 : FVec F S256x3584 .bf16)
        (v.readCov L (Rect.unit (s := S3584x3584) ![0, o / 512 * 512] S3584x512.size (block_inb o h)).toLoadRect)
        (constant S256x512 .f32 0x00000000#32)) (slice_inb o))
      (shapeCast S256x128 x2 shapeCasts_S256x128_S256x128)) (broadcast S256x128 (scal x6)))

variable (hL : ∀ r : Rect S3584x3584, v.readCov L r.toLoadRect = View.ld (Val := Elt F) (e' := .bf16) w r)
include hL

theorem coveredCols_eq (o : ℕ) (h : o + 128 ≤ 3584) : coveredCols x1 x2 x4 x6 v L o h = streamCols x1 x2 x4 x6 w o h := by
  unfold coveredCols streamCols product
  rw [hL]

/-- `stream_piece` for the weights written piece by piece. -/
theorem covered_piece {o : ℕ} (ho : o + 128 ≤ 3584) (hm : o % 128 = 0) {t : Vec F S256x128 .f32}
    (ht : t = coveredCols x1 x2 x4 x6 v L o ho) :
    t = View.ld (Val := Elt F) (e' := .f32) (stream x1 x2 x4 x6 w)
      (Rect.unit (s := S256x3584) ![0, o] S256x128.size (Fin.forall_fin_two.mpr ⟨Nat.le_refl 256, ho⟩)) :=
  stream_piece x1 x2 x4 x6 w ho hm (ht.trans (coveredCols_eq x1 x2 x4 x6 w v L hL o ho))

/-- `zero_step` for the weights written piece by piece. -/
theorem covered_step (h : Vec F S2x256x3584 .f32) {κ' : Kind} {sp' : Space} (u : View sig κ' sp' S2x256x3584 .f32)
    (f : BufTy.Contents (Elt F) u.ty) (P : List (View.Piece (Elt F) S2x256x3584 .f32)) {o : ℕ} (ho : o + 128 ≤ 3584)
    (hm : o % 128 = 0) {t : Vec F S1x256x128 .f32}
    (ht : t = shapeCast S1x256x128 (coveredCols x1 x2 x4 x6 v L o ho) shapeCasts_S256x128_S1x256x128)
    (ih : View.read (Elt F) u (u.writes (Elt F) f P)
      = slotPut (M := 256) (N := 3584) (K := 2) 0 o (stream x1 x2 x4 x6 w) h) :
    View.read (Elt F) u (u.writes (Elt F) f (⟨Rect.unit (s := S2x256x3584) ![0, 0, o]
        S1x256x128.size (zero_inb o ho), t⟩ :: P))
      = slotPut (M := 256) (N := 3584) (K := 2) 0 (o + 128) (stream x1 x2 x4 x6 w) h :=
  zero_step x1 x2 x4 x6 w h u f P ho hm (by rw [ht, coveredCols_eq x1 x2 x4 x6 w v L hL o ho]) ih

end Covered

/-- Rows of the weights, as the part of the weights that they are stored to. -/
theorem weights_piece (x3 : Vec F S896x3584 .i8) {o : ℕ} (ho : o + 128 ≤ 3584) (hm : o % 128 = 0)
    {t : Vec F S128x3584 .bf16} (ht : t = weightRows x3 o ho) :
    t = View.ld (Val := Elt F) (e' := .bf16) (weights x3)
      (Rect.unit (s := S3584x3584) ![o, 0] S128x3584.size (Fin.forall_fin_two.mpr ⟨ho, Nat.le_refl 3584⟩)) :=
  row_piece (Val := Elt F) (e := .bf16) (M := 3584) (N := 3584) (b := 128) (by decide) (by decide) _
    (Fin.forall_fin_two.mpr ⟨ho, Nat.le_refl _⟩) hm ht

/-- The scratch after the point. -/
def State.next (i : grid0.Coords) (x1 : Vec F S256x3584 .i8) (x2 : Vec F S256x128 .f32) (x3 : Vec F S896x3584 .i8)
    (x4 : Vec F S256x3584 .bf16) (x6 : Vec F S1 .f32) (s : State F) : State F where
  w := if (i 0).val = 0 then weights x3 else s.w
  h := if (i 0).val < 24 then
      slotPut (M := 256) (N := 3584) (K := 2) ((i 0).val % 2) 3584
        (stream x1 x2 x4 x6 (if (i 0).val = 0 then weights x3 else s.w)) s.h
    else s.h

/-- The block of the residual stream after the point, which found `x7` there. -/
def streamAfter (i : grid0.Coords) (x1 : Vec F S256x3584 .i8) (x2 : Vec F S256x128 .f32) (x3 : Vec F S896x3584 .i8)
    (x4 : Vec F S256x3584 .bf16) (x6 : Vec F S1 .f32) (s : State F) (x7 : Vec F S256x3584 .f32) : Vec F S256x3584 .f32 :=
  if (i 0).val < 24 then stream x1 x2 x4 x6 (s.next i x1 x2 x3 x4 x6).w else x7

/-- The block of codes after the point, which found `x8` there. -/
def codesAfter (i : grid0.Coords) (x5 : Vec F S1x3584 .f32) (s : State F) (x8 : Vec F S256x3584 .i8) : Vec F S256x3584 .i8 :=
  if 0 < (i 0).val then codes s.h (prev i) x5 else x8

/-- The block of scales after the point, which found `x9` there. -/
def scalesAfter (i : grid0.Coords) (x5 : Vec F S1x3584 .f32) (s : State F) (x9 : Vec F S256x128 .f32) : Vec F S256x128 .f32 :=
  if 0 < (i 0).val then scales s.h (prev i) x5 else x9

end Cert.OprojIdeal.Gen

end
-- ==== Proof.OprojOwn.lean ====
module

public import proofs.«01_k».proof.Proof.OprojState

/-!
# Buffers owned, with names for the words that they hold
-/

@[expose] public section

set_option maxRecDepth 16384

noncomputable section

namespace Cert.OprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Tiles

variable {F : FTy → Type} [FloatOps F]

local notation "𝕄" => MT nD τ sig Unit (Elt F) ℕ (UR sig nD τ) ℕ

/-- A buffer owned at its contents, with the words that it holds. -/
theorem owns_read (c : Thread nD τ) {sp : Space} {s : Shape} {e : EltTy} (m : Memref sig c.2.kind sp s e) (q : PosShare TreeShare)
    (x : s.Idx → Elt F e) :
    (owns c m q x : sProp 𝕄) ⊢ iprop(∃ f, ⌜m.view.read (Elt F) f = x⌝ ∗ m.view.loc c ↦[m.view.set]{q} f) := .rfl

/-- Contents under a name, known by their words. -/
theorem name_contents (c : Thread nD τ) {sp : Space} {s : Shape} {e : EltTy} (m : Memref sig c.2.kind sp s e) (q : PosShare TreeShare)
    (f : BufTy.Contents (Elt F) m.view.ty) :
    (iprop(m.view.loc c ↦[m.view.set]{q} f) : sProp 𝕄)
      ⊢ iprop(∃ g, ⌜m.view.read (Elt F) f = m.view.read (Elt F) g⌝ ∗ m.view.loc c ↦[m.view.set]{q} g) := by
  iintro H
  iexists _
  isplitr; rotate_left
  · iexact H
  ipureintro; exact rfl

end Cert.OprojIdeal.Gen

end
-- ==== Proof.OprojBodyA.lean ====
module

public import proofs.«01_k».proof.Proof.OprojOwn

/-!
# The output projection's body at the first grid point

From its blocks and the scratch `s` the body leaves the scratch `s.next`, the residual stream `streamAfter`, the codes
`codesAfter` and the scales `scalesAfter`.
-/

@[expose] public section

set_option maxRecDepth 16384

noncomputable section

namespace Cert.OprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Tiles

variable {F : FTy → Type} [FloatOps F]

local notation "𝕄" => MT nD τ sig Unit (Elt F) ℕ (UR sig nD τ) ℕ

set_option maxHeartbeats 4000000 in
/-- The body at the first grid point. -/
theorem bodyA (c : Dev nD) (i : grid0.Coords) (arg1 : Memref sig .tc .vmem S256x3584 .i8) (harg1 : arg1.IsWhole) (arg2 : Memref sig .tc .vmem S256x128 .f32) (harg2 : arg2.IsWhole) (arg3 : Memref sig .tc .vmem S896x3584 .i8) (harg3 : arg3.IsWhole) (arg4 : Memref sig .tc .vmem S256x3584 .bf16) (harg4 : arg4.IsWhole) (arg5 : Memref sig .tc .vmem S1x3584 .f32) (harg5 : arg5.IsWhole) (arg6 : Memref sig .tc .smem S1 .f32) (harg6 : arg6.IsWhole) (arg7 : Memref sig .tc .vmem S256x3584 .f32) (harg7 : arg7.IsWhole) (arg8 : Memref sig .tc .vmem S256x3584 .i8) (harg8 : arg8.IsWhole) (arg9 : Memref sig .tc .vmem S256x128 .f32) (harg9 : arg9.IsWhole) (arg10 : Memref sig .tc .vmem S3584x3584 .bf16) (harg10 : arg10.IsWhole) (arg11 : Memref sig .tc .vmem S2x256x3584 .f32) (harg11 : arg11.IsWhole)
    (hi : (i 0).val = 0) (x1 : Vec F S256x3584 .i8) (x2 : Vec F S256x128 .f32) (x3 : Vec F S896x3584 .i8) (x4 : Vec F S256x3584 .bf16) (x5 : Vec F S1x3584 .f32) (x6 : Vec F S1 .f32) (x7 : Vec F S256x3584 .f32) (x8 : Vec F S256x3584 .i8) (x9 : Vec F S256x128 .f32) (s : State F) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare s.w ∗ owns (c : Thread nD τ) arg11 fullShare s.h ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (streamAfter i x1 x2 x3 x4 x6 s x7) ∗ owns (c : Thread nD τ) arg8 fullShare (codesAfter i x5 s x8) ∗ owns (c : Thread nD τ) arg9 fullShare (scalesAfter i x5 s x9) ∗ owns (c : Thread nD τ) arg10 fullShare (s.next i x1 x2 x3 x4 x6).w ∗ owns (c : Thread nD τ) arg11 fullShare (s.next i x1 x2 x3 x4 x6).h) -∗ K ⟨⟩))
    ⊢ wp frame (wpE (defs₀ (F := F)) Variants.none c none) E (cc0_oproj i arg1 harg1 arg2 harg2 arg3 harg3 arg4 harg4 arg5 harg5 arg6 harg6 arg7 harg7 arg8 harg8 arg9 harg9 arg10 harg10 arg11 harg11) K := by
  have hA : k0_cond1 i = 1#1 := (cond1_iff i).mpr hi
  have hB : ¬ k0_cond2 i = 1#1 := fun h => absurd ((cond2_iff i).mp h) (by omega)
  have hC : ¬ k0_cond3 i = 1#1 := fun h => absurd ((cond3_iff i).mp h) (by omega)
  obtain ⟨w, h⟩ := s
  rw [cc0_oproj_eq_skeleton]; unfold cc0_oproj_skel
  iintro ⟨H1, H2, H3, H4, H5, H6, H7, H8, H9, H10, H11, Hk⟩
  simp only [State.next, streamAfter, codesAfter, scalesAfter, if_pos hi, if_pos (show (i 0).val < 24 by omega), if_neg (show ¬ 0 < (i 0).val by omega)]
  icases (owns_read c arg1 fullShare _) $$ H1 with ⟨%f1, %hf1, H1⟩
  icases (owns_read c arg2 fullShare _) $$ H2 with ⟨%f2, %hf2, H2⟩
  icases (owns_read c arg3 fullShare _) $$ H3 with ⟨%f3, %hf3, H3⟩
  icases (owns_read c arg4 fullShare _) $$ H4 with ⟨%f4, %hf4, H4⟩
  icases (owns_read c arg6 fullShare _) $$ H6 with ⟨%f6, %hf6, H6⟩
  icases (owns_read c arg7 fullShare _) $$ H7 with ⟨%f7, %hf7, H7⟩
  icases (owns_read c arg10 fullShare _) $$ H10 with ⟨%f10, %hf10, H10⟩
  icases (owns_read c arg11 fullShare _) $$ H11 with ⟨%f11, %hf11, H11⟩
  subst hf3 hf10
  simp -zeta only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  sl_exec (disch := first | sl_exact hA | sl_exact hB | sl_exact hC)
  have hp : ∀ p ∈ bodyA.sl.H10_28 c arg3 f3, p.2 = View.ld (weights (View.read (Elt F) arg3.view f3)) p.1 := by
    intro p hp
    fin_cases hp <;> exact weights_piece (View.read (Elt F) arg3.view f3) (by decide) (by decide) rfl
  have hc := View.cover_of_tiledL (bodyA.sl.H10_28 c arg3 f3) S128x3584.size (by sl_kernel_rfl)
  have hL := readCov_of_pieces arg10.view (weights (View.read (Elt F) arg3.view f3)) (bodyA.sl.H10_28 c arg3 f3) hp hc
  obtain rfl := (View.readAt_full arg1.view f1 inb_S256x3584_S256x3584_0_0).trans hf1
  obtain rfl := (View.readAt_full arg2.view f2 inb_S256x128_S256x128_0_0).trans hf2
  subst hf4 hf6 hf7 hf11
  iapply (le_wp_ret _ _ E PUnit.unit K)
  iapply Hk
  isplitl [H1]
  · unfold owns; iexists _; isplitr; rotate_left
    · iexact H1
    ipureintro
    exact hf1
  isplitl [H2]
  · unfold owns; iexists _; isplitr; rotate_left
    · iexact H2
    ipureintro
    exact hf2
  isplitl [H3]
  · unfold owns; iexists _; isplitr; rotate_left
    · iexact H3
    ipureintro
    exact rfl
  isplitl [H4]
  · unfold owns; iexists _; isplitr; rotate_left
    · iexact H4
    ipureintro
    exact rfl
  isplitl [H5]; · iexact H5
  isplitl [H6]
  · unfold owns; iexists _; isplitr; rotate_left
    · iexact H6
    ipureintro
    exact rfl
  isplitl [H7]
  · unfold owns; iexists _; isplitr; rotate_left
    · iexact H7
    ipureintro
    refine read_writes_of_pieces _ _ _ _ (fun p hp => ?_) (View.cover_of_tiledL _ S256x128.size (by sl_kernel_rfl))
    fin_cases hp <;> exact covered_piece _ _ (View.read (Elt F) arg4.view f4) (View.read (Elt F) arg6.view f6) _ arg10.view _ hL
      (by decide) (by decide) rfl
  isplitl [H8]; · iexact H8
  isplitl [H9]; · iexact H9
  isplitl [H10]
  · unfold owns; iexists _; isplitr; rotate_left
    · iexact H10
    ipureintro
    exact read_writes_of_pieces _ _ _ _ hp hc
  unfold owns; iexists _; isplitr; rotate_left
  · iexact H11
  ipureintro
  rw [show (i 0).val % 2 = 0 by rw [hi]]
  iterate 28
    refine covered_step _ _ (View.read (Elt F) arg4.view f4) (View.read (Elt F) arg6.view f6) _ arg10.view _ hL
      (View.read (Elt F) arg11.view f11) _ _ _ (by decide) (by decide) rfl ?_
  exact (slotPut_zero (M := 256) (N := 3584) (K := 2) _ _ _).symm

end Cert.OprojIdeal.Gen

end
-- ==== Proof.OprojBodyB.lean ====
module

public import proofs.«01_k».proof.Proof.OprojOwn

/-!
# The output projection's body at grid points 1 to 23

From its blocks and the scratch `s` the body leaves the scratch `s.next`, the residual stream `streamAfter`, the codes
`codesAfter` and the scales `scalesAfter`.
-/

@[expose] public section

set_option maxRecDepth 16384

noncomputable section

namespace Cert.OprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Tiles

variable {F : FTy → Type} [FloatOps F]

local notation "𝕄" => MT nD τ sig Unit (Elt F) ℕ (UR sig nD τ) ℕ

set_option maxHeartbeats 4000000 in
/-- The body at grid points 1 to 23. -/
theorem bodyB (c : Dev nD) (i : grid0.Coords) (arg1 : Memref sig .tc .vmem S256x3584 .i8) (harg1 : arg1.IsWhole) (arg2 : Memref sig .tc .vmem S256x128 .f32) (harg2 : arg2.IsWhole) (arg3 : Memref sig .tc .vmem S896x3584 .i8) (harg3 : arg3.IsWhole) (arg4 : Memref sig .tc .vmem S256x3584 .bf16) (harg4 : arg4.IsWhole) (arg5 : Memref sig .tc .vmem S1x3584 .f32) (harg5 : arg5.IsWhole) (arg6 : Memref sig .tc .smem S1 .f32) (harg6 : arg6.IsWhole) (arg7 : Memref sig .tc .vmem S256x3584 .f32) (harg7 : arg7.IsWhole) (arg8 : Memref sig .tc .vmem S256x3584 .i8) (harg8 : arg8.IsWhole) (arg9 : Memref sig .tc .vmem S256x128 .f32) (harg9 : arg9.IsWhole) (arg10 : Memref sig .tc .vmem S3584x3584 .bf16) (harg10 : arg10.IsWhole) (arg11 : Memref sig .tc .vmem S2x256x3584 .f32) (harg11 : arg11.IsWhole)
    (hi : 0 < (i 0).val ∧ (i 0).val < 24) (x1 : Vec F S256x3584 .i8) (x2 : Vec F S256x128 .f32) (x3 : Vec F S896x3584 .i8) (x4 : Vec F S256x3584 .bf16) (x5 : Vec F S1x3584 .f32) (x6 : Vec F S1 .f32) (x7 : Vec F S256x3584 .f32) (x8 : Vec F S256x3584 .i8) (x9 : Vec F S256x128 .f32) (s : State F) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare s.w ∗ owns (c : Thread nD τ) arg11 fullShare s.h ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (streamAfter i x1 x2 x3 x4 x6 s x7) ∗ owns (c : Thread nD τ) arg8 fullShare (codesAfter i x5 s x8) ∗ owns (c : Thread nD τ) arg9 fullShare (scalesAfter i x5 s x9) ∗ owns (c : Thread nD τ) arg10 fullShare (s.next i x1 x2 x3 x4 x6).w ∗ owns (c : Thread nD τ) arg11 fullShare (s.next i x1 x2 x3 x4 x6).h) -∗ K ⟨⟩))
    ⊢ wp frame (wpE (defs₀ (F := F)) Variants.none c none) E (cc0_oproj i arg1 harg1 arg2 harg2 arg3 harg3 arg4 harg4 arg5 harg5 arg6 harg6 arg7 harg7 arg8 harg8 arg9 harg9 arg10 harg10 arg11 harg11) K := by
  have hA : ¬ k0_cond1 i = 1#1 := fun h => absurd ((cond1_iff i).mp h) (by omega)
  have hB : k0_cond2 i = 1#1 := (cond2_iff i).mpr hi
  have hC : ¬ k0_cond3 i = 1#1 := fun h => absurd ((cond3_iff i).mp h) (by omega)
  obtain ⟨w, h⟩ := s
  rw [cc0_oproj_eq_skeleton]; unfold cc0_oproj_skel
  iintro ⟨H1, H2, H3, H4, H5, H6, H7, H8, H9, H10, H11, Hk⟩
  simp only [State.next, streamAfter, codesAfter, scalesAfter, if_neg (show ¬ (i 0).val = 0 by omega), if_pos (show (i 0).val < 24 by omega), if_pos (show 0 < (i 0).val by omega)]
  icases (owns_read c arg1 fullShare _) $$ H1 with ⟨%f1, %hf1, H1⟩
  icases (owns_read c arg2 fullShare _) $$ H2 with ⟨%f2, %hf2, H2⟩
  icases (owns_read c arg4 fullShare _) $$ H4 with ⟨%f4, %hf4, H4⟩
  icases (owns_read c arg5 fullShare _) $$ H5 with ⟨%f5, %hf5, H5⟩
  icases (owns_read c arg6 fullShare _) $$ H6 with ⟨%f6, %hf6, H6⟩
  icases (owns_read c arg7 fullShare _) $$ H7 with ⟨%f7, %hf7, H7⟩
  icases (owns_read c arg8 fullShare _) $$ H8 with ⟨%f8, %hf8, H8⟩
  icases (owns_read c arg9 fullShare _) $$ H9 with ⟨%f9, %hf9, H9⟩
  icases (owns_read c arg10 fullShare _) $$ H10 with ⟨%f10, %hf10, H10⟩
  icases (owns_read c arg11 fullShare _) $$ H11 with ⟨%f11, %hf11, H11⟩
  simp -zeta only [k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
  sl_exec (disch := first | sl_exact hA | sl_exact hB | sl_exact hC)
  obtain rfl := (View.readAt_full arg1.view f1 inb_S256x3584_S256x3584_0_0).trans hf1
  obtain rfl := (View.readAt_full arg2.view f2 inb_S256x128_S256x128_0_0).trans hf2
  obtain rfl := (View.readAt_full arg5.view f5 inb_S1x3584_S1x3584_0_0).trans hf5
  subst hf4 hf6 hf7 hf8 hf9 hf10 hf11
  iapply (le_wp_ret _ _ E PUnit.unit K)
  iapply Hk
  isplitl [H1]
  · unfold owns; iexists _; isplitr; rotate_left
    · iexact H1
    ipureintro
    exact hf1
  isplitl [H2]
  · unfold owns; iexists _; isplitr; rotate_left
    · iexact H2
    ipureintro
    exact hf2
  isplitl [H3]; · iexact H3
  isplitl [H4]
  · unfold owns; iexists _; isplitr; rotate_left
    · iexact H4
    ipureintro
    exact rfl
  isplitl [H5]
  · unfold owns; iexists _; isplitr; rotate_left
    · iexact H5
    ipureintro
    exact hf5
  isplitl [H6]
  · unfold owns; iexists _; isplitr; rotate_left
    · iexact H6
    ipureintro
    exact rfl
  isplitl [H7]
  · unfold owns; iexists _; isplitr; rotate_left
    · iexact H7
    ipureintro
    refine read_writes_of_pieces _ _ _ _ (fun p hp => ?_) (View.cover_of_tiledL _ S256x128.size (by sl_kernel_rfl))
    fin_cases hp <;> exact stream_piece _ _ (View.read (Elt F) arg4.view f4) (View.read (Elt F) arg6.view f6)
      (View.read (Elt F) arg10.view f10) (by decide) (by decide) rfl
  isplitl [H8]
  · unfold owns; iexists _; isplitr; rotate_left
    · iexact H8
    ipureintro
    refine read_writes_of_pieces _ _ _ _ (fun p hp => ?_) (View.cover_of_tiledL _ S32x3584.size (by sl_kernel_rfl))
    fin_cases hp <;> exact codes_piece i (View.read (Elt F) arg11.view f11) _ (by decide) (by decide) rfl
  isplitl [H9]
  · unfold owns; iexists _; isplitr; rotate_left
    · iexact H9
    ipureintro
    refine read_writes_of_pieces _ _ _ _ (fun p hp => ?_) (View.cover_of_tiledL _ S32x128.size (by sl_kernel_rfl))
    fin_cases hp <;> exact scales_piece i (View.read (Elt F) arg11.view f11) _ (by decide) (by decide) rfl
  isplitl [H10]
  · unfold owns; iexists _; isplitr; rotate_left
    · iexact H10
    ipureintro
    exact rfl
  unfold owns; iexists _; isplitr; rotate_left
  · iexact H11
  ipureintro
  iterate 28
    refine cur_step i _ _ (View.read (Elt F) arg4.view f4) (View.read (Elt F) arg6.view f6)
      (View.read (Elt F) arg10.view f10) (View.read (Elt F) arg11.view f11) _ _ _ (by decide) (by decide) rfl ?_
  exact (slotPut_zero (M := 256) (N := 3584) (K := 2) _ _ _).symm

end Cert.OprojIdeal.Gen

end
-- ==== Proof.OprojBodyC.lean ====
module

public import proofs.«01_k».proof.Proof.OprojOwn

/-!
# The output projection's body at the last grid point

From its blocks and the scratch `s` the body leaves the scratch `s.next`, the residual stream `streamAfter`, the codes
`codesAfter` and the scales `scalesAfter`.
-/

@[expose] public section

set_option maxRecDepth 16384

noncomputable section

namespace Cert.OprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Tiles

variable {F : FTy → Type} [FloatOps F]

local notation "𝕄" => MT nD τ sig Unit (Elt F) ℕ (UR sig nD τ) ℕ

set_option maxHeartbeats 1000000 in
/-- The body at the last grid point. -/
theorem bodyC (c : Dev nD) (i : grid0.Coords) (arg1 : Memref sig .tc .vmem S256x3584 .i8) (harg1 : arg1.IsWhole) (arg2 : Memref sig .tc .vmem S256x128 .f32) (harg2 : arg2.IsWhole) (arg3 : Memref sig .tc .vmem S896x3584 .i8) (harg3 : arg3.IsWhole) (arg4 : Memref sig .tc .vmem S256x3584 .bf16) (harg4 : arg4.IsWhole) (arg5 : Memref sig .tc .vmem S1x3584 .f32) (harg5 : arg5.IsWhole) (arg6 : Memref sig .tc .smem S1 .f32) (harg6 : arg6.IsWhole) (arg7 : Memref sig .tc .vmem S256x3584 .f32) (harg7 : arg7.IsWhole) (arg8 : Memref sig .tc .vmem S256x3584 .i8) (harg8 : arg8.IsWhole) (arg9 : Memref sig .tc .vmem S256x128 .f32) (harg9 : arg9.IsWhole) (arg10 : Memref sig .tc .vmem S3584x3584 .bf16) (harg10 : arg10.IsWhole) (arg11 : Memref sig .tc .vmem S2x256x3584 .f32) (harg11 : arg11.IsWhole)
    (hi : (i 0).val = 24) (x1 : Vec F S256x3584 .i8) (x2 : Vec F S256x128 .f32) (x3 : Vec F S896x3584 .i8) (x4 : Vec F S256x3584 .bf16) (x5 : Vec F S1x3584 .f32) (x6 : Vec F S1 .f32) (x7 : Vec F S256x3584 .f32) (x8 : Vec F S256x3584 .i8) (x9 : Vec F S256x128 .f32) (s : State F) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare s.w ∗ owns (c : Thread nD τ) arg11 fullShare s.h ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (streamAfter i x1 x2 x3 x4 x6 s x7) ∗ owns (c : Thread nD τ) arg8 fullShare (codesAfter i x5 s x8) ∗ owns (c : Thread nD τ) arg9 fullShare (scalesAfter i x5 s x9) ∗ owns (c : Thread nD τ) arg10 fullShare (s.next i x1 x2 x3 x4 x6).w ∗ owns (c : Thread nD τ) arg11 fullShare (s.next i x1 x2 x3 x4 x6).h) -∗ K ⟨⟩))
    ⊢ wp frame (wpE (defs₀ (F := F)) Variants.none c none) E (cc0_oproj i arg1 harg1 arg2 harg2 arg3 harg3 arg4 harg4 arg5 harg5 arg6 harg6 arg7 harg7 arg8 harg8 arg9 harg9 arg10 harg10 arg11 harg11) K := by
  have hA : ¬ k0_cond1 i = 1#1 := fun h => absurd ((cond1_iff i).mp h) (by omega)
  have hB : ¬ k0_cond2 i = 1#1 := fun h => absurd ((cond2_iff i).mp h) (by omega)
  have hC : k0_cond3 i = 1#1 := (cond3_iff i).mpr hi
  obtain ⟨w, h⟩ := s
  rw [cc0_oproj_eq_skeleton]; unfold cc0_oproj_skel
  iintro ⟨H1, H2, H3, H4, H5, H6, H7, H8, H9, H10, H11, Hk⟩
  simp only [State.next, streamAfter, codesAfter, scalesAfter, if_neg (show ¬ (i 0).val = 0 by omega), if_neg (show ¬ (i 0).val < 24 by omega), if_pos (show 0 < (i 0).val by omega)]
  icases (owns_read c arg5 fullShare _) $$ H5 with ⟨%f5, %hf5, H5⟩
  icases (owns_read c arg8 fullShare _) $$ H8 with ⟨%f8, %hf8, H8⟩
  icases (owns_read c arg9 fullShare _) $$ H9 with ⟨%f9, %hf9, H9⟩
  icases (owns_read c arg11 fullShare _) $$ H11 with ⟨%f11, %hf11, H11⟩
  simp -zeta only [k0_part39_eq_skeleton, k0_part40_eq_skeleton, k0_part41_eq_skeleton, k0_part42_eq_skeleton, k0_part43_eq_skeleton, k0_part44_eq_skeleton, k0_part45_eq_skeleton]
  sl_exec (disch := first | sl_exact hA | sl_exact hB | sl_exact hC)
  obtain rfl := (View.readAt_full arg5.view f5 inb_S1x3584_S1x3584_0_0).trans hf5
  subst hf8 hf9 hf11
  iapply (le_wp_ret _ _ E PUnit.unit K)
  iapply Hk
  isplitl [H1]; · iexact H1
  isplitl [H2]; · iexact H2
  isplitl [H3]; · iexact H3
  isplitl [H4]; · iexact H4
  isplitl [H5]
  · unfold owns; iexists _; isplitr; rotate_left
    · iexact H5
    ipureintro
    exact hf5
  isplitl [H6]; · iexact H6
  isplitl [H7]; · iexact H7
  isplitl [H8]
  · unfold owns; iexists _; isplitr; rotate_left
    · iexact H8
    ipureintro
    refine read_writes_of_pieces _ _ _ _ (fun p hp => ?_) (View.cover_of_tiledL _ S32x3584.size (by sl_kernel_rfl))
    fin_cases hp <;> exact codes_piece i (View.read (Elt F) arg11.view f11) _ (by decide) (by decide) rfl
  isplitl [H9]
  · unfold owns; iexists _; isplitr; rotate_left
    · iexact H9
    ipureintro
    refine read_writes_of_pieces _ _ _ _ (fun p hp => ?_) (View.cover_of_tiledL _ S32x128.size (by sl_kernel_rfl))
    fin_cases hp <;> exact scales_piece i (View.read (Elt F) arg11.view f11) _ (by decide) (by decide) rfl
  isplitl [H10]; · iexact H10
  unfold owns; iexists _; isplitr; rotate_left
  · iexact H11
  ipureintro
  exact rfl

end Cert.OprojIdeal.Gen

end
-- ==== Proof.OprojBody.lean ====
module

public import proofs.«01_k».proof.Proof.OprojBodyA
public import proofs.«01_k».proof.Proof.OprojBodyB
public import proofs.«01_k».proof.Proof.OprojBodyC

/-!
# The output projection's body at any grid point
-/

@[expose] public section

set_option maxRecDepth 16384

noncomputable section

namespace Cert.OprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Tiles

variable {F : FTy → Type} [FloatOps F]

local notation "𝕄" => MT nD τ sig Unit (Elt F) ℕ (UR sig nD τ) ℕ

/-- The body at any point: from its blocks and the scratch `s` it leaves the scratch `s.next`, the residual stream
`streamAfter`, the codes `codesAfter` and the scales `scalesAfter`. -/
theorem body (c : Dev nD) (i : grid0.Coords) (arg1 : Memref sig .tc .vmem S256x3584 .i8) (harg1 : arg1.IsWhole) (arg2 : Memref sig .tc .vmem S256x128 .f32) (harg2 : arg2.IsWhole) (arg3 : Memref sig .tc .vmem S896x3584 .i8) (harg3 : arg3.IsWhole) (arg4 : Memref sig .tc .vmem S256x3584 .bf16) (harg4 : arg4.IsWhole) (arg5 : Memref sig .tc .vmem S1x3584 .f32) (harg5 : arg5.IsWhole) (arg6 : Memref sig .tc .smem S1 .f32) (harg6 : arg6.IsWhole) (arg7 : Memref sig .tc .vmem S256x3584 .f32) (harg7 : arg7.IsWhole) (arg8 : Memref sig .tc .vmem S256x3584 .i8) (harg8 : arg8.IsWhole) (arg9 : Memref sig .tc .vmem S256x128 .f32) (harg9 : arg9.IsWhole) (arg10 : Memref sig .tc .vmem S3584x3584 .bf16) (harg10 : arg10.IsWhole) (arg11 : Memref sig .tc .vmem S2x256x3584 .f32) (harg11 : arg11.IsWhole)
    (x1 : Vec F S256x3584 .i8) (x2 : Vec F S256x128 .f32) (x3 : Vec F S896x3584 .i8) (x4 : Vec F S256x3584 .bf16) (x5 : Vec F S1x3584 .f32) (x6 : Vec F S1 .f32) (x7 : Vec F S256x3584 .f32) (x8 : Vec F S256x3584 .i8) (x9 : Vec F S256x128 .f32) (s : State F) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare s.w ∗ owns (c : Thread nD τ) arg11 fullShare s.h ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (streamAfter i x1 x2 x3 x4 x6 s x7) ∗ owns (c : Thread nD τ) arg8 fullShare (codesAfter i x5 s x8) ∗ owns (c : Thread nD τ) arg9 fullShare (scalesAfter i x5 s x9) ∗ owns (c : Thread nD τ) arg10 fullShare (s.next i x1 x2 x3 x4 x6).w ∗ owns (c : Thread nD τ) arg11 fullShare (s.next i x1 x2 x3 x4 x6).h) -∗ K ⟨⟩))
    ⊢ wp frame (wpE (defs₀ (F := F)) Variants.none c none) E (cc0_oproj i arg1 harg1 arg2 harg2 arg3 harg3 arg4 harg4 arg5 harg5 arg6 harg6 arg7 harg7 arg8 harg8 arg9 harg9 arg10 harg10 arg11 harg11) K := by
  have hlt : (i 0).val < 25 := (i 0).isLt
  by_cases h0 : (i 0).val = 0
  · exact bodyA c i arg1 harg1 arg2 harg2 arg3 harg3 arg4 harg4 arg5 harg5 arg6 harg6 arg7 harg7 arg8 harg8 arg9 harg9 arg10 harg10 arg11 harg11 h0 x1 x2 x3 x4 x5 x6 x7 x8 x9 s E K
  by_cases h24 : (i 0).val = 24
  · exact bodyC c i arg1 harg1 arg2 harg2 arg3 harg3 arg4 harg4 arg5 harg5 arg6 harg6 arg7 harg7 arg8 harg8 arg9 harg9 arg10 harg10 arg11 harg11 h24 x1 x2 x3 x4 x5 x6 x7 x8 x9 s E K
  exact bodyB c i arg1 harg1 arg2 harg2 arg3 harg3 arg4 harg4 arg5 harg5 arg6 harg6 arg7 harg7 arg8 harg8 arg9 harg9 arg10 harg10 arg11 harg11 ⟨by omega, by omega⟩ x1 x2 x3 x4 x5 x6 x7 x8 x9 s E K

end Cert.OprojIdeal.Gen

end
-- ==== Proof.OprojData.lean ====
module

public import proofs.«01_k».proof.Proof.OprojBody

/-!
# The output projection's run, under an invariant of its scratch

The scratch of the output projection starts at anything. A predicate `I c t s` that holds of every scratch before the
first point and is kept by every point's `State.next` is an invariant of the run: the outputs are then written from
scratches of which `I` holds (`Out`).
-/

@[expose] public section

set_option maxRecDepth 16384

noncomputable section

namespace Cert.OprojIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch on core `c`. -/
def scratch (c : Dev nD) (s : State F) : sProp 𝕄 :=
  iprop(owns (c : Thread nD τ) (Memref.whole cc0_scratch0) fullShare s.w ∗ owns (c : Thread nD τ) (Memref.whole cc0_scratch1) fullShare s.h)

/-- The scratch after point `t` on core `c`, which found it at `s`. -/
def nextAt (c : Dev nD) (t : Fin cfg0.N) (s : State F) : State F :=
  s.next (grid0.coords t) (iblk m c 0 t) (iblk m c 1 t) (iblk m c 2 t) (iblk m c 3 t) (iblk m c 5 t)

/-- An invariant of the scratch: true of any scratch before the first point, and kept by every point. -/
structure Invariant (I : Dev nD → ℕ → State F → Prop) : Prop where
  zero : ∀ c s, I c 0 s
  step : ∀ c (t : Fin cfg0.N) s, I c t.val s → I c (t.val + 1) (nextAt m c t s)

variable (I : Dev nD → ℕ → State F → Prop)

/-- What point `t` may leave in window `w`'s buffer, which it found at `Y`. -/
def Out (c : Dev nD) (w : Fin cfg0.W) (t : Fin cfg0.N) :
    (Y X : (cfg0.win w).block.Idx → Elt F (cfg0.win w).elt) → Prop :=
  match w with
  | ⟨0, _⟩ => fun Y X => X = Y
  | ⟨1, _⟩ => fun Y X => X = Y
  | ⟨2, _⟩ => fun Y X => X = Y
  | ⟨3, _⟩ => fun Y X => X = Y
  | ⟨4, _⟩ => fun Y X => X = Y
  | ⟨5, _⟩ => fun Y X => X = Y
  | ⟨6, _⟩ => fun Y X => ∃ s, I c t.val s ∧ X = streamAfter (grid0.coords t) (iblk m c 0 t) (iblk m c 1 t) (iblk m c 2 t)
      (iblk m c 3 t) (iblk m c 5 t) s Y
  | ⟨7, _⟩ => fun Y X => ∃ s, I c t.val s ∧ X = codesAfter (grid0.coords t) (iblk m c 4 t) s Y
  | ⟨8, _⟩ => fun Y X => ∃ s, I c t.val s ∧ X = scalesAfter (grid0.coords t) (iblk m c 4 t) s Y

/-- The proof data: the arrays as the region finds them, the outputs related by `Out`, the scratch at some state of
which `I` holds. -/
def rdat (c : Dev nD) : Pipeline.RDat τ (Elt F) Unit ℕ (UR sig nD τ) ℕ cfg0 c where
  A w := V m c (Pipeline.arrRef spec0 w)
  after w t := Out m I c w t
  Φ t := iprop((∃ s, ⌜I c t.val s⌝ ∗ scratch c s) ∗ ∃ r, prngReg c r)
  q w := Pipeline.shareOf spec0 w
  owed _ := 0

/-! An input window's buffer holds its block at every point. -/

theorem finds0 (c : Dev nD) (t : Fin cfg0.N) (Y) (h : (rdat m I c).Finds 0 t Y) : Y = iblk m c 0 t := by
  obtain ⟨d, hd⟩ := Pipeline.RDat.finds_in_eq_fetched (rdat m I c) 0 rfl (fun _ _ _ => rfl) (fun _ _ _ hX => hX) t Y h
  rw [hd]; rfl

theorem finds1 (c : Dev nD) (t : Fin cfg0.N) (Y) (h : (rdat m I c).Finds 1 t Y) : Y = iblk m c 1 t := by
  obtain ⟨d, hd⟩ := Pipeline.RDat.finds_in_eq_fetched (rdat m I c) 1 rfl (fun _ _ _ => rfl) (fun _ _ _ hX => hX) t Y h
  rw [hd]; rfl

theorem finds2 (c : Dev nD) (t : Fin cfg0.N) (Y) (h : (rdat m I c).Finds 2 t Y) : Y = iblk m c 2 t := by
  obtain ⟨d, hd⟩ := Pipeline.RDat.finds_in_eq_fetched (rdat m I c) 2 rfl (fun _ _ _ => rfl) (fun _ _ _ hX => hX) t Y h
  rw [hd]; rfl

theorem finds3 (c : Dev nD) (t : Fin cfg0.N) (Y) (h : (rdat m I c).Finds 3 t Y) : Y = iblk m c 3 t := by
  obtain ⟨d, hd⟩ := Pipeline.RDat.finds_in_eq_fetched (rdat m I c) 3 rfl (fun _ _ _ => rfl) (fun _ _ _ hX => hX) t Y h
  rw [hd]; rfl

theorem finds4 (c : Dev nD) (t : Fin cfg0.N) (Y) (h : (rdat m I c).Finds 4 t Y) : Y = iblk m c 4 t := by
  obtain ⟨d, hd⟩ := Pipeline.RDat.finds_in_eq_fetched (rdat m I c) 4 rfl (fun _ _ _ => rfl) (fun _ _ _ hX => hX) t Y h
  rw [hd]; rfl

theorem finds5 (c : Dev nD) (t : Fin cfg0.N) (Y) (h : (rdat m I c).Finds 5 t Y) : Y = iblk m c 5 t := by
  obtain ⟨d, hd⟩ := Pipeline.RDat.finds_in_eq_fetched (rdat m I c) 5 rfl (fun _ _ _ => rfl) (fun _ _ _ hX => hX) t Y h
  rw [hd]; rfl

variable {I}

/-- What the launch hands the region is the invariant before the first point. -/
theorem hin (hI : Invariant m I) (c : Dev nD) : Pipeline.ΦA spec0 c ⊢ (rdat m I c).Φ 0 := by
  show iprop(Pipeline.scopedRest spec0 c ∗ ∃ r, prngReg c r) ⊢ iprop((∃ s, ⌜I c 0 s⌝ ∗ scratch c s) ∗ ∃ r, prngReg c r)
  rw [scopedRest0_eq]
  unfold scratch
  simp only [owns_whole]
  iintro ⟨⟨⟨%f0, H0⟩, ⟨%f1, H1⟩⟩, Hg⟩
  isplitr [Hg]
  · iexists (⟨f0, f1⟩ : State F)
    isplitr; · ipureintro; exact hI.zero c _
    isplitl [H0]; · iexact H0
    iexact H1
  iexact Hg

/-- After the last point the scratch's contents are forgotten. -/
theorem hout (c : Dev nD) : (rdat m I c).Φ (Fin.last cfg0.N) ⊢ Pipeline.ΦA spec0 c := by
  show iprop((∃ s, ⌜I c cfg0.N s⌝ ∗ scratch c s) ∗ ∃ r, prngReg c r) ⊢ iprop(Pipeline.scopedRest spec0 c ∗ ∃ r, prngReg c r)
  rw [scopedRest0_eq]
  unfold scratch
  simp only [owns_whole]
  iintro ⟨⟨%s, -, H0, H1⟩, Hg⟩
  isplitr [Hg]
  · isplitl [H0]; · iexists _; iexact H0
    iexists _; iexact H1
  iexact Hg

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 1000000 in
/-- The body's obligation at every point. -/
theorem body_obligation (hI : Invariant m I) (c : Dev nD) :
    (rdat m I c).BodyObligation (defs₀ (F := F)) Variants.none () Set.univ := fun t Y hY => by
  rw [bigSep_W0, bigSep_W0, defs₀_row]
  rw [show (rdat m I c).owesAt () t.succ = (rdat m I c).owesAt () t.castSucc from rfl]
  rw [finds0 m I c t _ (hY 0), finds1 m I c t _ (hY 1), finds2 m I c t _ (hY 2), finds3 m I c t _ (hY 3),
    finds4 m I c t _ (hY 4), finds5 m I c t _ (hY 5)]
  rw [show (rdat m I c).Φ t.succ = iprop((∃ s, ⌜I c (t.val + 1) s⌝ ∗ scratch c s) ∗ ∃ r, prngReg c r) from rfl]
  generalize hy6 : Y 6 = y6
  generalize hy7 : Y 7 = y7
  generalize hy8 : Y 8 = y8
  show iprop(((∃ s, ⌜I c t.val s⌝ ∗ scratch c s) ∗ ∃ r, prngReg c r) ∗ _) ⊢ _
  unfold scratch
  iintro ⟨⟨⟨%s, %hs, S0, S1⟩, Hg⟩, Ho, H0, H1, H2, H3, H4, H5, H6, H7, H8⟩
  iapply (body c (grid0.coords t) _ _ _ _ _ _ _ _ _ _ _ _ _ _ _ _ _ _ _ _ _ _
    (iblk m c 0 t) (iblk m c 1 t) (iblk m c 2 t) (iblk m c 3 t) (iblk m c 4 t) (iblk m c 5 t) y6 y7 y8 s Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  iintro ⟨H0, H1, H2, H3, H4, H5, H6, H7, H8, S0, S1⟩
  isplitl [S0 S1 Hg]
  · isplitr [Hg]
    · iexists (nextAt m c t s)
      isplitr; · ipureintro; exact hI.step c t s hs
      isplitl [S0]; · iexact S0
      iexact S1
    iexact Hg
  isplitl [Ho]; · iexact Ho
  isplitl [H0]
  · iexists _; isplitr; rotate_left
    · iexact H0
    ipureintro; exact rfl
  isplitl [H1]
  · iexists _; isplitr; rotate_left
    · iexact H1
    ipureintro; exact rfl
  isplitl [H2]
  · iexists _; isplitr; rotate_left
    · iexact H2
    ipureintro; exact rfl
  isplitl [H3]
  · iexists _; isplitr; rotate_left
    · iexact H3
    ipureintro; exact rfl
  isplitl [H4]
  · iexists _; isplitr; rotate_left
    · iexact H4
    ipureintro; exact rfl
  isplitl [H5]
  · iexists _; isplitr; rotate_left
    · iexact H5
    ipureintro; exact rfl
  isplitl [H6]
  · iexists _; isplitr; rotate_left
    · iexact H6
    ipureintro; exact ⟨s, hs, rfl⟩
  isplitl [H7]
  · iexists _; isplitr; rotate_left
    · iexact H7
    ipureintro; exact ⟨s, hs, rfl⟩
  iexists _; isplitr; rotate_left
  · iexact H8
  ipureintro; exact ⟨s, hs, rfl⟩

-- the launch theorem's implicit arguments are found by unifying its conclusion with this one, which takes unfolding
-- plain definitions in a metavariable's type
set_option backward.isDefEq.respectTransparency.types false in
/-- The run, with every semaphore counter at zero at the end. -/
theorem run_quiescent (hI : Invariant m I) :
    θ_run defs (onTc (τ := τ) (main (F := F))) (s₀ m ρ)
      (fun r => (Pipeline.RDat.FramePost cfg0 (rdat m I) (V m)) r ∧ r.2.sem = fun _ => 0) :=
  Pipeline.RDat.θ_run_frame_track_shared cfgs (0 : Fin 1) launch0.to₀ defs₀ Variants.none (rdat m I) m ρ main
    (hbody := body_obligation m hI) (hq := fun _ _ _ => rfl) (howed := fun _ _ => rfl) (V := V m)
    (hmain := hmain m Variants.none) (hA := fun _ _ => rfl) (hin := hin m hI) (hout := hout m) (Q' := _)
    (hQ' := fun _ h => h)

/-- Nothing said of the scratch is an invariant. -/
theorem invariant_true : Invariant m fun _ _ _ => True := ⟨fun _ _ => trivial, fun _ _ _ _ => trivial⟩

/-- The argument arrays at the end of the run. -/
theorem unchanged_of {r} (h : Pipeline.RDat.FramePost cfg0 (rdat m I) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(Pipeline.RDat.FramePost.arr_in h c 0 rfl).trans (V_main_arg0 m c),
    ((h c).2 main_arg1 (Pipeline.mem_restRefs_of main_arg1 (by decide) (by decide))).trans (V_main_arg1 m c),
    (Pipeline.RDat.FramePost.arr_in h c 2 rfl).trans (V_main_arg2 m c),
    (Pipeline.RDat.FramePost.arr_in h c 3 rfl).trans (V_main_arg3 m c),
    (Pipeline.RDat.FramePost.arr_in h c 4 rfl).trans (V_main_arg4 m c),
    (Pipeline.RDat.FramePost.arr_in h c 5 rfl).trans (V_main_arg5 m c)⟩

/-- The frame: every run ends, with the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨unchanged_of m h.1, h.2⟩) (run_quiescent m ρ (invariant_true m))

end Cert.OprojIdeal.Gen

end
-- ==== Proof.OprojFrame.lean ====
module

public import proofs.«01_k».proof.Defs
public import proofs.«01_k».proof.Proof.OprojData
public import proofs.«01_k».proof.Proof.Gen.Oproj

/-!
# The output projection's frame

The kernel and its ideal program are the same program (no operation was rewritten), so the ideal program's run, proved
for any float values, is the kernel's run.
-/

@[expose] public section

set_option maxRecDepth 100000

noncomputable section

namespace Cert.Proof

open Idealize.ShloMosaic Idealize.SL.Sem Idealize.ShloMosaic.TcCoe Idealize.ShloMosaic.Tactic

variable {F : FTy → Type} [FloatOps F]

/-- The two programs' runs are one. -/
theorem oproj_transfer (m : (ℓ : Loc Cert.Oproj.nD Cert.Oproj.τ Cert.Oproj.sig) → Buf (Elt F) ℓ) (ρ : Dev Cert.Oproj.nD → PrngReg) :
    (θ_run (Cert.OprojIdeal.defs (F := F)) (onTc (τ := Cert.OprojIdeal.τ) (Cert.OprojIdeal.main (F := F))) ⟨m, fun _ => 0, ρ⟩
      (fun r => (∀ c : Dev Cert.OprojIdeal.nD,
        r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
        ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
        ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
        ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
        ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
        ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
        ∧ r.2.sem = fun _ => 0)) =
    θ_run (Cert.Oproj.defs (F := F)) (onTc (τ := Cert.Oproj.τ) (Cert.Oproj.main (F := F))) ⟨m, fun _ => 0, ρ⟩
      (fun r => (∀ c : Dev Cert.Oproj.nD,
        r.2.mem ((c.tc : Thread Cert.Oproj.nD Cert.Oproj.τ).loc Cert.Oproj.main_arg0) = m ((c.tc : Thread Cert.Oproj.nD Cert.Oproj.τ).loc Cert.Oproj.main_arg0)
        ∧ r.2.mem ((c.tc : Thread Cert.Oproj.nD Cert.Oproj.τ).loc Cert.Oproj.main_arg1) = m ((c.tc : Thread Cert.Oproj.nD Cert.Oproj.τ).loc Cert.Oproj.main_arg1)
        ∧ r.2.mem ((c.tc : Thread Cert.Oproj.nD Cert.Oproj.τ).loc Cert.Oproj.main_arg2) = m ((c.tc : Thread Cert.Oproj.nD Cert.Oproj.τ).loc Cert.Oproj.main_arg2)
        ∧ r.2.mem ((c.tc : Thread Cert.Oproj.nD Cert.Oproj.τ).loc Cert.Oproj.main_arg3) = m ((c.tc : Thread Cert.Oproj.nD Cert.Oproj.τ).loc Cert.Oproj.main_arg3)
        ∧ r.2.mem ((c.tc : Thread Cert.Oproj.nD Cert.Oproj.τ).loc Cert.Oproj.main_arg4) = m ((c.tc : Thread Cert.Oproj.nD Cert.Oproj.τ).loc Cert.Oproj.main_arg4)
        ∧ r.2.mem ((c.tc : Thread Cert.Oproj.nD Cert.Oproj.τ).loc Cert.Oproj.main_arg5) = m ((c.tc : Thread Cert.Oproj.nD Cert.Oproj.τ).loc Cert.Oproj.main_arg5))
        ∧ r.2.sem = fun _ => 0) := by
  sl_kernel_rfl

/-- The kernel's frame, at machine words. -/
theorem quiescent_Oproj : Cert.quiescent_Oproj (hOproj := Cert.Oproj.Gen.facts) := fun m ρ _ =>
  (oproj_transfer (F := Bits) m ρ).mp (Cert.OprojIdeal.Gen.frame m ρ)

/-- The ideal program's frame. -/
theorem quiescent_OprojIdeal : Cert.quiescent_OprojIdeal (hOprojIdeal := Cert.OprojIdeal.Gen.facts) := fun m ρ _ =>
  Cert.OprojIdeal.Gen.frame m ρ

end Cert.Proof
end
-- ==== Proof.OprojMath.lean ====
module

public import proofs.«01_k».proof.Proof.UpRows

/-!
# The output projection's mathematics

A row of the new residual stream is the old row plus the ternary product of a row of codes (`streamAt`). The row is then
normed by the reciprocal root of its mean square (`root`), multiplied by the gains and quantised (`scale`, `codeAt`). Kernel
and reference do this with the same operations, on 32 rows at a time and on all of them; the operations' values are stated
here for `m` rows.
-/

@[expose] public section

set_option maxRecDepth 16384

noncomputable section

namespace Cert.Oproj.Math

open Idealize.ShloMosaic hiding ix1 ix2 eq_ix2
open Idealize.ShloMosaic.ValueIdx
open Cert.Ternary (Sh bitlinear)
open Cert.GateUp (stepOf codeOf mag row_sum row_max column_apply spread_apply spread_row_apply recast_apply step_apply code_apply absf_row)
open scoped BigOperators

/-- Row `r`, column `k` of the new residual stream; zero outside of the array. -/
def streamAt (X : (Sh 6144 3584).Idx → BitVec 8) (A : (Sh 6144 1).Idx → EReal) (W : (Sh 896 3584).Idx → BitVec 8)
    (R : (Sh 6144 3584).Idx → EReal) (s : EReal) (r k : ℕ) : EReal :=
  if h : r < 6144 ∧ k < 3584 then
    R (ix2 ⟨r, h.1⟩ ⟨k, h.2⟩) + bitlinear (by decide : 0 < 896) X A W s (ix2 ⟨r, h.1⟩ ⟨k, h.2⟩)
  else 0

/-- Entry `k` of the gains; zero outside of the array. -/
def gainOf (G : (Sh 1 3584).Idx → EReal) (k : ℕ) : EReal := if h : k < 3584 then G (ix2 0 ⟨k, h⟩) else 0

/-- The reciprocal root of a mean square, from the sum of squares. -/
def rootOf (q : EReal) : EReal :=
  Ideal.rsqrt (Ideal.div q (Scalar.ofBits (F := Ideal) .f32 0x45600000#32) + Scalar.ofBits (F := Ideal) .f32 0x3727C5AC#32)

/-- The normaliser of a row. -/
def root (f : ℕ → EReal) : EReal := rootOf (∑ k ∈ Finset.range 3584, f k * f k)

/-- Entry `k` of a row after the norm and the gain. -/
def normAt (f g : ℕ → EReal) (k : ℕ) : EReal := f k * root f * g k

/-- A row's scale. -/
def scale (f g : ℕ → EReal) : EReal := stepOf ((Finset.range 3584).sup fun k => mag (normAt f g k))

/-- Column `k` of a row's codes. -/
def codeAt (f g : ℕ → EReal) (k : ℕ) : BitVec 8 := codeOf (Ideal.div (normAt f g k) (scale f g))

section Results
variable (X : (Sh 6144 3584).Idx → BitVec 8) (A : (Sh 6144 1).Idx → EReal) (W : (Sh 896 3584).Idx → BitVec 8)
  (R : (Sh 6144 3584).Idx → EReal) (G : (Sh 1 3584).Idx → EReal) (S : (⟨1, ![1]⟩ : Shape).Idx → EReal)

/-- Row `r` of the new residual stream. -/
abbrev streamRow (r : Fin 6144) : ℕ → EReal := streamAt X A W R (S (ix1 0)) r.val

/-- The new residual stream. -/
def streamOut : (Sh 6144 3584).Idx → EReal := fun j => streamRow X A W R S (j 0) (j 1).val

/-- The array of codes. -/
def codesOut : (Sh 6144 3584).Idx → BitVec 8 := fun j => codeAt (streamRow X A W R S (j 0)) (gainOf G) (j 1).val

/-- The array of scales, each in all 128 lanes of its row. -/
def scalesOut : (Sh 6144 128).Idx → EReal := fun j => scale (streamRow X A W R S (j 0)) (gainOf G)

end Results

section Rows
variable {m : ℕ} (Z : FVec Ideal (Sh m 3584) .f32) (G : FVec Ideal (Sh 1 3584) .f32)
  (hr : (Sh m 3584).Reduces [1] ⟨1, ![m]⟩) (hc : (⟨1, ![m]⟩ : Shape).ShapeCasts (Sh m 1)) (hb : (Sh m 1).Broadcasts (Sh m 3584))
  (hg : (Sh 1 3584).Broadcasts (Sh m 3584))

/-- The normalisers of the rows. -/
def roots : FVec Ideal (Sh m 1) .f32 :=
  rsqrt (F := Ideal) (φ := .f32) (addf (F := Ideal) (φ := .f32) (divf (F := Ideal) (φ := .f32)
    (shapeCast (Sh m 1) (multiReduction (F := Ideal) (φ := .f32) .add [1] ⟨1, ![m]⟩ (mulf (F := Ideal) (φ := .f32) Z Z) 0x00000000#32
      hr (.inl rfl) rfl) hc) (broadcast (Sh m 1) (Scalar.ofBits (F := Ideal) .f32 0x45600000#32)))
    (broadcast (Sh m 1) (Scalar.ofBits (F := Ideal) .f32 0x3727C5AC#32)))

/-- The rows after the norm and the gain. -/
def normed : FVec Ideal (Sh m 3584) .f32 :=
  mulf (F := Ideal) (φ := .f32) (mulf (F := Ideal) (φ := .f32) Z (broadcastTo (Sh m 3584) (roots Z hr hc) hb)) (broadcastTo (Sh m 3584) G hg)

/-- The scales of the rows. -/
def steps : FVec Ideal (Sh m 1) .f32 :=
  let v : FVec Ideal (Sh m 1) .f32 := shapeCast (Sh m 1) (multiReduction (F := Ideal) (φ := .f32) .maximumf [1] ⟨1, ![m]⟩
    (absf (F := Ideal) (φ := .f32) (normed Z G hr hc hb hg)) 0xFF800000#32 hr (.inl rfl) rfl) hc
  select (cmpf (F := Ideal) (φ := .f32) .oeq v (broadcast (Sh m 1) (Scalar.ofBits (F := Ideal) .f32 0x00000000#32)))
    (broadcast (Sh m 1) (Scalar.ofBits (F := Ideal) .f32 0x3F800000#32))
    (divf (F := Ideal) (φ := .f32) v (broadcast (Sh m 1) (Scalar.ofBits (F := Ideal) .f32 0x42FE0000#32)))

/-- The codes of the rows, clipped between `lo` and `hi`. -/
def coded (lo hi : EReal) : IVec (Sh m 3584) 8 :=
  fptosi (F := Ideal) (φ := .f32) 8 (minimumf (F := Ideal) (φ := .f32) (broadcast (Sh m 3584) hi)
    (maximumf (F := Ideal) (φ := .f32) (broadcast (Sh m 3584) lo) (roundeven (F := Ideal) (φ := .f32)
      (divf (F := Ideal) (φ := .f32) (normed Z G hr hc hb hg) (broadcastTo (Sh m 3584) (steps Z G hr hc hb hg) hb)))))

variable (r : Fin m) (f g : ℕ → EReal) (hf : ∀ k : Fin 3584, Z (ix2 r k) = f k.val)
include hf

theorem roots_apply : roots Z hr hc (ix2 r 0) = root f := by
  have e := row_sum (mulf (F := Ideal) (φ := .f32) Z Z) hr (.inl rfl) rfl r (fun k => f k * f k)
    fun k => congrArg (fun v : EReal => v * v) (hf k)
  exact congrArg rootOf ((column_apply _ hc r).trans e)

variable (hG : ∀ k : Fin 3584, G (ix2 0 k) = g k.val)
include hG

theorem normed_apply (k : Fin 3584) : normed Z G hr hc hb hg (ix2 r k) = normAt f g k.val :=
  congrArg₂ (fun p q : EReal => p * q)
    (congrArg₂ (fun p q : EReal => p * q) (hf k) ((spread_apply _ hb r k).trans (roots_apply Z hr hc r f hf)))
    ((spread_row_apply G hg r k).trans (hG k))

theorem steps_apply : steps Z G hr hc hb hg (ix2 r 0) = scale f g := by
  have e := row_max (absf (F := Ideal) (φ := .f32) (normed Z G hr hc hb hg)) hr (.inl rfl) rfl r (fun k => mag (normAt f g k))
    fun k => (absf_row _ _).trans (congrArg mag (normed_apply Z G hr hc hb hg r f g hf hG k))
  exact (step_apply _ _).trans (congrArg stepOf ((column_apply _ hc r).trans e))

theorem coded_apply (lo hi : EReal) (hlo : lo = Scalar.ofBits (F := Ideal) .f32 0xC2FE0000#32)
    (hhi : hi = Scalar.ofBits (F := Ideal) .f32 0x42FE0000#32) (k : Fin 3584) :
    coded Z G hr hc hb hg lo hi (ix2 r k) = codeAt f g k.val := by
  subst hlo hhi
  exact (code_apply (normed Z G hr hc hb hg) (broadcastTo (Sh m 3584) (steps Z G hr hc hb hg) hb) (ix2 r k)).trans
    (congrArg₂ (fun p q : EReal => codeOf (Ideal.div p q)) (normed_apply Z G hr hc hb hg r f g hf hG k)
      ((spread_apply _ hb r k).trans (steps_apply Z G hr hc hb hg r f g hf hG)))

end Rows

end Cert.Oproj.Math

end
-- ==== Proof.OprojTile.lean ====
module

public import proofs.«01_k».proof.Proof.OprojMath
public import proofs.«01_k».proof.Proof.OprojState
public import Idealize.ShloMosaic.Lib.Pipeline.ReadBack
public import Idealize.ShloMosaic.Lib.ValueLayout

/-!
# The output projection's kernel, block by block

The stored weights are the unpacked ones, a row of a row block is a row of the new residual stream, and the quantised tiles
are the codes and scales of their rows.
-/

@[expose] public section

set_option maxRecDepth 16384

noncomputable section

namespace Cert.OprojIdeal.Tile

open Cert.OprojIdeal Cert.OprojIdeal.Gen Idealize.ShloMosaic.TcCoe Idealize.SL.Sem
open Cert.Ternary (Sh unpacked dotUpTo bitlinear)
open Cert.GateUp (recast_apply spread_apply)
open Cert.Oproj.Math
open Cert.Tiles (rowGlue_at colGlue_at slotPut)
open Idealize.ShloMosaic hiding ix1 ix2 ix3
open Idealize.ShloMosaic.ValueIdx (ix1 ix2 ix3)
open scoped BigOperators

/-- The stored weights. -/
theorem weights_apply (x3 : S896x3584.Idx → BitVec 8) (y : S3584x3584.Idx) :
    weights (F := Ideal) x3 y = unpacked 3584 (by decide : 0 < 896) x3 y := by
  have hy : (y 0).val < 3584 := (y 0).isLt
  unfold weights
  refine (rowGlue_at (M := 3584) (N := 3584) (b := 128) _ _ (weightRows (F := Ideal) x3) ((y 0).val / 128 * 128) (by omega) (by omega) y
    (ix2 ⟨(y 0).val % 128, Nat.mod_lt _ (by decide)⟩ (y 1)) (by show (y 0).val = (y 0).val / 128 * 128 + (y 0).val % 128; omega) rfl).trans ?_
  unfold weightRows field
  refine Cert.Ternary.plane_eq (K4 := 896) (n := 3584) 3584 (by decide) x3 128 32 ((y 0).val / 128 * 128 / 128 % 7 * 128)
    ((y 0).val / 128 * 128 / 896) (BitVec.ofNat 32 (2 * ((y 0).val / 128 * 128 / 896)))
    (by rw [BitVec.toNat_ofNat]; omega) (by omega) (by omega) _ _ _ _ _ y ?_ rfl
  show (y 0).val = (y 0).val / 128 * 128 / 896 * 896 + (y 0).val / 128 * 128 / 128 % 7 * 128 + (y 0).val % 128
  omega

/-- The product at a column of its block. -/
theorem product_apply (x1 : S256x3584.Idx → BitVec 8) (w : S3584x3584.Idx → EReal) (o : ℕ) (h : o + 128 ≤ 3584) (hm : o % 128 = 0)
    (p : Fin 256) (l : Fin 128) :
    product (F := Ideal) x1 w o h (ix2 p ⟨o / 128 % 4 * 128 + l.val, by omega⟩)
      = dotUpTo x1 w 3584 (ix2 p ⟨o + l.val, by omega⟩ : S256x3584.Idx) := by
  show FloatOps.matmul (F := Ideal) (φ₁ := .bf16) (φ₂ := .bf16) (DotDims.plain 256 3584 512) none (sitofp (F := Ideal) .bf16 x1)
    (View.ld (Val := Elt Ideal) (e' := .bf16) (S := S3584x3584) w
      (Rect.unit (s := S3584x3584) ![0, o / 512 * 512] S3584x512.size (block_inb o h)))
    (constant (F := Ideal) S256x512 .f32 0x00000000#32) (ix2 p ⟨o / 128 % 4 * 128 + l.val, by omega⟩) = _
  rw [Ideal.matmul_plain_apply]
  have h0 : (constant (F := Ideal) S256x512 .f32 0x00000000#32) (ix2 p ⟨o / 128 % 4 * 128 + l.val, by omega⟩) = (0 : EReal) :=
    Ideal.ofBits_zero_f32
  rw [h0, zero_add]
  unfold dotUpTo
  rw [Finset.sum_range]
  refine Finset.sum_congr rfl fun k _ => ?_
  rw [dif_pos k.isLt]
  refine congrArg (fun v : EReal => (((x1 (ix2 p k)).toInt : ℝ) : EReal) * v)
    (View.ld_unit_apply_of (Val := Elt Ideal) (e := .bf16) (S := S3584x3584) w _ _ _ _ _ fun a => ?_)
  match a with
  | ⟨0, _⟩ => exact (Nat.zero_add _).symm
  | ⟨1, _⟩ => show o + l.val = o / 512 * 512 + (o / 128 % 4 * 128 + l.val); omega

theorem scal_eq (x6 : S1.Idx → EReal) : scal (F := Ideal) x6 = x6 (ix1 0) := congrArg x6 (Cert.Ternary.eq_zero1 _)

section Stream
variable (X : (Sh 6144 3584).Idx → BitVec 8) (A : (Sh 6144 1).Idx → EReal) (W : (Sh 896 3584).Idx → BitVec 8)
  (R : (Sh 6144 3584).Idx → EReal) (s : EReal) (x1 : S256x3584.Idx → BitVec 8) (x2 : S256x128.Idx → EReal)
  (x4 : S256x3584.Idx → EReal) (x6 : S1.Idx → EReal) (w : S3584x3584.Idx → EReal) (r : Fin 6144) (p : Fin 256)

/-- A row of the row block is a row of the new residual stream. -/
theorem stream_apply (h1 : ∀ k, x1 (ix2 p k) = X (ix2 r k)) (h2 : ∀ l, x2 (ix2 p l) = A (ix2 r 0))
    (h4 : ∀ k, x4 (ix2 p k) = R (ix2 r k)) (h6 : x6 (ix1 0) = s) (hw : ∀ y, w y = unpacked 3584 (by decide : 0 < 896) W y)
    (k : Fin 3584) : stream (F := Ideal) x1 x2 x4 x6 w (ix2 p k) = streamAt X A W R s r.val k.val := by
  have hk := k.isLt
  have hl : k.val % 128 < 128 := Nat.mod_lt _ (by decide)
  have ho : k.val / 128 * 128 + 128 ≤ 3584 := by omega
  have ek : (⟨k.val / 128 * 128 + k.val % 128, by omega⟩ : Fin 3584) = k := Fin.ext (by show k.val / 128 * 128 + k.val % 128 = k.val; omega)
  unfold stream
  refine (colGlue_at (M := 256) (N := 3584) (b := 128) _ _ (streamCols (F := Ideal) x1 x2 x4 x6 w) (k.val / 128 * 128) ho (by omega)
    (ix2 p k) (ix2 p ⟨k.val % 128, hl⟩) rfl (by show k.val = k.val / 128 * 128 + k.val % 128; omega)).trans ?_
  rw [streamAt, dif_pos ⟨r.isLt, hk⟩]
  unfold bitlinear
  have eR : View.ld (Val := Elt Ideal) (e' := .bf16) (S := S256x3584) x4
      (Rect.unit (s := S256x3584) ![0, k.val / 128 * 128] S256x128.size (cols_inb _ ho)) (ix2 p ⟨k.val % 128, hl⟩) = R (ix2 r k) := by
    refine (View.ld_unit_apply_of (Val := Elt Ideal) (e := .bf16) (S := S256x3584) x4 _ _ _ _ (ix2 p k) fun a => ?_).trans (h4 k)
    match a with
    | ⟨0, _⟩ => exact (Nat.zero_add _).symm
    | ⟨1, _⟩ => show k.val = k.val / 128 * 128 + k.val % 128; omega
  have eP : extractStridedSlice S256x128 ![0, k.val / 128 * 128 / 128 % 4 * 128] (product (F := Ideal) x1 w (k.val / 128 * 128) ho)
      (slice_inb _) (ix2 p ⟨k.val % 128, hl⟩) = dotUpTo X (unpacked 3584 (by decide : 0 < 896) W) 3584 (ix2 r k) := by
    refine (extractStridedSlice_apply (s := S256x512) (t := S256x128) _ _ _ _
      (ix2 p ⟨k.val / 128 * 128 / 128 % 4 * 128 + k.val % 128, by omega⟩) fun a => ?_).trans
      ((product_apply x1 w (k.val / 128 * 128) ho (by omega) p ⟨k.val % 128, hl⟩).trans ?_)
    · match a with
      | ⟨0, _⟩ => exact (Nat.zero_add _).symm
      | ⟨1, _⟩ => rfl
    · refine Cert.Ternary.dotUpTo_congr (M := 256) (M' := 6144) (N := 3584) (N' := 3584) _ h1 fun q => ?_
      exact (hw _).trans (congrArg (fun c => unpacked 3584 (by decide : 0 < 896) W (ix2 q c)) ek)
  have eA : shapeCast S256x128 x2 shapeCasts_S256x128_S256x128 (ix2 p ⟨k.val % 128, hl⟩) = A (ix2 r 0) :=
    (recast_apply x2 _ _).trans (h2 _)
  exact congrArg₂ (fun u v : EReal => u + v) eR
    (congrArg₂ (fun u v : EReal => u * v) (congrArg₂ (fun u v : EReal => u * v) eP eA) ((scal_eq x6).trans h6))

end Stream

section Quantise
variable (h : S2x256x3584.Idx → EReal) (b : Fin 2) (x5 : S1x3584.Idx → EReal) (p : Fin 256) (f g : ℕ → EReal)
  (hf : ∀ k : Fin 3584, h (ix3 b p k) = f k.val) (hG : ∀ k : Fin 3584, x5 (ix2 0 k) = g k.val)
include hf

/-- A row of 32 rows of a slot. -/
theorem rows_apply (ho : p.val / 32 * 32 + 32 ≤ 256) (k : Fin 3584) :
    shapeCast S32x3584 (slotRows (F := Ideal) h b (p.val / 32 * 32) ho) shapeCasts_S1x32x3584_S32x3584
      (ix2 ⟨p.val % 32, Nat.mod_lt _ (by decide)⟩ k) = f k.val := by
  refine (ValueIdx.shapeCast_1ab_ab_apply _ shapeCasts_S1x32x3584_S32x3584 _ _).trans (Eq.trans ?_ (hf k))
  refine View.ld_unit_apply_of (Val := Elt Ideal) (e := .f32) (S := S2x256x3584) h _ _ _ _ (ix3 b p k) fun a => ?_
  match a with
  | ⟨0, _⟩ => rfl
  | ⟨1, _⟩ => show p.val = p.val / 32 * 32 + p.val % 32; omega
  | ⟨2, _⟩ => exact (Nat.zero_add _).symm

include hG

/-- A row of codes. -/
theorem codes_apply (k : Fin 3584) : codes (F := Ideal) h b x5 (ix2 p k) = codeAt f g k.val := by
  have hp := p.isLt
  have ho : p.val / 32 * 32 + 32 ≤ 256 := by omega
  unfold codes
  refine (rowGlue_at (M := 256) (N := 3584) (b := 32) _ _ (fun o ho => k0_pay138 (F := Ideal) (slotRows h b o ho) x5) (p.val / 32 * 32) ho
    (by omega) (ix2 p k) (ix2 ⟨p.val % 32, Nat.mod_lt _ (by decide)⟩ k) (by show p.val = p.val / 32 * 32 + p.val % 32; omega) rfl).trans ?_
  exact coded_apply (shapeCast S32x3584 (slotRows (F := Ideal) h b (p.val / 32 * 32) ho) shapeCasts_S1x32x3584_S32x3584) x5
    reduces_S32x3584_S32 shapeCasts_S32_S32x1 broadcasts_S32x1_S32x3584 broadcasts_S1x3584_S32x3584 _ f g
    (rows_apply h b p f hf ho) hG _ _ rfl rfl k

/-- A row of scales. -/
theorem scales_apply (l : Fin 128) : scales (F := Ideal) h b x5 (ix2 p l) = scale f g := by
  have hp := p.isLt
  have ho : p.val / 32 * 32 + 32 ≤ 256 := by omega
  unfold scales
  refine (rowGlue_at (M := 256) (N := 128) (b := 32) _ _ (fun o ho => k0_pay139 (F := Ideal) (k0_pay137 (slotRows h b o ho) x5))
    (p.val / 32 * 32) ho (by omega) (ix2 p l) (ix2 ⟨p.val % 32, Nat.mod_lt _ (by decide)⟩ l)
    (by show p.val = p.val / 32 * 32 + p.val % 32; omega) rfl).trans ?_
  refine ((spread_apply _ broadcasts_S32x1_S32x128 _ l).trans (recast_apply _ shapeCasts_S32x1_S32x1 _)).trans ?_
  exact steps_apply (shapeCast S32x3584 (slotRows (F := Ideal) h b (p.val / 32 * 32) ho) shapeCasts_S1x32x3584_S32x3584) x5
    reduces_S32x3584_S32 shapeCasts_S32_S32x1 broadcasts_S32x1_S32x3584 broadcasts_S1x3584_S32x3584 _ f g
    (rows_apply h b p f hf ho) hG

end Quantise

end Cert.OprojIdeal.Tile

end
-- ==== Proof.OprojBlocks.lean ====
module

public import proofs.«01_k».proof.Proof.OprojData
public import proofs.«01_k».proof.Proof.OprojTile

/-!
# The output projection's blocks

Where each grid point's blocks lie in the argument arrays.
-/

@[expose] public section

set_option maxRecDepth 16384

noncomputable section

namespace Cert.OprojIdeal.Tile

open Cert.OprojIdeal Cert.OprojIdeal.Gen Idealize.ShloMosaic.TcCoe Idealize.SL.Sem
open Idealize.ShloMosaic hiding ix1 ix2 ix3
open Idealize.ShloMosaic.ValueIdx (ix1 ix2 ix3)

variable (m : (ℓ : Loc nD τ sig) → Buf (Elt Ideal) ℓ)

theorem idx : ∀ t : Fin cfg0.N, win0_0.index t = ![min t.val 23, 0] ∧ win0_1.index t = ![min t.val 23, 0]
    ∧ win0_2.index t = ![0, 0] ∧ win0_3.index t = ![min t.val 23, 0] ∧ win0_4.index t = ![0, 0]
    ∧ win0_5.index t = ![0] ∧ win0_6.index t = ![min t.val 23, 0] ∧ win0_7.index t = ![t.val - 1, 0]
    ∧ win0_8.index t = ![t.val - 1, 0] :=
  (by decide +kernel : ∀ t : Fin grid0.N, _)

theorem coords_eq : ∀ t : Fin cfg0.N, (grid0.coords t 0).val = t.val := (by decide +kernel : ∀ t : Fin grid0.N, _)

variable (c : Dev nD) (t : Fin cfg0.N)

theorem block0 (p : Fin 256) (k : Fin 3584) (r : Fin 6144) (hr : r.val = 256 * min t.val 23 + p.val) :
    iblk m c 0 t (ix2 p k) = m ((c : Thread nD τ).loc main_arg0) (ix2 r k) := by
  blk_point [iblk, V, idx t]; show _ * 256 + p.val = r.val; omega

theorem block1 (p : Fin 256) (l : Fin 128) (r : Fin 6144) (hr : r.val = 256 * min t.val 23 + p.val) :
    iblk m c 1 t (ix2 p l) = m ((c : Thread nD τ).loc main_arg1) (ix2 r 0) := by
  blk_point [iblk, V, idx t]; show _ * 256 + p.val = r.val; omega

theorem block2 : iblk m c 2 t = m ((c : Thread nD τ).loc main_arg2) := by blk_ext! [iblk, V, idx t]

theorem block3 (p : Fin 256) (k : Fin 3584) (r : Fin 6144) (hr : r.val = 256 * min t.val 23 + p.val) :
    iblk m c 3 t (ix2 p k) = m ((c : Thread nD τ).loc main_arg3) (ix2 r k) := by
  blk_point [iblk, V, idx t]; show _ * 256 + p.val = r.val; omega

theorem block4 (k : Fin 3584) : iblk m c 4 t (ix2 0 k) = m ((c : Thread nD τ).loc main_arg4) (ix2 0 k) := by
  blk_point [iblk, V, idx t]

theorem block5 : iblk m c 5 t (ix1 0) = m ((c : Thread nD τ).loc main_arg5) (ix1 0) := by
  blk_point [iblk, V, idx t]

end Cert.OprojIdeal.Tile

end
-- ==== Proof.OprojInvariant.lean ====
module

public import proofs.«01_k».proof.Proof.OprojBlocks

/-!
# What the output projection's scratch holds

From the second point on the scratch holds the unpacked weights and, in the slot of the point before, that point's row
block of the new residual stream.
-/

@[expose] public section

set_option maxRecDepth 16384

noncomputable section

namespace Cert.OprojIdeal.Tile

open Cert.OprojIdeal Cert.OprojIdeal.Gen Idealize.ShloMosaic.TcCoe Idealize.SL.Sem
open Cert.Ternary (unpacked)
open Cert.Tiles (slotPut)
open Cert.Oproj.Math
open Idealize.ShloMosaic hiding ix1 ix2 ix3
open Idealize.ShloMosaic.ValueIdx (ix1 ix2 ix3)

variable (m : (ℓ : Loc nD τ sig) → Buf (Elt Ideal) ℓ)

/-- Row `r` of the new residual stream. -/
def row (c : Dev nD) (r : ℕ) : ℕ → EReal :=
  streamAt (m ((c : Thread nD τ).loc main_arg0)) (m ((c : Thread nD τ).loc main_arg1)) (m ((c : Thread nD τ).loc main_arg2))
    (m ((c : Thread nD τ).loc main_arg3)) (m ((c : Thread nD τ).loc main_arg5) (ix1 0)) r

/-- The gains. -/
def gains (c : Dev nD) : ℕ → EReal := gainOf (m ((c : Thread nD τ).loc main_arg4))

/-- The unpacked weights. -/
def Unpacked (c : Dev nD) (w : S3584x3584.Idx → EReal) : Prop :=
  ∀ y, w y = unpacked 3584 (by decide : 0 < 896) (m ((c : Thread nD τ).loc main_arg2)) y

/-- What is true of the scratch before point `n`. -/
def At (c : Dev nD) (n : ℕ) (s : State Ideal) : Prop := n < 25 → 0 < n →
  Unpacked m c s.w ∧ ∀ (b : Fin 2) (p : Fin 256) (k : Fin 3584), b.val = (n + 1) % 2 → s.h (ix3 b p k) = row m c (256 * (n - 1) + p.val) k.val

variable (c : Dev nD) (t : Fin cfg0.N) (s : State Ideal)

theorem lt_points : t.val < 25 := t.isLt

/-- The weights that the point multiplies by. -/
theorem next_w (h : At m c t.val s) : Unpacked m c (nextAt m c t s).w := by
  intro y
  unfold nextAt State.next
  show (if (grid0.coords t 0).val = 0 then weights (F := Ideal) (iblk m c 2 t) else s.w) y = _
  rw [coords_eq t]
  split
  · rw [block2 m c t]
    exact weights_apply _ y
  · exact (h (lt_points t) (by omega)).1 y

/-- The row block that the point computes. -/
theorem next_row (h : At m c t.val s) (p : Fin 256) (k : Fin 3584) :
    stream (F := Ideal) (iblk m c 0 t) (iblk m c 1 t) (iblk m c 3 t) (iblk m c 5 t) (nextAt m c t s).w (ix2 p k)
      = row m c (256 * min t.val 23 + p.val) k.val := by
  have hp := p.isLt
  exact stream_apply (m ((c : Thread nD τ).loc main_arg0)) (m ((c : Thread nD τ).loc main_arg1)) (m ((c : Thread nD τ).loc main_arg2))
    (m ((c : Thread nD τ).loc main_arg3)) (m ((c : Thread nD τ).loc main_arg5) (ix1 0)) (iblk m c 0 t) (iblk m c 1 t) (iblk m c 3 t)
    (iblk m c 5 t) (nextAt m c t s).w ⟨256 * min t.val 23 + p.val, by omega⟩ p (fun k => block0 m c t p k _ rfl)
    (fun l => block1 m c t p l _ rfl) (fun k => block3 m c t p k _ rfl) (block5 m c t) (next_w m c t s h) k

/-- The slot that the point writes. -/
theorem next_h (ht : t.val < 24) (h : At m c t.val s) (b : Fin 2) (hb : b.val = t.val % 2) (p : Fin 256) (k : Fin 3584) :
    (nextAt m c t s).h (ix3 b p k) = row m c (256 * t.val + p.val) k.val := by
  have e := next_row m c t s h p k
  rw [show min t.val 23 = t.val by omega] at e
  refine Eq.trans ?_ e
  have hi : (grid0.coords t 0).val < 24 := (coords_eq t).trans_lt ht
  show (if (grid0.coords t 0).val < 24 then slotPut (M := 256) (N := 3584) (K := 2) ((grid0.coords t 0).val % 2) 3584
    (stream (F := Ideal) (iblk m c 0 t) (iblk m c 1 t) (iblk m c 3 t) (iblk m c 5 t) (nextAt m c t s).w) s.h else s.h) (ix3 b p k) = _
  rw [if_pos hi]
  exact if_pos ⟨hb.trans (by rw [coords_eq t]), k.isLt⟩

theorem at_invariant : Invariant m (At m) where
  zero c s _ h := absurd h (Nat.lt_irrefl 0)
  step c t s h ht _ := ⟨next_w m c t s h, fun b p k hb => next_h m c t s (by omega) h b (by omega) p k⟩

end Cert.OprojIdeal.Tile

end
-- ==== Proof.OprojValue.lean ====
module

public import proofs.«01_k».proof.Proof.OprojInvariant
public import Idealize.ShloMosaic.Lib.Pipeline.ArrRel

/-!
# What the output projection writes back

A point writes back its own row block of the new residual stream, which the last point leaves as it is, and the codes and
scales of the row block before.
-/

@[expose] public section

set_option maxRecDepth 16384

noncomputable section

namespace Cert.OprojIdeal.Tile

open Cert.OprojIdeal Cert.OprojIdeal.Gen Idealize.ShloMosaic.TcCoe Idealize.SL.Sem
open Cert.Oproj.Math
open Idealize.ShloMosaic hiding ix1 ix2 ix3
open Idealize.ShloMosaic.ValueIdx (ix1 ix2 ix3)

variable (m : (ℓ : Loc nD τ sig) → Buf (Elt Ideal) ℓ) (c : Dev nD) (t : Fin cfg0.N)

theorem flush7 : ∀ t : Fin cfg0.N, (cfg0.win 7).flush t = true → 0 < t.val := (by decide +kernel : ∀ t : Fin grid0.N, _)

theorem flush8 : ∀ t : Fin cfg0.N, (cfg0.win 8).flush t = true → 0 < t.val := (by decide +kernel : ∀ t : Fin grid0.N, _)

theorem still6 : ∀ t : Fin cfg0.N, t.val = 23 → (cfg0.win 6).flush t = false := (by decide +kernel : ∀ t : Fin grid0.N, _)

theorem fetch6 : ∀ t : Fin cfg0.N, (cfg0.win 6).fetch t = false := (by decide +kernel : ∀ t : Fin grid0.N, _)

/-- A row block of the residual stream as a point that multiplies leaves it. -/
theorem multiplied (ht : t.val < 24) (X) (hX : (rdat m (At m) c).Leaves 6 t X) (p : Fin 256) (k : Fin 3584) :
    X (ix2 p k) = row m c (256 * min t.val 23 + p.val) k.val := by
  obtain ⟨Y, -, s, hs, rfl⟩ := hX
  exact (congrFun (if_pos ((coords_eq t).trans_lt ht)) _).trans (next_row m c t s hs p k)

/-- A row block of the residual stream as it is written back. -/
theorem leaves6 (X) (hX : (rdat m (At m) c).Leaves 6 t X) (p : Fin 256) (k : Fin 3584) :
    X (ix2 p k) = row m c (256 * min t.val 23 + p.val) k.val := by
  by_cases ht : t.val < 24
  · exact multiplied m c t ht X hX p k
  · have hlt := lt_points t
    obtain ⟨Y, hY, s, -, hO⟩ := hX
    have e : X = Y := hO.trans (if_neg (by rw [coords_eq t]; exact ht))
    subst e
    rcases (Pipeline.RDat.finds_of_pos (rdat m (At m) c) (fetch6 t) (by omega) X).mp hY with h | h
    · rw [still6 _ (by show t.val - 1 = 23; omega)] at h
      exact absurd h Bool.false_ne_true
    · refine (multiplied m c _ (by show t.val - 1 < 24; omega) X h p k).trans ?_
      show row m c (256 * min (t.val - 1) 23 + p.val) k.val = _
      rw [show min (t.val - 1) 23 = min t.val 23 by omega]

theorem gains_block (k : Fin 3584) : iblk m c 4 t (ix2 0 k) = gains m c k.val := by
  unfold gains gainOf
  rw [dif_pos k.isLt]
  exact block4 m c t k

theorem kept (ht : 0 < t.val) (s : State Ideal) (hs : At m c t.val s) (p : Fin 256) (k : Fin 3584) :
    s.h (ix3 (prev (grid0.coords t)) p k) = row m c (256 * (t.val - 1) + p.val) k.val :=
  (hs (lt_points t) ht).2 _ p k (by show ((grid0.coords t 0).val + 1) % 2 = _; rw [coords_eq t])

/-- A block of codes as it is written back. -/
theorem leaves7 (ht : 0 < t.val) (X) (hX : (rdat m (At m) c).Leaves 7 t X) (p : Fin 256) (k : Fin 3584) :
    X (ix2 p k) = codeAt (row m c (256 * (t.val - 1) + p.val)) (gains m c) k.val := by
  obtain ⟨Y, -, s, hs, rfl⟩ := hX
  exact (congrFun (if_pos ((coords_eq t).symm ▸ ht)) _).trans
    (codes_apply s.h _ (iblk m c 4 t) p _ _ (kept m c t ht s hs p) (gains_block m c t) k)

/-- A block of scales as it is written back. -/
theorem leaves8 (ht : 0 < t.val) (X) (hX : (rdat m (At m) c).Leaves 8 t X) (p : Fin 256) (l : Fin 128) :
    X (ix2 p l) = scale (row m c (256 * (t.val - 1) + p.val)) (gains m c) := by
  obtain ⟨Y, -, s, hs, rfl⟩ := hX
  exact (congrFun (if_pos ((coords_eq t).symm ▸ ht)) _).trans
    (scales_apply s.h _ (iblk m c 4 t) p _ _ (kept m c t ht s hs p) (gains_block m c t) l)

section Arrays
variable (after : (w : Fin cfg0.W) → Fin cfg0.N → (cfg0.win w).block.Idx → Elt Ideal (cfg0.win w).elt)
  (hL : ∀ (w : Fin cfg0.W) (u : Fin cfg0.N), (cfg0.win w).flush u = true → (rdat m (At m) c).Leaves w u (after w u))
include hL

/-- The new residual stream. -/
theorem final_stream : ((rdat m (At m) c).withAfter after).arrAt 6 cfg0.N
    = streamOut (m ((c : Thread nD τ).loc main_arg0)) (m ((c : Thread nD τ).loc main_arg1)) (m ((c : Thread nD τ).loc main_arg2))
      (m ((c : Thread nD τ).loc main_arg3)) (m ((c : Thread nD τ).loc main_arg5)) := by
  refine ((rdat m (At m) c).withAfter after).arrAt_eq_of_covers 6 _ (by decide +kernel) fun t hf y => ?_
  have e := (congrArg (after 6 t) (ValueIdx.eq_ix2 (n0 := 256) (n1 := 3584) y)).trans (leaves6 m c t _ (hL 6 t hf) (y 0) (y 1))
  have r0 : ((((cfg0.win 6).blk t).view.emb y) 0 : ℕ) = 256 * min t.val 23 + (y 0).val := by
    rw [Nat.mul_comm]; blk_simp [idx t]
  have r1 : ((((cfg0.win 6).blk t).view.emb y) 1 : ℕ) = (y 1).val := by blk_simp [idx t]
  blk_simp
  refine e.trans ?_
  rw [← r0, ← r1]
  rfl

/-- The array of codes. -/
theorem final_codes : ((rdat m (At m) c).withAfter after).arrAt 7 cfg0.N
    = codesOut (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine ((rdat m (At m) c).withAfter after).arrAt_eq_of_covers 7 _ (by decide +kernel) fun t hf y => ?_
  have e := (congrArg (after 7 t) (ValueIdx.eq_ix2 (n0 := 256) (n1 := 3584) y)).trans
    (leaves7 m c t (flush7 t hf) _ (hL 7 t hf) (y 0) (y 1))
  have r0 : ((((cfg0.win 7).blk t).view.emb y) 0 : ℕ) = 256 * (t.val - 1) + (y 0).val := by
    rw [Nat.mul_comm]; blk_simp [idx t]
  have r1 : ((((cfg0.win 7).blk t).view.emb y) 1 : ℕ) = (y 1).val := by blk_simp [idx t]
  blk_simp
  refine e.trans ?_
  rw [← r0, ← r1]
  rfl

/-- The array of scales. -/
theorem final_scales : ((rdat m (At m) c).withAfter after).arrAt 8 cfg0.N
    = scalesOut (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine ((rdat m (At m) c).withAfter after).arrAt_eq_of_covers 8 _ (by decide +kernel) fun t hf y => ?_
  have e := (congrArg (after 8 t) (ValueIdx.eq_ix2 (n0 := 256) (n1 := 128) y)).trans
    (leaves8 m c t (flush8 t hf) _ (hL 8 t hf) (y 0) (y 1))
  have r0 : ((((cfg0.win 8).blk t).view.emb y) 0 : ℕ) = 256 * (t.val - 1) + (y 0).val := by
    rw [Nat.mul_comm]; blk_simp [idx t]
  blk_simp
  refine e.trans ?_
  rw [← r0]
  rfl

end Arrays

end Cert.OprojIdeal.Tile

end
-- ==== Proof.OprojRef.lean ====
module

public import proofs.«01_k».proof.Proof.OprojMath
public import proofs.«01_k».proof.Proof.Gen.OprojRefIdeal.Value
public import Idealize.ShloMosaic.Lib.Pipeline.ReadBack

/-!
# The output projection's reference

Its three results, element by element, are the new residual stream and the codes and scales of its normed rows.
-/

@[expose] public section

set_option maxRecDepth 16384

noncomputable section

namespace Cert.OprojRefIdeal.Ref

open Cert.OprojRefIdeal Cert.OprojRefIdeal.Gen Idealize.ShloMosaic Idealize.ShloMosaic.TcCoe Idealize.SL.Sem
open Cert.Ternary (ref_product)
open Cert.GateUp (spread_apply recast_apply)
open Cert.Oproj.Math

theorem low_clip : (Scalar.sitofp (F := Ideal) .f32 4294967169#32 : EReal) = Scalar.ofBits (F := Ideal) .f32 0xC2FE0000#32 := by
  have h : (4294967169#32 : BitVec 32).toInt = -127 := by decide
  have e : (Scalar.sitofp (F := Ideal) .f32 4294967169#32 : EReal) = (((4294967169#32 : BitVec 32).toInt : ℝ) : EReal) := rfl
  rw [e, h]
  simp [Scalar.ofBits, Ideal.ofBits, Ideal.ieee]
  rw [← EReal.coe_mul]; norm_num

theorem high_clip : (Scalar.sitofp (F := Ideal) .f32 127#32 : EReal) = Scalar.ofBits (F := Ideal) .f32 0x42FE0000#32 := by
  have h : (127#32 : BitVec 32).toInt = 127 := by decide
  have e : (Scalar.sitofp (F := Ideal) .f32 127#32 : EReal) = (((127#32 : BitVec 32).toInt : ℝ) : EReal) := rfl
  rw [e, h]
  simp [Scalar.ofBits, Ideal.ofBits, Ideal.ieee]
  rw [← EReal.coe_mul]; norm_num

section Payloads
variable (X : S6144x3584.Idx → BitVec 8) (A : S6144x1.Idx → EReal) (W : S896x3584.Idx → BitVec 8) (R : S6144x3584.Idx → EReal)
  (G : S1x3584.Idx → EReal) (S : S1.Idx → EReal) (s : EReal)

/-- The reference's new residual stream. -/
abbrev st : FVec Ideal S6144x3584 .f32 := k0_pay8 (F := Ideal) (k0_pay3 (F := Ideal) R) A s (k0_pay4 (F := Ideal) X) (k0_pay5 (F := Ideal) W)
  (k0_pay6 (F := Ideal) X W) (k0_pay7 (F := Ideal) X W)

/-- The reference's scales. -/
abbrev sc : FVec Ideal S6144x1 .f32 := k0_pay10 (F := Ideal) (k0_pay3 (F := Ideal) R) A s (k0_pay4 (F := Ideal) X) (k0_pay5 (F := Ideal) W)
  (k0_pay6 (F := Ideal) X W) (k0_pay7 (F := Ideal) X W) G

/-- The reference's rounded quotients. -/
abbrev rd : FVec Ideal S6144x3584 .f32 := k0_pay11 (F := Ideal) (k0_pay3 (F := Ideal) R) A s (k0_pay4 (F := Ideal) X) (k0_pay5 (F := Ideal) W)
  (k0_pay6 (F := Ideal) X W) (k0_pay7 (F := Ideal) X W) G

theorem sc_def : sc X A W R G s = steps (st X A W R s) G reduces_S6144x3584_S6144 shapeCasts_S6144_S6144x1 broadcasts_S6144x1_S6144x3584
    broadcasts_S1x3584_S6144x3584 := by
  unfold sc k0_pay10 k0_pay9 steps normed roots; rfl

theorem code_def : k0_pay1 (F := Ideal) 127#32 (rd X A W R G s) = coded (st X A W R s) G reduces_S6144x3584_S6144 shapeCasts_S6144_S6144x1
    broadcasts_S6144x1_S6144x3584 broadcasts_S1x3584_S6144x3584 (Scalar.sitofp (F := Ideal) .f32 4294967169#32)
    (Scalar.sitofp (F := Ideal) .f32 127#32) := by
  unfold coded
  rw [← sc_def]
  unfold rd k0_pay11 k0_pay1 k0_pay9 normed roots; rfl

theorem gain_eq (k : Fin 3584) : G (ValueIdx.ix2 0 k) = gainOf G k.val := by
  rw [gainOf, dif_pos k.isLt]

variable (hs : s = S (ValueIdx.ix1 0)) (r : Fin 6144)
include hs

theorem st_eq (k : Fin 3584) : (st X A W R s) (ValueIdx.ix2 r k) = streamRow X A W R S r k.val := by
  subst hs
  have e1 : broadcastTo (α := EReal) S6144x3584 A broadcasts_S6144x1_S6144x3584 (ValueIdx.ix2 r k) = A (ValueIdx.ix2 r 0) :=
    spread_apply A _ r k
  show _ = streamAt X A W R (S (ValueIdx.ix1 0)) r.val k.val
  rw [streamAt, dif_pos ⟨r.isLt, k.isLt⟩]
  exact congrArg₂ (fun p q : EReal => R (ValueIdx.ix2 r k) + p * q * S (ValueIdx.ix1 0))
    (ref_product (by decide) X W 896 1792 2688 rfl rfl rfl rfl slices_S6144x3584_o0_0_S6144x896 slices_S6144x3584_o0_896_S6144x896
      slices_S6144x3584_o0_1792_S6144x896 slices_S6144x3584_o0_2688_S6144x896 natLt_8_32 natLt_8_32 (ValueIdx.ix2 r k)) e1

theorem code_eq (k : Fin 3584) :
    k0_pay1 (F := Ideal) 127#32 (rd X A W R G s) (ValueIdx.ix2 r k) = codeAt (streamRow X A W R S r) (gainOf G) k.val := by
  rw [code_def]
  exact coded_apply _ _ _ _ _ _ r _ _ (st_eq X A W R S s hs r) (gain_eq G) _ _ low_clip high_clip k

theorem scales_eq (l : Fin 128) : k0_pay2 (F := Ideal) (sc X A W R G s) (ValueIdx.ix2 r l) = scale (streamRow X A W R S r) (gainOf G) := by
  refine ((spread_apply _ broadcasts_S6144x1_S6144x128 r l).trans (recast_apply _ shapeCasts_S6144x1_S6144x1 _)).trans ?_
  rw [sc_def]
  exact steps_apply _ _ _ _ _ _ r _ _ (st_eq X A W R S s hs r) (gain_eq G)

end Payloads

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0] ∧ win0_6.index t = ![0, 0] ∧ win0_7.index t = ![0, 0]
    ∧ win0_8.index t = ![0, 0] :=
  (by decide +kernel : ∀ t : Fin grid0.N, _)

theorem e0 (c : Dev nD) : iblk m c 0 t0_0 = m ((c : Thread nD τ).loc main_arg0) := by blk_ext! [iblk, V, idx t0_0]
theorem e1 (c : Dev nD) : iblk m c 1 t0_0 = m ((c : Thread nD τ).loc main_arg1) := by blk_ext! [iblk, V, idx t0_0]
theorem e2 (c : Dev nD) : iblk m c 2 t0_0 = m ((c : Thread nD τ).loc main_arg2) := by blk_ext! [iblk, V, idx t0_0]
theorem e3 (c : Dev nD) : iblk m c 3 t0_0 = m ((c : Thread nD τ).loc main_arg3) := by blk_ext! [iblk, V, idx t0_0]
theorem e4 (c : Dev nD) : iblk m c 4 t0_0 = m ((c : Thread nD τ).loc main_arg4) := by blk_ext! [iblk, V, idx t0_0]
theorem e5 (c : Dev nD) : iblk m c 5 t0_0 = m ((c : Thread nD τ).loc main_arg5) := by blk_ext! [iblk, V, idx t0_0]

/-- The reference's new residual stream. -/
theorem final_stream (c : Dev nD) : (dats m 0 c).arrAt 6 cfg0.N =
    streamOut (m ((c : Thread nD τ).loc main_arg0)) (m ((c : Thread nD τ).loc main_arg1)) (m ((c : Thread nD τ).loc main_arg2))
      (m ((c : Thread nD τ).loc main_arg3)) (m ((c : Thread nD τ).loc main_arg5)) := by
  refine (dats m 0 c).arrAt_eq_of_after_last 6 t0_0 (by decide +kernel) _ fun j => ?_
  blk_simp; rw [after0_6]
  unfold outsAt0; frame_out
  simp only [read_unread_whole (Val := Elt Ideal)]
  rw [e0, e1, e2, e3, e5]
  refine Eq.trans (congrArg _ (ValueIdx.eq_ix2 j)) (st_eq _ _ _ _ _ _ (congrArg _ (Cert.Ternary.eq_zero1 _)) (j 0) (j 1))

/-- The reference's codes. -/
theorem final_codes (c : Dev nD) : (dats m 0 c).arrAt 7 cfg0.N =
    codesOut (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_after_last 7 t0_0 (by decide +kernel) _ fun j => ?_
  blk_simp; rw [after0_7]
  unfold outsAt0; frame_out
  simp only [read_unread_whole (Val := Elt Ideal)]
  rw [e0, e1, e2, e3, e4, e5]
  refine Eq.trans (congrArg _ (ValueIdx.eq_ix2 j)) (code_eq _ _ _ _ _ _ _ (congrArg _ (Cert.Ternary.eq_zero1 _)) (j 0) (j 1))

/-- The reference's scales. -/
theorem final_scales (c : Dev nD) : (dats m 0 c).arrAt 8 cfg0.N =
    scalesOut (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_after_last 8 t0_0 (by decide +kernel) _ fun j => ?_
  blk_simp; rw [after0_8]
  unfold outsAt0; frame_out
  simp only [read_unread_whole (Val := Elt Ideal)]
  rw [e0, e1, e2, e3, e4, e5]
  refine Eq.trans (congrArg _ (ValueIdx.eq_ix2 j)) (scales_eq _ _ _ _ _ _ _ (congrArg _ (Cert.Ternary.eq_zero1 _)) (j 0) (j 1))

end Cert.OprojRefIdeal.Ref

end
-- ==== Proof.OprojClaim.lean ====
/-
  THE OUTPUT PROJECTION'S VALUE CLAIM: kernel and reference both end at the new residual stream of their argument arrays and
  at its rows' codes and scales.
-/
module

public import proofs.«01_k».proof.Defs
public import proofs.«01_k».proof.Proof.OprojValue
public import proofs.«01_k».proof.Proof.OprojRef
public import Idealize.ShloMosaic.Lib.Claim

@[expose] public section

noncomputable section

namespace Cert.Proof

open Idealize.ShloMosaic Idealize.ShloMosaic.TcCoe Idealize.SL.Sem
open Cert.Oproj.Math (streamOut codesOut scalesOut)
open Cert.OprojIdeal (nD τ sig main_arg0 main_arg1 main_arg2 main_arg3 main_arg4 main_arg5 main_v1_0 main_v1_1 main_v1_2)

variable (m : (ℓ : Loc nD τ sig) → Buf (Elt Ideal) ℓ) (c : Dev nD)

/-- The new residual stream of the argument arrays. -/
def oprojStream : Buf (Elt Ideal) ((c.tc : Thread nD τ).loc main_v1_0) :=
  streamOut (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg5))

/-- The codes of the argument arrays. -/
def oprojCodes : Buf (Elt Ideal) ((c.tc : Thread nD τ).loc main_v1_1) :=
  codesOut (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- The scales of the argument arrays. -/
def oprojScales : Buf (Elt Ideal) ((c.tc : Thread nD τ).loc main_v1_2) :=
  scalesOut (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

theorem algebraic_Oproj :
    Cert.algebraic_OprojIdeal_OprojRefIdeal (hOprojIdeal := Cert.OprojIdeal.Gen.facts) (hOprojRefIdeal := Cert.OprojRefIdeal.Gen.facts) := by
  intro m g m' g' _ hagree
  refine ⟨oprojStream m, oprojCodes m, oprojScales m,
    (θ_run _ _ _).mono (fun r h c => ?_) (Cert.OprojIdeal.Gen.run_quiescent m g (Cert.OprojIdeal.Tile.at_invariant m)),
    (θ_run _ _ _).mono (fun r h c => ?_) (Cert.OprojRefIdeal.Value.run_blocks m' g')⟩
  · obtain ⟨after, hL, hA⟩ := Pipeline.RDat.FramePost.exists_exact h.1 c
    exact ⟨(hA 6).trans (Cert.OprojIdeal.Tile.final_stream m c after hL), (hA 7).trans (Cert.OprojIdeal.Tile.final_codes m c after hL),
      (hA 8).trans (Cert.OprojIdeal.Tile.final_scales m c after hL), Cert.OprojIdeal.Gen.unchanged_of m h.1 c⟩
  · obtain ⟨h0, h1, h2, h3, h4, h5⟩ := hagree c
    obtain ⟨e6, e7, e8, hargs⟩ := h c
    refine ⟨e6.trans ((Cert.OprojRefIdeal.Ref.final_stream m' c).trans ?_), e7.trans ((Cert.OprojRefIdeal.Ref.final_codes m' c).trans ?_),
      e8.trans ((Cert.OprojRefIdeal.Ref.final_scales m' c).trans ?_), hargs⟩
    · rw [h0, h1, h2, h3, h5]; rfl
    · rw [h0, h1, h2, h3, h4, h5]; rfl
    · rw [h0, h1, h2, h3, h4, h5]; rfl

end Cert.Proof

end
-- ==== Proof.lean ====
/-
  THE CERTIFICATE: every program runs, ends with its arguments unchanged and every semaphore at zero, and the value
  claims of the modules under `Proof/`.
-/
module

public import proofs.«01_k».proof.Defs
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.DownClaim
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownRefIdeal.Skeleton
public import proofs.«01_k».proof.Proof.Gen.DownRefIdeal.Launch
public import proofs.«01_k».proof.Proof.Gen.DownRefIdeal.Points
public import proofs.«01_k».proof.Proof.Gen.DownRefIdeal.Frame
public import proofs.«01_k».proof.Proof.Gen.Up
public import proofs.«01_k».proof.Proof.Gen.UpIdeal
public import proofs.«01_k».proof.Proof.Gen.UpIdeal.Frame
public import proofs.«01_k».proof.Proof.Gen.UpIdeal.Skeleton
public import proofs.«01_k».proof.Proof.UpFrame
public import proofs.«01_k».proof.Proof.UpClaim
public import proofs.«01_k».proof.Proof.Gen.UpRefIdeal
public import proofs.«01_k».proof.Proof.Gen.UpRefIdeal.Value
public import proofs.«01_k».proof.Proof.Gen.UpRefIdeal.Frame
public import proofs.«01_k».proof.Proof.Gen.Oproj
public import proofs.«01_k».proof.Proof.Gen.OprojIdeal
public import proofs.«01_k».proof.Proof.Gen.OprojIdeal.Frame
public import proofs.«01_k».proof.Proof.Gen.OprojIdeal.Skeleton
public import proofs.«01_k».proof.Proof.OprojFrame
public import proofs.«01_k».proof.Proof.OprojClaim
public import proofs.«01_k».proof.Proof.Gen.OprojRefIdeal
public import proofs.«01_k».proof.Proof.Gen.OprojRefIdeal.Value
public import proofs.«01_k».proof.Proof.Gen.OprojRefIdeal.Frame
public import Idealize.ShloMosaic.Adequacy
public import Idealize.ShloMosaic.Init

@[expose] public section

noncomputable section

namespace Cert.Proof

open Idealize.ShloMosaic Idealize.SL.Sem Cert.Down

theorem claim : Cert.Claim := ⟨Cert.Down.Gen.facts, Cert.DownIdeal.Gen.facts, Cert.DownRefIdeal.Gen.facts,
  Cert.Up.Gen.facts, Cert.UpIdeal.Gen.facts, Cert.UpRefIdeal.Gen.facts,
  Cert.Oproj.Gen.facts, Cert.OprojIdeal.Gen.facts, Cert.OprojRefIdeal.Gen.facts,
  fun m g _ => Cert.Down.Gen.frame m g, fun m g _ => Cert.DownIdeal.Gen.frame m g, fun m g _ => Cert.DownRefIdeal.Gen.frame m g,
  quiescent_Up, quiescent_UpIdeal, fun m g _ => Cert.UpRefIdeal.Gen.frame m g,
  quiescent_Oproj, quiescent_OprojIdeal, fun m g _ => Cert.OprojRefIdeal.Gen.frame m g,
  trivial, algebraic_Down, trivial, algebraic_Up, trivial, algebraic_Oproj⟩

end Cert.Proof

end
